-- ==== Defs.lean ====
def Pre_Att1 (m : (ℓ : Loc Cert.Att1.nD Cert.Att1.τ Cert.Att1.sig) → Buf (Elt Bits) ℓ) : Prop :=
  True

def Pre_Att1Ideal (m : (ℓ : Loc Cert.Att1Ideal.nD Cert.Att1Ideal.τ Cert.Att1Ideal.sig) → Buf (Elt Ideal) ℓ) : Prop :=
  True

def Pre_Att1RefIdeal (m : (ℓ : Loc Cert.Att1RefIdeal.nD Cert.Att1RefIdeal.τ Cert.Att1RefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_lse_finite [hPre_lse_finite : Cert.Pre_lse_finite.Facts] (m : (ℓ : Loc Cert.MergeIdeal.nD Cert.MergeIdeal.τ Cert.MergeIdeal.sig) → Buf (Elt Ideal) ℓ) : Prop :=
  ∀ c : Dev Cert.MergeIdeal.nD,
    (Cert.Pre_lse_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_lse_finite [hPre_lse_finite : Cert.Pre_lse_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_lse_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15)) (m ((c.tc : Thread Cert.MergeRefIdeal.nD Cert.MergeRefIdeal.τ).loc Cert.MergeRefIdeal.main_arg16))) = (fun _ => 1#1)

def quiescent_Att1 [hAtt1 : Cert.Att1.Facts] : Prop :=
  ∀ (m : (ℓ : Loc Cert.Att1.nD Cert.Att1.τ Cert.Att1.sig) → Buf (Elt Bits) ℓ) (g : Dev Cert.Att1.nD → PrngReg), Pre_Att1 m →
    θ_run (Cert.Att1.defs (F := Bits)) (onTc (τ := Cert.Att1.τ) (Cert.Att1.main (F := Bits))) ⟨m, fun _ => 0, g⟩ (fun r => (∀ c : Dev Cert.Att1.nD,
      r.2.mem ((c.tc : Thread Cert.Att1.nD Cert.Att1.τ).loc Cert.Att1.main_arg0) = m ((c.tc : Thread Cert.Att1.nD Cert.Att1.τ).loc Cert.Att1.main_arg0)
      ∧ r.2.mem ((c.tc : Thread Cert.Att1.nD Cert.Att1.τ).loc Cert.Att1.main_arg1) = m ((c.tc : Thread Cert.Att1.nD Cert.Att1.τ).loc Cert.Att1.main_arg1))
      ∧ r.2.sem = fun _ => 0)

def quiescent_Att1Ideal [hAtt1Ideal : Cert.Att1Ideal.Facts] : Prop :=
  ∀ (m : (ℓ : Loc Cert.Att1Ideal.nD Cert.Att1Ideal.τ Cert.Att1Ideal.sig) → Buf (Elt Ideal) ℓ) (g : Dev Cert.Att1Ideal.nD → PrngReg), Pre_Att1Ideal m →
    θ_run (Cert.Att1Ideal.defs (F := Ideal)) (onTc (τ := Cert.Att1Ideal.τ) (Cert.Att1Ideal.main (F := Ideal))) ⟨m, fun _ => 0, g⟩ (fun r => (∀ c : Dev Cert.Att1Ideal.nD,
      r.2.mem ((c.tc : Thread Cert.Att1Ideal.nD Cert.Att1Ideal.τ).loc Cert.Att1Ideal.main_arg0) = m ((c.tc : Thread Cert.Att1Ideal.nD Cert.Att1Ideal.τ).loc Cert.Att1Ideal.main_arg0)
      ∧ r.2.mem ((c.tc : Thread Cert.Att1Ideal.nD Cert.Att1Ideal.τ).loc Cert.Att1Ideal.main_arg1) = m ((c.tc : Thread Cert.Att1Ideal.nD Cert.Att1Ideal.τ).loc Cert.Att1Ideal.main_arg1))
      ∧ r.2.sem = fun _ => 0)

def quiescent_Att1RefIdeal [hAtt1RefIdeal : Cert.Att1RefIdeal.Facts] : Prop :=
  ∀ (m : (ℓ : Loc Cert.Att1RefIdeal.nD Cert.Att1RefIdeal.τ Cert.Att1RefIdeal.sig) → Buf (Elt Ideal) ℓ) (g : Dev Cert.Att1RefIdeal.nD → PrngReg), Pre_Att1RefIdeal m →
    θ_run (Cert.Att1RefIdeal.defs (F := Ideal)) (onTc (τ := Cert.Att1RefIdeal.τ) (Cert.Att1RefIdeal.main (F := Ideal))) ⟨m, fun _ => 0, g⟩ (fun r => (∀ c : Dev Cert.Att1RefIdeal.nD,
      r.2.mem ((c.tc : Thread Cert.Att1RefIdeal.nD Cert.Att1RefIdeal.τ).loc Cert.Att1RefIdeal.main_arg0) = m ((c.tc : Thread Cert.Att1RefIdeal.nD Cert.Att1RefIdeal.τ).loc Cert.Att1RefIdeal.main_arg0)
      ∧ r.2.mem ((c.tc : Thread Cert.Att1RefIdeal.nD Cert.Att1RefIdeal.τ).loc Cert.Att1RefIdeal.main_arg1) = m ((c.tc : Thread Cert.Att1RefIdeal.nD Cert.Att1RefIdeal.τ).loc Cert.Att1RefIdeal.main_arg1))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ r.2.sem = fun _ => 0)

def quiescent_MergeIdeal_pre_lse_finite [hMergeIdeal : Cert.MergeIdeal.Facts] [hPre_lse_finite : Cert.Pre_lse_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_lse_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16))
      ∧ r.2.sem = fun _ => 0)

def quiescent_MergeRefIdeal_pre_lse_finite [hMergeRefIdeal : Cert.MergeRefIdeal.Facts] [hPre_lse_finite : Cert.Pre_lse_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_lse_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16))
      ∧ r.2.sem = fun _ => 0)

def preserves_Att1_Att1Ideal : Prop :=
  IdealRules.named_const.Statement Cert.Att1Ideal.κ "mask" .f32 0xF149F2CA#32 ⊥

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v19_0)) (v1 : (c : Dev Cert.InprojIdeal.nD) → Buf (Elt Ideal) ((c.tc : Thread Cert.InprojIdeal.nD Cert.InprojIdeal.τ).loc Cert.InprojIdeal.main_v19_1)) (v2 : (c : Dev Cert.InprojIdeal.nD) → Buf (Elt Ideal) ((c.tc : Thread Cert.InprojIdeal.nD Cert.InprojIdeal.τ).loc Cert.InprojIdeal.main_v19_2)) (v3 : (c : Dev Cert.InprojIdeal.nD) → Buf (Elt Ideal) ((c.tc : Thread Cert.InprojIdeal.nD Cert.InprojIdeal.τ).loc Cert.InprojIdeal.main_v19_3)) (v4 : (c : Dev Cert.InprojIdeal.nD) → Buf (Elt Ideal) ((c.tc : Thread Cert.InprojIdeal.nD Cert.InprojIdeal.τ).loc Cert.InprojIdeal.main_v19_4)) (v5 : (c : Dev Cert.InprojIdeal.nD) → Buf (Elt Ideal) ((c.tc : Thread Cert.InprojIdeal.nD Cert.InprojIdeal.τ).loc Cert.InprojIdeal.main_v19_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v19_0) = v0 c
          ∧ r.2.mem ((c.tc : Thread Cert.InprojIdeal.nD Cert.InprojIdeal.τ).loc Cert.InprojIdeal.main_v19_1) = v1 c
          ∧ r.2.mem ((c.tc : Thread Cert.InprojIdeal.nD Cert.InprojIdeal.τ).loc Cert.InprojIdeal.main_v19_2) = v2 c
          ∧ r.2.mem ((c.tc : Thread Cert.InprojIdeal.nD Cert.InprojIdeal.τ).loc Cert.InprojIdeal.main_v19_3) = v3 c
          ∧ r.2.mem ((c.tc : Thread Cert.InprojIdeal.nD Cert.InprojIdeal.τ).loc Cert.InprojIdeal.main_v19_4) = v4 c
          ∧ r.2.mem ((c.tc : Thread Cert.InprojIdeal.nD Cert.InprojIdeal.τ).loc Cert.InprojIdeal.main_v19_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v29) = v0 c
          ∧ r.2.mem ((c.tc : Thread Cert.InprojRefIdeal.nD Cert.InprojRefIdeal.τ).loc Cert.InprojRefIdeal.main_v32) = v1 c
          ∧ r.2.mem ((c.tc : Thread Cert.InprojRefIdeal.nD Cert.InprojRefIdeal.τ).loc Cert.InprojRefIdeal.main_v39) = v2 c
          ∧ r.2.mem ((c.tc : Thread Cert.InprojRefIdeal.nD Cert.InprojRefIdeal.τ).loc Cert.InprojRefIdeal.main_v46) = v3 c
          ∧ r.2.mem ((c.tc : Thread Cert.InprojRefIdeal.nD Cert.InprojRefIdeal.τ).loc Cert.InprojRefIdeal.main_v53) = v4 c
          ∧ r.2.mem ((c.tc : Thread Cert.InprojRefIdeal.nD Cert.InprojRefIdeal.τ).loc Cert.InprojRefIdeal.main_v62) = v5 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Merge_MergeIdeal : Prop :=
  True

def algebraic_MergeIdeal_MergeRefIdeal_pre_lse_finite [hMergeIdeal : Cert.MergeIdeal.Facts] [hMergeRefIdeal : Cert.MergeRefIdeal.Facts] [hPre_lse_finite : Cert.Pre_lse_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_lse_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)) (v2 : (c : Dev Cert.MergeIdeal.nD) → Buf (Elt Ideal) ((c.tc : Thread Cert.MergeIdeal.nD Cert.MergeIdeal.τ).loc Cert.MergeIdeal.main_v6_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_v6_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v93) = v0 c
          ∧ r.2.mem ((c.tc : Thread Cert.MergeRefIdeal.nD Cert.MergeRefIdeal.τ).loc Cert.MergeRefIdeal.main_v94) = v1 c
          ∧ r.2.mem ((c.tc : Thread Cert.MergeRefIdeal.nD Cert.MergeRefIdeal.τ).loc Cert.MergeRefIdeal.main_v95) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16))

def Claim : Prop :=
  ∃ (hAtt1 : Cert.Att1.Facts) (hAtt1Ideal : Cert.Att1Ideal.Facts) (hAtt1RefIdeal : Cert.Att1RefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hPre_lse_finite : Cert.Pre_lse_finite.Facts),
    quiescent_Att1 (hAtt1 := hAtt1)
    ∧ quiescent_Att1Ideal (hAtt1Ideal := hAtt1Ideal)
    ∧ quiescent_Att1RefIdeal (hAtt1RefIdeal := hAtt1RefIdeal)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeIdeal_pre_lse_finite (hMergeIdeal := hMergeIdeal) (hPre_lse_finite := hPre_lse_finite)
    ∧ quiescent_MergeRefIdeal (hMergeRefIdeal := hMergeRefIdeal)
    ∧ quiescent_MergeRefIdeal_pre_lse_finite (hMergeRefIdeal := hMergeRefIdeal) (hPre_lse_finite := hPre_lse_finite)
    ∧ preserves_Att1_Att1Ideal
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal_pre_lse_finite (hMergeIdeal := hMergeIdeal) (hMergeRefIdeal := hMergeRefIdeal) (hPre_lse_finite := hPre_lse_finite)
-- ==== Pre_lse_finite.lean ====
abbrev S65536x1024 : Shape := ⟨2, ![65536, 1024]⟩
abbrev S65536x512 : Shape := ⟨2, ![65536, 512]⟩
abbrev S65536x2048 : Shape := ⟨2, ![65536, 2048]⟩
abbrev S8x1x8192x512 : Shape := ⟨4, ![8, 1, 8192, 512]⟩
abbrev S8x1x8192x128 : Shape := ⟨4, ![8, 1, 8192, 128]⟩
abbrev S8x4x2048x512 : Shape := ⟨4, ![8, 4, 2048, 512]⟩
abbrev S8x4x2048x128 : Shape := ⟨4, ![8, 4, 2048, 128]⟩
abbrev S8x16x512x512 : Shape := ⟨4, ![8, 16, 512, 512]⟩
abbrev S8x16x512x128 : Shape := ⟨4, ![8, 16, 512, 128]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x1x8192x4 : Shape := ⟨4, ![8, 1, 8192, 4]⟩
abbrev S_ : Shape := ⟨0, ![]⟩
abbrev S8x4x2048x4 : Shape := ⟨4, ![8, 4, 2048, 4]⟩
abbrev S8x16x512x4 : Shape := ⟨4, ![8, 16, 512, 4]⟩
abbrev S262144 : Shape := ⟨1, ![262144]⟩

class Facts : Prop where
  slices_S8x1x8192x128_S8x1x8192x4_0_0_0_0 : S8x1x8192x128.Slices ![0, 0, 0, 0] S8x1x8192x4
  bcast_S_S8x1x8192x4 : S_.BroadcastsInDim S8x1x8192x4 (![] : Fin 0 → Fin S8x1x8192x4.rank)
  slices_S8x4x2048x128_S8x4x2048x4_0_0_0_0 : S8x4x2048x128.Slices ![0, 0, 0, 0] S8x4x2048x4
  bcast_S_S8x4x2048x4 : S_.BroadcastsInDim S8x4x2048x4 (![] : Fin 0 → Fin S8x4x2048x4.rank)
  slices_S8x16x512x128_S8x16x512x4_0_0_0_0 : S8x16x512x128.Slices ![0, 0, 0, 0] S8x16x512x4
  bcast_S_S8x16x512x4 : S_.BroadcastsInDim S8x16x512x4 (![] : Fin 0 → Fin S8x16x512x4.rank)
  shapeCasts_S8x1x8192x4_S262144 : S8x1x8192x4.ShapeCasts S262144
  shapeCasts_S8x4x2048x4_S262144 : S8x4x2048x4.ShapeCasts S262144
  shapeCasts_S8x16x512x4_S262144 : S8x16x512x4.ShapeCasts S262144

variable [Facts]

def fn_part1 {F : FTy → Type} [FloatOps F] (main_v6 : IVec S8x1x8192x4 1) (main_v13 : IVec S8x4x2048x4 1) (main_v16 : IVec S8x16x512x4 1) (main_v17 : FVec F S8x16x512x4 .f32) (main_cst_4 : FVec F S_ .f32) : IVec S262144 1 :=
  let main_v18 : FVec F S8x16x512x4 .f32 := broadcastInDim S8x16x512x4 ![] bcast_S_S8x16x512x4 main_cst_4
  let main_v19 : IVec S8x16x512x4 1 := cmpf .olt main_v17 main_v18
  let main_v20 : IVec S8x16x512x4 1 := andi main_v16 main_v19
  let main_v21 : IVec S262144 1 := shapeCast S262144 main_v6 shapeCasts_S8x1x8192x4_S262144
  let main_v22 : IVec S262144 1 := shapeCast S262144 main_v13 shapeCasts_S8x4x2048x4_S262144
  let main_v23 : IVec S262144 1 := andi main_v21 main_v22
  let main_v24 : IVec S262144 1 := shapeCast S262144 main_v20 shapeCasts_S8x16x512x4_S262144
  let main_v25 : IVec S262144 1 := andi main_v23 main_v24
  main_v25

def fn {F : FTy → Type} [FloatOps F] (main_arg0 : FVec F S65536x1024 .f32) (main_arg1 : FVec F S65536x512 .f32) (main_arg2 : FVec F S65536x512 .f32) (main_arg3 : FVec F S65536x2048 .bf16) (main_arg4 : FVec F S65536x2048 .bf16) (main_arg5 : FVec F S8x1x8192x512 .bf16) (main_arg6 : FVec F S8x1x8192x128 .f32) (main_arg7 : FVec F S8x4x2048x512 .bf16) (main_arg8 : FVec F S8x4x2048x128 .f32) (main_arg9 : FVec F S8x16x512x512 .bf16) (main_arg10 : FVec F S8x16x512x128 .f32) (main_arg11 : FVec F S128 .f32) (main_arg12 : FVec F S512x1024 .f32) (main_arg13 : FVec F S512x1024 .f32) (main_arg14 : FVec F S1024x1024 .f32) (main_arg15 : FVec F S1024 .f32) (main_arg16 : FVec F S1024x2048 .f32) : IVec S262144 1 :=
  let main_v0 : FVec F S8x1x8192x4 .f32 := (extractStridedSlice S8x1x8192x4 ![0, 0, 0, 0] · slices_S8x1x8192x128_S8x1x8192x4_0_0_0_0) main_arg6
  let main_cst : FVec F S_ .f32 := constant S_ .f32 0xFF800000#32
  let main_v1 : FVec F S8x1x8192x4 .f32 := broadcastInDim S8x1x8192x4 ![] bcast_S_S8x1x8192x4 main_cst
  let main_v2 : IVec S8x1x8192x4 1 := cmpf .ogt main_v0 main_v1
  let main_v3 : FVec F S8x1x8192x4 .f32 := (extractStridedSlice S8x1x8192x4 ![0, 0, 0, 0] · slices_S8x1x8192x128_S8x1x8192x4_0_0_0_0) main_arg6
  let main_cst_0 : FVec F S_ .f32 := constant S_ .f32 0x7F800000#32
  let main_v4 : FVec F S8x1x8192x4 .f32 := broadcastInDim S8x1x8192x4 ![] bcast_S_S8x1x8192x4 main_cst_0
  let main_v5 : IVec S8x1x8192x4 1 := cmpf .olt main_v3 main_v4
  let main_v6 : IVec S8x1x8192x4 1 := andi main_v2 main_v5
  let main_v7 : FVec F S8x4x2048x4 .f32 := (extractStridedSlice S8x4x2048x4 ![0, 0, 0, 0] · slices_S8x4x2048x128_S8x4x2048x4_0_0_0_0) main_arg8
  let main_cst_1 : FVec F S_ .f32 := constant S_ .f32 0xFF800000#32
  let main_v8 : FVec F S8x4x2048x4 .f32 := broadcastInDim S8x4x2048x4 ![] bcast_S_S8x4x2048x4 main_cst_1
  let main_v9 : IVec S8x4x2048x4 1 := cmpf .ogt main_v7 main_v8
  let main_v10 : FVec F S8x4x2048x4 .f32 := (extractStridedSlice S8x4x2048x4 ![0, 0, 0, 0] · slices_S8x4x2048x128_S8x4x2048x4_0_0_0_0) main_arg8
  let main_cst_2 : FVec F S_ .f32 := constant S_ .f32 0x7F800000#32
  let main_v11 : FVec F S8x4x2048x4 .f32 := broadcastInDim S8x4x2048x4 ![] bcast_S_S8x4x2048x4 main_cst_2
  let main_v12 : IVec S8x4x2048x4 1 := cmpf .olt main_v10 main_v11
  let main_v13 : IVec S8x4x2048x4 1 := andi main_v9 main_v12
  let main_v14 : FVec F S8x16x512x4 .f32 := (extractStridedSlice S8x16x512x4 ![0, 0, 0, 0] · slices_S8x16x512x128_S8x16x512x4_0_0_0_0) main_arg10
  let main_cst_3 : FVec F S_ .f32 := constant S_ .f32 0xFF800000#32
  let main_v15 : FVec F S8x16x512x4 .f32 := broadcastInDim S8x16x512x4 ![] bcast_S_S8x16x512x4 main_cst_3
  let main_v16 : IVec S8x16x512x4 1 := cmpf .ogt main_v14 main_v15
  let main_v17 : FVec F S8x16x512x4 .f32 := (extractStridedSlice S8x16x512x4 ![0, 0, 0, 0] · slices_S8x16x512x128_S8x16x512x4_0_0_0_0) main_arg10
  let main_cst_4 : FVec F S_ .f32 := constant S_ .f32 0x7F800000#32
  fn_part1 (F := F) main_v6 main_v13 main_v16 main_v17 main_cst_4
-- ==== Att1.lean ====
abbrev S8x1x8192x1536 : Shape := ⟨4, ![8, 1, 8192, 1536]⟩
abbrev S32x12 : Shape := ⟨2, ![32, 12]⟩
abbrev S129 : Shape := ⟨1, ![129]⟩
abbrev S32x4 : Shape := ⟨2, ![32, 4]⟩
abbrev S4x32 : Shape := ⟨2, ![4, 32]⟩
abbrev S_ : Shape := ⟨0, ![]⟩
abbrev S129x1 : Shape := ⟨2, ![129, 1]⟩
abbrev S4x129 : Shape := ⟨2, ![4, 129]⟩
abbrev S4x1 : Shape := ⟨2, ![4, 1]⟩
abbrev S4x130 : Shape := ⟨2, ![4, 130]⟩
abbrev S128x256 : Shape := ⟨2, ![128, 256]⟩
abbrev S128x256x1 : Shape := ⟨3, ![128, 256, 1]⟩
abbrev S4x128x256 : Shape := ⟨3, ![4, 128, 256]⟩
abbrev S8x1x8192x512 : Shape := ⟨4, ![8, 1, 8192, 512]⟩
abbrev S8x1x8192x128 : Shape := ⟨4, ![8, 1, 8192, 128]⟩
abbrev S1x1x512x512 : Shape := ⟨4, ![1, 1, 512, 512]⟩
abbrev S1x1x64x512 : Shape := ⟨4, ![1, 1, 64, 512]⟩
abbrev S1x1x512x128 : Shape := ⟨4, ![1, 1, 512, 128]⟩
abbrev S512x128 : Shape := ⟨2, ![512, 128]⟩
abbrev S1x1x64x128 : Shape := ⟨4, ![1, 1, 64, 128]⟩
abbrev S64x128 : Shape := ⟨2, ![64, 128]⟩
abbrev S1x64x128 : Shape := ⟨3, ![1, 64, 128]⟩
abbrev S4x64x128 : Shape := ⟨3, ![4, 64, 128]⟩
abbrev S1x1x192x128 : Shape := ⟨4, ![1, 1, 192, 128]⟩
abbrev S192x128 : Shape := ⟨2, ![192, 128]⟩
abbrev S1x192x128 : Shape := ⟨3, ![1, 192, 128]⟩
abbrev S4x192x128 : Shape := ⟨3, ![4, 192, 128]⟩
abbrev S4x256x128 : Shape := ⟨3, ![4, 256, 128]⟩
abbrev S1x1x128x128 : Shape := ⟨4, ![1, 1, 128, 128]⟩
abbrev S128x128 : Shape := ⟨2, ![128, 128]⟩
abbrev S1x128x128 : Shape := ⟨3, ![1, 128, 128]⟩
abbrev S4x128x128 : Shape := ⟨3, ![4, 128, 128]⟩
abbrev S1x128x256 : Shape := ⟨3, ![1, 128, 256]⟩
abbrev S4x128 : Shape := ⟨2, ![4, 128]⟩
abbrev S4x128x1 : Shape := ⟨3, ![4, 128, 1]⟩
abbrev S1x128x1 : Shape := ⟨3, ![1, 128, 1]⟩
abbrev S128x1 : Shape := ⟨2, ![128, 1]⟩
abbrev S1x1x128x1 : Shape := ⟨4, ![1, 1, 128, 1]⟩
abbrev S1x1x256x128 : Shape := ⟨4, ![1, 1, 256, 128]⟩
abbrev S256x128 : Shape := ⟨2, ![256, 128]⟩
abbrev S1x256x128 : Shape := ⟨3, ![1, 256, 128]⟩

abbrev nBuf : Space → Nat
  | .hbm => 43
  | .vmem => 19
  | .smem => 0
  | _ => 0

abbrev bufTy : (tb : Table) → Fin (tcTables nBuf tb) → BufTy
  | .hbm, ⟨0, _⟩ => ⟨S8x1x8192x1536, .bf16⟩
  | .hbm, ⟨1, _⟩ => ⟨S32x12, .f32⟩
  | .hbm, ⟨2, _⟩ => ⟨S129, .i32⟩
  | .hbm, ⟨3, _⟩ => ⟨S129, .i1⟩
  | .hbm, ⟨4, _⟩ => ⟨S32x4, .f32⟩
  | .hbm, ⟨5, _⟩ => ⟨S4x32, .f32⟩
  | .hbm, ⟨6, _⟩ => ⟨S_, .i32⟩
  | .hbm, ⟨7, _⟩ => ⟨S129, .i32⟩
  | .hbm, ⟨8, _⟩ => ⟨S129, .i32⟩
  | .hbm, ⟨9, _⟩ => ⟨S129, .i32⟩
  | .hbm, ⟨10, _⟩ => ⟨S129x1, .i32⟩
  | .hbm, ⟨11, _⟩ => ⟨S4x129, .f32⟩
  | .hbm, ⟨12, _⟩ => ⟨S_, .f32⟩
  | .hbm, ⟨13, _⟩ => ⟨S4x1, .f32⟩
  | .hbm, ⟨14, _⟩ => ⟨S4x130, .f32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i32⟩
  | .hbm, ⟨19, _⟩ => ⟨S128x256, .i32⟩
  | .hbm, ⟨20, _⟩ => ⟨S128x256, .i32⟩
  | .hbm, ⟨21, _⟩ => ⟨S128x256, .i32⟩
  | .hbm, ⟨22, _⟩ => ⟨S_, .i32⟩
  | .hbm, ⟨23, _⟩ => ⟨S128x256, .i32⟩
  | .hbm, ⟨24, _⟩ => ⟨S128x256, .i1⟩
  | .hbm, ⟨25, _⟩ => ⟨S_, .i32⟩
  | .hbm, ⟨26, _⟩ => ⟨S128x256, .i32⟩
  | .hbm, ⟨27, _⟩ => ⟨S128x256, .i32⟩
  | .hbm, ⟨28, _⟩ => ⟨S_, .i32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x256, .i32⟩
  | .hbm, ⟨37, _⟩ => ⟨S128x256, .i32⟩
  | .hbm, ⟨38, _⟩ => ⟨S128x256, .i32⟩
  | .hbm, ⟨39, _⟩ => ⟨S128x256x1, .i32⟩
  | .hbm, ⟨40, _⟩ => ⟨S4x128x256, .f32⟩
  | .hbm, ⟨41, _⟩ => ⟨S8x1x8192x512, .bf16⟩
  | .hbm, ⟨42, _⟩ => ⟨S8x1x8192x128, .f32⟩
  | .local _ .vmem, ⟨0, _⟩ => ⟨S1x1x512x512, .bf16⟩
  | .local _ .vmem, ⟨1, _⟩ => ⟨S1x1x512x512, .bf16⟩
  | .local _ .vmem, ⟨2, _⟩ => ⟨S1x1x64x512, .bf16⟩
  | .local _ .vmem, ⟨3, _⟩ => ⟨S1x1x64x512, .bf16⟩
  | .local _ .vmem, ⟨4, _⟩ => ⟨S1x1x512x512, .bf16⟩
  | .local _ .vmem, ⟨5, _⟩ => ⟨S1x1x512x512, .bf16⟩
  | .local _ .vmem, ⟨6, _⟩ => ⟨S1x1x64x512, .bf16⟩
  | .local _ .vmem, ⟨7, _⟩ => ⟨S1x1x64x512, .bf16⟩
  | .local _ .vmem, ⟨8, _⟩ => ⟨S1x1x64x512, .bf16⟩
  | .local _ .vmem, ⟨9, _⟩ => ⟨S1x1x64x512, .bf16⟩
  | .local _ .vmem, ⟨10, _⟩ => ⟨S1x1x512x512, .bf16⟩
  | .local _ .vmem, ⟨11, _⟩ => ⟨S1x1x512x512, .bf16⟩
  | .local _ .vmem, ⟨12, _⟩ => ⟨S1x1x64x512, .bf16⟩
  | .local _ .vmem, ⟨13, _⟩ => ⟨S1x1x64x512, .bf16⟩
  | .local _ .vmem, ⟨14, _⟩ => ⟨S4x128x256, .f32⟩
  | .local _ .vmem, ⟨15, _⟩ => ⟨S1x1x512x512, .bf16⟩
  | .local _ .vmem, ⟨16, _⟩ => ⟨S1x1x512x512, .bf16⟩
  | .local _ .vmem, ⟨17, _⟩ => ⟨S1x1x512x128, .f32⟩
  | .local _ .vmem, ⟨18, _⟩ => ⟨S1x1x512x128, .f32⟩
  | _, _ => ⟨S8x1x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![8, 1, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c8_i32 : BitVec 32 := 8#32
  let v1 : BitVec 32 := Scalar.muli v0 c8_i32
  let c127_i32 : BitVec 32 := 127#32
  let v2 : BitVec 32 := Scalar.minsi v1 c127_i32
  let c1_i32_0 : BitVec 32 := 1#32
  let c0_i32 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, arg1.toNat, v2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c8_i32 : BitVec 32 := 8#32
  let v1 : BitVec 32 := Scalar.muli v0 c8_i32
  let c127_i32 : BitVec 32 := 127#32
  let v2 : BitVec 32 := Scalar.minsi v1 c127_i32
  let c2_i32 : BitVec 32 := 2#32
  let c0_i32 : BitVec 32 := 0#32
  ![arg0.toNat, arg1.toNat, v2.toNat, c2_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S4x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Att1Ideal.lean ====
variable {F : FTy → Type} [FloatOps F] [Named F]
def κ : String → Option EReal := fun
  | "mask" => some ⊥
  | _ => none
-- ==== Att1RefIdeal.lean ====
abbrev S8x1x8192x1536 : Shape := ⟨4, ![8, 1, 8192, 1536]⟩
abbrev S32x12 : Shape := ⟨2, ![32, 12]⟩
abbrev S255 : Shape := ⟨1, ![255]⟩
abbrev S8x1x8192x3x4x128 : Shape := ⟨6, ![8, 1, 8192, 3, 4, 128]⟩
abbrev S3x8x4x8192x1x128 : Shape := ⟨6, ![3, 8, 4, 8192, 1, 128]⟩
abbrev S3x8x4x8192x128 : Shape := ⟨5, ![3, 8, 4, 8192, 128]⟩
abbrev S1x8x4x8192x128 : Shape := ⟨5, ![1, 8, 4, 8192, 128]⟩
abbrev S8x4x8192x128 : Shape := ⟨4, ![8, 4, 8192, 128]⟩
abbrev S32x4 : Shape := ⟨2, ![32, 4]⟩
abbrev S4x32 : Shape := ⟨2, ![4, 32]⟩
abbrev S8x4x8192x1x128 : Shape := ⟨5, ![8, 4, 8192, 1, 128]⟩
abbrev S8x4x1x8192x128 : Shape := ⟨5, ![8, 4, 1, 8192, 128]⟩
abbrev S8x4x1x128x64x128 : Shape := ⟨6, ![8, 4, 1, 128, 64, 128]⟩
abbrev S_ : Shape := ⟨0, ![]⟩
abbrev S8x4x1x130x64x128 : Shape := ⟨6, ![8, 4, 1, 130, 64, 128]⟩
abbrev S8x4x1x128x192x128 : Shape := ⟨6, ![8, 4, 1, 128, 192, 128]⟩
abbrev S64x192 : Shape := ⟨2, ![64, 192]⟩
abbrev S128x1x192 : Shape := ⟨3, ![128, 1, 192]⟩
abbrev S1x64x192 : Shape := ⟨3, ![1, 64, 192]⟩
abbrev S128x64x192 : Shape := ⟨3, ![128, 64, 192]⟩
abbrev S255x1 : Shape := ⟨2, ![255, 1]⟩
abbrev S4x255 : Shape := ⟨2, ![4, 255]⟩
abbrev S64x192x1 : Shape := ⟨3, ![64, 192, 1]⟩
abbrev S4x64x192 : Shape := ⟨3, ![4, 64, 192]⟩
abbrev S8x4x1x128x64x192 : Shape := ⟨6, ![8, 4, 1, 128, 64, 192]⟩
abbrev S1x4x1x1x64x192 : Shape := ⟨6, ![1, 4, 1, 1, 64, 192]⟩
abbrev S8x4x1x128x64 : Shape := ⟨5, ![8, 4, 1, 128, 64]⟩
abbrev S8x4x1x128x64x1 : Shape := ⟨6, ![8, 4, 1, 128, 64, 1]⟩
abbrev S8x4x1x8192 : Shape := ⟨4, ![8, 4, 1, 8192]⟩
abbrev S8x4x8192x1 : Shape := ⟨4, ![8, 4, 8192, 1]⟩
abbrev S8x4x8192 : Shape := ⟨3, ![8, 4, 8192]⟩
abbrev S8x1x8192x4x128 : Shape := ⟨5, ![8, 1, 8192, 4, 128]⟩
abbrev S8x1x8192x512 : Shape := ⟨4, ![8, 1, 8192, 512]⟩
abbrev S8x1x8192x4 : Shape := ⟨4, ![8, 1, 8192, 4]⟩
abbrev S8x1x8192x128 : Shape := ⟨4, ![8, 1, 8192, 128]⟩

abbrev nBuf : Space → Nat
  | .hbm => 133
  | .vmem => 0
  | .smem => 0
  | _ => 0

abbrev hbmTy0_0 (i : Nat) : BufTy := match i % 128 with
  | 0 => ⟨S8x1x8192x1536, .bf16⟩
  | 1 => ⟨S32x12, .f32⟩
  | 2 => ⟨S255, .i32⟩
  | 3 => ⟨S255, .i1⟩
  | 4 => ⟨S8x1x8192x1536, .f32⟩
  | 5 => ⟨S8x1x8192x3x4x128, .f32⟩
  | 6 => ⟨S3x8x4x8192x1x128, .f32⟩
  | 7 => ⟨S3x8x4x8192x128, .f32⟩
  | 8 => ⟨S1x8x4x8192x128, .f32⟩
  | 9 => ⟨S8x4x8192x128, .f32⟩
  | 10 => ⟨S1x8x4x8192x128, .f32⟩
  | 11 => ⟨S8x4x8192x128, .f32⟩
  | 12 => ⟨S1x8x4x8192x128, .f32⟩
  | 13 => ⟨S8x4x8192x128, .f32⟩
  | 14 => ⟨S32x4, .f32⟩
  | 15 => ⟨S4x32, .f32⟩
  | 16 => ⟨S8x4x8192x1x128, .f32⟩
  | 17 => ⟨S8x4x1x8192x128, .f32⟩
  | 18 => ⟨S8x4x1x128x64x128, .f32⟩
  | 19 => ⟨S8x4x8192x1x128, .f32⟩
  | 20 => ⟨S8x4x1x8192x128, .f32⟩
  | 21 => ⟨S8x4x1x128x64x128, .f32⟩
  | 22 => ⟨S_, .i32⟩
  | 23 => ⟨S_, .f32⟩
  | 24 => ⟨S8x4x1x130x64x128, .f32⟩
  | 25 => ⟨S8x4x1x128x64x128, .f32⟩
  | 26 => ⟨S8x4x1x128x64x128, .f32⟩
  | 27 => ⟨S8x4x1x128x64x128, .f32⟩
  | 28 => ⟨S8x4x1x128x192x128, .f32⟩
  | 29 => ⟨S8x4x8192x1x128, .f32⟩
  | 30 => ⟨S8x4x1x8192x128, .f32⟩
  | 31 => ⟨S8x4x1x128x64x128, .f32⟩
  | 32 => ⟨S_, .i32⟩
  | 33 => ⟨S_, .f32⟩
  | 34 => ⟨S8x4x1x130x64x128, .f32⟩
  | 35 => ⟨S8x4x1x128x64x128, .f32⟩
  | 36 => ⟨S8x4x1x128x64x128, .f32⟩
  | 37 => ⟨S8x4x1x128x64x128, .f32⟩
  | 38 => ⟨S8x4x1x128x192x128, .f32⟩
  | 39 => ⟨S64x192, .i32⟩
  | 40 => ⟨S_, .i32⟩
  | 41 => ⟨S64x192, .i32⟩
  | 42 => ⟨S64x192, .i32⟩
  | 43 => ⟨S64x192, .i32⟩
  | 44 => ⟨S64x192, .i32⟩
  | 45 => ⟨S128x1x192, .i32⟩
  | 46 => ⟨S_, .i32⟩
  | 47 => ⟨S128x1x192, .i32⟩
  | 48 => ⟨S128x1x192, .i32⟩
  | 49 => ⟨S128x1x192, .i32⟩
  | 50 => ⟨S128x1x192, .i32⟩
  | 51 => ⟨S_, .i32⟩
  | 52 => ⟨S128x1x192, .i32⟩
  | 53 => ⟨S128x1x192, .i32⟩
  | 54 => ⟨S64x192, .i32⟩
  | 55 => ⟨S_, .i32⟩
  | 56 => ⟨S64x192, .i32⟩
  | 57 => ⟨S64x192, .i1⟩
  | 58 => ⟨S1x64x192, .i1⟩
  | 59 => ⟨S_, .i32⟩
  | 60 => ⟨S128x1x192, .i32⟩
  | 61 => ⟨S128x1x192, .i1⟩
  | 62 => ⟨S128x64x192, .i1⟩
  | 63 => ⟨S128x64x192, .i1⟩
  | 64 => ⟨S128x64x192, .i1⟩
  | 65 => ⟨S_, .i32⟩
  | 66 => ⟨S128x1x192, .i32⟩
  | 67 => ⟨S128x1x192, .i1⟩
  | 68 => ⟨S128x64x192, .i1⟩
  | 69 => ⟨S128x64x192, .i1⟩
  | 70 => ⟨S_, .i32⟩
  | 71 => ⟨S255, .i32⟩
  | 72 => ⟨S255, .i32⟩
  | 73 => ⟨S255, .i32⟩
  | 74 => ⟨S255x1, .i32⟩
  | 75 => ⟨S4x255, .f32⟩
  | 76 => ⟨S_, .i32⟩
  | 77 => ⟨S64x192, .i32⟩
  | 78 => ⟨S64x192, .i32⟩
  | 79 => ⟨S_, .i32⟩
  | 80 => ⟨S64x192, .i32⟩
  | 81 => ⟨S64x192, .i32⟩
  | 82 => ⟨S_, .i32⟩
  | 83 => ⟨S64x192, .i32⟩
  | 84 => ⟨S64x192, .i1⟩
  | 85 => ⟨S_, .i32⟩
  | 86 => ⟨S64x192, .i32⟩
  | 87 => ⟨S64x192, .i32⟩
  | 88 => ⟨S64x192, .i32⟩
  | 89 => ⟨S64x192x1, .i32⟩
  | 90 => ⟨S4x64x192, .f32⟩
  | 91 => ⟨S8x4x1x128x64x192, .f32⟩
  | 92 => ⟨S_, .f32⟩
  | 93 => ⟨S8x4x1x128x64x192, .f32⟩
  | 94 => ⟨S8x4x1x128x64x192, .f32⟩
  | 95 => ⟨S1x4x1x1x64x192, .f32⟩
  | 96 => ⟨S8x4x1x128x64x192, .f32⟩
  | 97 => ⟨S8x4x1x128x64x192, .f32⟩
  | 98 => ⟨S_, .f32⟩
  | 99 => ⟨S_, .f32⟩
  | 100 => ⟨S8x4x1x128x64x192, .i1⟩
  | 101 => ⟨S8x4x1x128x64x192, .f32⟩
  | 102 => ⟨S8x4x1x128x64x192, .f32⟩
  | 103 => ⟨S_, .f32⟩
  | 104 => ⟨S8x4x1x128x64, .f32⟩
  | 105 => ⟨S8x4x1x128x64x1, .f32⟩
  | 106 => ⟨S8x4x1x128x64x192, .f32⟩
  | 107 => ⟨S8x4x1x128x64x192, .f32⟩
  | 108 => ⟨S8x4x1x128x64x192, .f32⟩
  | 109 => ⟨S_, .f32⟩
  | 110 => ⟨S8x4x1x128x64, .f32⟩
  | 111 => ⟨S8x4x1x128x64x128, .f32⟩
  | 112 => ⟨S8x4x1x128x64x1, .f32⟩
  | 113 => ⟨S8x4x1x128x64x128, .f32⟩
  | 114 => ⟨S8x4x1x128x64x128, .f32⟩
  | 115 => ⟨S8x4x1x128x64, .f32⟩
  | 116 => ⟨S8x4x1x128x64, .f32⟩
  | 117 => ⟨S8x4x1x128x64, .f32⟩
  | 118 => ⟨S8x4x1x8192x128, .f32⟩
  | 119 => ⟨S8x4x8192x1x128, .f32⟩
  | 120 => ⟨S8x4x8192x128, .f32⟩
  | 121 => ⟨S8x4x1x8192, .f32⟩
  | 122 => ⟨S8x4x8192x1, .f32⟩
  | 123 => ⟨S8x4x8192, .f32⟩
  | 124 => ⟨S8x4x8192x1x128, .f32⟩
  | 125 => ⟨S8x1x8192x4x128, .f32⟩
  | 126 => ⟨S8x1x8192x512, .f32⟩
  | 127 => ⟨S8x4x8192x1, .f32⟩
  | _ => ⟨S8x1x8192x1536, .bf16⟩

abbrev hbmTy0_1 (i : Nat) : BufTy := match i % 128 with
  | 0 => ⟨S8x1x8192x4, .f32⟩
  | 1 => ⟨S8x1x8192x512, .bf16⟩
  | 2 => ⟨S_, .i32⟩
  | 3 => ⟨S_, .f32⟩
  | 4 => ⟨S8x1x8192x128, .f32⟩
  | _ => ⟨S8x1x8192x1536, .bf16⟩

abbrev hbmTy (i : Nat) : BufTy := match i / 128 with
  | 0 => hbmTy0_0 i
  | 1 => hbmTy0_1 i
  | _ => ⟨S8x1x8192x1536, .bf16⟩

abbrev bufTy : (tb : Table) → Fin (tcTables nBuf tb) → BufTy
  | .hbm, ⟨i, _⟩ => hbmTy i
  | _, _ => ⟨S8x1x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_1 : Ref sig .tc := ⟨.hbm, 22, rfl⟩
abbrev main_call0_v0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_call1_v0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c_9 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_10 : Ref sig .tc := ⟨.hbm, 76, rfl⟩
abbrev main_v61 : Ref sig .tc := ⟨.hbm, 77, rfl⟩
abbrev main_v62 : Ref sig .tc := ⟨.hbm, 78, rfl⟩
abbrev main_c_11 : Ref sig .tc := ⟨.hbm, 79, rfl⟩
abbrev main_v63 : Ref sig .tc := ⟨.hbm, 80, rfl⟩
abbrev main_v64 : Ref sig .tc := ⟨.hbm, 81, rfl⟩
abbrev main_c_12 : Ref sig .tc := ⟨.hbm, 82, rfl⟩
abbrev main_v65 : Ref sig .tc := ⟨.hbm, 83, rfl⟩
abbrev main_v66 : Ref sig .tc := ⟨.hbm, 84, rfl⟩
abbrev main_c_13 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_14 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v78 : Ref sig .tc := ⟨.hbm, 102, rfl⟩
abbrev main_cst_15 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_16 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_c_17 : Ref sig .tc := ⟨.hbm, 130, rfl⟩
abbrev main_call3_v0 : Ref sig .tc := ⟨.hbm, 131, rfl⟩
abbrev main_v104 : Ref sig .tc := ⟨.hbm, 132, rfl⟩

abbrev nD : Nat := 1
abbrev τ : Topo := Topo.v7x

variable {F : FTy → Type} [FloatOps F]
-- ==== Inproj.lean ====
abbrev S8x8192x1024 : Shape := ⟨3, ![8, 8192, 1024]⟩
abbrev S1x1024 : Shape := ⟨2, ![1, 1024]⟩
abbrev S1x1024x8720 : Shape := ⟨3, ![1, 1024, 8720]⟩
abbrev S65536x1024 : Shape := ⟨2, ![65536, 1024]⟩
abbrev S1024x8720 : Shape := ⟨2, ![1024, 8720]⟩
abbrev S1024x2048 : Shape := ⟨2, ![1024, 2048]⟩
abbrev S1024x16 : Shape := ⟨2, ![1024, 16]⟩
abbrev S_ : Shape := ⟨0, ![]⟩
abbrev S1024x128 : Shape := ⟨2, ![1024, 128]⟩
abbrev S1024x512 : Shape := ⟨2, ![1024, 512]⟩
abbrev S1024x8832 : Shape := ⟨2, ![1024, 8832]⟩
abbrev S1024 : Shape := ⟨1, ![1024]⟩
abbrev S65536x2048 : Shape := ⟨2, ![65536, 2048]⟩
abbrev S65536x128 : Shape := ⟨2, ![65536, 128]⟩
abbrev S8x1x8192x1536 : Shape := ⟨4, ![8, 1, 8192, 1536]⟩
abbrev S8x4x2048x1536 : Shape := ⟨4, ![8, 4, 2048, 1536]⟩
abbrev S8x16x512x1536 : Shape := ⟨4, ![8, 16, 512, 1536]⟩
abbrev S512x1024 : Shape := ⟨2, ![512, 1024]⟩
abbrev S512x2048 : Shape := ⟨2, ![512, 2048]⟩
abbrev S512x128 : Shape := ⟨2, ![512, 128]⟩
abbrev S1x1x512x1536 : Shape := ⟨4, ![1, 1, 512, 1536]⟩
abbrev S1x4x128x1536 : Shape := ⟨4, ![1, 4, 128, 1536]⟩
abbrev S1x16x32x1536 : Shape := ⟨4, ![1, 16, 32, 1536]⟩
abbrev S4x512x128 : Shape := ⟨3, ![4, 512, 128]⟩
abbrev S512 : Shape := ⟨1, ![512]⟩
abbrev S512x1 : Shape := ⟨2, ![512, 1]⟩
abbrev S512x512 : Shape := ⟨2, ![512, 512]⟩
abbrev S1x1x512x512 : Shape := ⟨4, ![1, 1, 512, 512]⟩
abbrev S1x512x128 : Shape := ⟨3, ![1, 512, 128]⟩
abbrev S1x128x128 : Shape := ⟨3, ![1, 128, 128]⟩
abbrev S128x128 : Shape := ⟨2, ![128, 128]⟩
abbrev S1x1x128x128 : Shape := ⟨4, ![1, 1, 128, 128]⟩
abbrev S1x32x128 : Shape := ⟨3, ![1, 32, 128]⟩
abbrev S32x128 : Shape := ⟨2, ![32, 128]⟩
abbrev S1x1x32x128 : Shape := ⟨4, ![1, 1, 32, 128]⟩

abbrev nBuf : Space → Nat
  | .hbm => 30
  | .vmem => 18
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x8720, .f32⟩
  | .hbm, ⟨3, _⟩ => ⟨S65536x1024, .f32⟩
  | .hbm, ⟨4, _⟩ => ⟨S1024x8720, .f32⟩
  | .hbm, ⟨5, _⟩ => ⟨S1024x2048, .f32⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x2048, .f32⟩
  | .hbm, ⟨20, _⟩ => ⟨S1024x8832, .f32⟩
  | .hbm, ⟨21, _⟩ => ⟨S1024x8832, .bf16⟩
  | .hbm, ⟨22, _⟩ => ⟨S1024, .f32⟩
  | .hbm, ⟨23, _⟩ => ⟨S1x1024, .f32⟩
  | .hbm, ⟨24, _⟩ => ⟨S65536x2048, .bf16⟩
  | .hbm, ⟨25, _⟩ => ⟨S65536x128, .f32⟩
  | .hbm, ⟨26, _⟩ => ⟨S8x1x8192x1536, .bf16⟩
  | .hbm, ⟨27, _⟩ => ⟨S8x4x2048x1536, .bf16⟩
  | .hbm, ⟨28, _⟩ => ⟨S8x16x512x1536, .bf16⟩
  | .hbm, ⟨29, _⟩ => ⟨S65536x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x8832, .bf16⟩
  | .local _ .vmem, ⟨4, _⟩ => ⟨S512x2048, .bf16⟩
  | .local _ .vmem, ⟨5, _⟩ => ⟨S512x2048, .bf16⟩
  | .local _ .vmem, ⟨6, _⟩ => ⟨S512x128, .f32⟩
  | .local _ .vmem, ⟨7, _⟩ => ⟨S512x128, .f32⟩
  | .local _ .vmem, ⟨8, _⟩ => ⟨S1x1x512x1536, .bf16⟩
  | .local _ .vmem, ⟨9, _⟩ => ⟨S1x1x512x1536, .bf16⟩
  | .local _ .vmem, ⟨10, _⟩ => ⟨S1x4x128x1536, .bf16⟩
  | .local _ .vmem, ⟨11, _⟩ => ⟨S1x4x128x1536, .bf16⟩
  | .local _ .vmem, ⟨12, _⟩ => ⟨S1x16x32x1536, .bf16⟩
  | .local _ .vmem, ⟨13, _⟩ => ⟨S1x16x32x1536, .bf16⟩
  | .local _ .vmem, ⟨14, _⟩ => ⟨S512x2048, .bf16⟩
  | .local _ .vmem, ⟨15, _⟩ => ⟨S512x2048, .bf16⟩
  | .local _ .vmem, ⟨16, _⟩ => ⟨S512x1024, .bf16⟩
  | .local _ .vmem, ⟨17, _⟩ => ⟨S4x512x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev main_v19_3 : Ref sig .tc := ⟨.hbm, 27, rfl⟩
abbrev main_v19_4 : Ref sig .tc := ⟨.hbm, 28, rfl⟩
abbrev main_v19_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8832 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x32x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojRefIdeal.lean ====
abbrev S8x8192x1024 : Shape := ⟨3, ![8, 8192, 1024]⟩
abbrev S1x1024 : Shape := ⟨2, ![1, 1024]⟩
abbrev S1x1024x8720 : Shape := ⟨3, ![1, 1024, 8720]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x8720 : Shape := ⟨2, ![1024, 8720]⟩
abbrev S8x8192x8720 : Shape := ⟨3, ![8, 8192, 8720]⟩
abbrev S8x8192x512 : Shape := ⟨3, ![8, 8192, 512]⟩
abbrev S8x8192x8 : Shape := ⟨3, ![8, 8192, 8]⟩
abbrev S8x8192x1536 : Shape := ⟨3, ![8, 8192, 1536]⟩
abbrev S8x8192x2048 : Shape := ⟨3, ![8, 8192, 2048]⟩
abbrev S65536x2048 : Shape := ⟨2, ![65536, 2048]⟩
abbrev S8x8192x16 : Shape := ⟨3, ![8, 8192, 16]⟩
abbrev S65536x16 : Shape := ⟨2, ![65536, 16]⟩
abbrev S65536x128 : Shape := ⟨2, ![65536, 128]⟩
abbrev S8x8192x1x1536 : Shape := ⟨4, ![8, 8192, 1, 1536]⟩
abbrev S8x1x8192x1536 : Shape := ⟨4, ![8, 1, 8192, 1536]⟩
abbrev S8x2048x4x1536 : Shape := ⟨4, ![8, 2048, 4, 1536]⟩
abbrev S8x4x2048x1536 : Shape := ⟨4, ![8, 4, 2048, 1536]⟩
abbrev S8x512x16x1536 : Shape := ⟨4, ![8, 512, 16, 1536]⟩
abbrev S8x16x512x1536 : Shape := ⟨4, ![8, 16, 512, 1536]⟩

abbrev nBuf : Space → Nat
  | .hbm => 73
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x8720, .f32⟩
  | .hbm, ⟨3, _⟩ => ⟨S1024, .f32⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S1x1x1024, .f32⟩
  | .hbm, ⟨18, _⟩ => ⟨S8x8192x1024, .f32⟩
  | .hbm, ⟨19, _⟩ => ⟨S8x8192x1024, .f32⟩
  | .hbm, ⟨20, _⟩ => ⟨S1024x8720, .f32⟩
  | .hbm, ⟨21, _⟩ => ⟨S8x8192x8720, .f32⟩
  | .hbm, ⟨22, _⟩ => ⟨S8x8192x512, .f32⟩
  | .hbm, ⟨23, _⟩ => ⟨S8x8192x512, .f32⟩
  | .hbm, ⟨24, _⟩ => ⟨S8x8192x512, .f32⟩
  | .hbm, ⟨25, _⟩ => ⟨S8x8192x512, .f32⟩
  | .hbm, ⟨26, _⟩ => ⟨S8x8192x8, .f32⟩
  | .hbm, ⟨27, _⟩ => ⟨S8x8192x8, .f32⟩
  | .hbm, ⟨28, _⟩ => ⟨S8x8192x1536, .f32⟩
  | .hbm, ⟨29, _⟩ => ⟨S8x8192x1536, .f32⟩
  | .hbm, ⟨30, _⟩ => ⟨S8x8192x1536, .f32⟩
  | .hbm, ⟨31, _⟩ => ⟨S8x8192x1024, .f32⟩
  | .hbm, ⟨32, _⟩ => ⟨S8x8192x1024, .f32⟩
  | .hbm, ⟨33, _⟩ => ⟨S8x8192x2048, .f32⟩
  | .hbm, ⟨34, _⟩ => ⟨S65536x2048, .f32⟩
  | .hbm, ⟨35, _⟩ => ⟨S65536x2048, .bf16⟩
  | .hbm, ⟨36, _⟩ => ⟨S8x8192x16, .f32⟩
  | .hbm, ⟨37, _⟩ => ⟨S65536x16, .f32⟩
  | .hbm, ⟨38, _⟩ => ⟨S_, .i32⟩
  | .hbm, ⟨39, _⟩ => ⟨S_, .f32⟩
  | .hbm, ⟨40, _⟩ => ⟨S65536x128, .f32⟩
  | .hbm, ⟨41, _⟩ => ⟨S8x8192x512, .f32⟩
  | .hbm, ⟨42, _⟩ => ⟨S8x8192x512, .f32⟩
  | .hbm, ⟨43, _⟩ => ⟨S8x8192x512, .f32⟩
  | .hbm, ⟨44, _⟩ => ⟨S8x8192x1536, .f32⟩
  | .hbm, ⟨45, _⟩ => ⟨S8x8192x1x1536, .f32⟩
  | .hbm, ⟨46, _⟩ => ⟨S8x1x8192x1536, .f32⟩
  | .hbm, ⟨47, _⟩ => ⟨S8x1x8192x1536, .bf16⟩
  | .hbm, ⟨48, _⟩ => ⟨S8x8192x512, .f32⟩
  | .hbm, ⟨49, _⟩ => ⟨S8x8192x512, .f32⟩
  | .hbm, ⟨50, _⟩ => ⟨S8x8192x512, .f32⟩
  | .hbm, ⟨51, _⟩ => ⟨S8x8192x1536, .f32⟩
  | .hbm, ⟨52, _⟩ => ⟨S8x2048x4x1536, .f32⟩
  | .hbm, ⟨53, _⟩ => ⟨S8x4x2048x1536, .f32⟩
  | .hbm, ⟨54, _⟩ => ⟨S8x4x2048x1536, .bf16⟩
  | .hbm, ⟨55, _⟩ => ⟨S8x8192x512, .f32⟩
  | .hbm, ⟨56, _⟩ => ⟨S8x8192x512, .f32⟩
  | .hbm, ⟨57, _⟩ => ⟨S8x8192x512, .f32⟩
  | .hbm, ⟨58, _⟩ => ⟨S8x8192x1536, .f32⟩
  | .hbm, ⟨59, _⟩ => ⟨S8x512x16x1536, .f32⟩
  | .hbm, ⟨60, _⟩ => ⟨S8x16x512x1536, .f32⟩
  | .hbm, ⟨61, _⟩ => ⟨S8x16x512x1536, .bf16⟩
  | .hbm, ⟨62, _⟩ => ⟨S8x8192x2048, .f32⟩
  | .hbm, ⟨63, _⟩ => ⟨S8x8192x2048, .f32⟩
  | .hbm, ⟨64, _⟩ => ⟨S8x8192x2048, .f32⟩
  | .hbm, ⟨65, _⟩ => ⟨S_, .f32⟩
  | .hbm, ⟨66, _⟩ => ⟨S8x8192x2048, .f32⟩
  | .hbm, ⟨67, _⟩ => ⟨S8x8192x2048, .f32⟩
  | .hbm, ⟨68, _⟩ => ⟨S_, .f32⟩
  | .hbm, ⟨69, _⟩ => ⟨S8x8192x2048, .f32⟩
  | .hbm, ⟨70, _⟩ => ⟨S8x8192x2048, .f32⟩
  | .hbm, ⟨71, _⟩ => ⟨S65536x2048, .f32⟩
  | .hbm, ⟨72, _⟩ => ⟨S65536x2048, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c : Ref sig .tc := ⟨.hbm, 38, rfl⟩
abbrev main_call0_v0 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_2 : Ref sig .tc := ⟨.hbm, 65, rfl⟩
abbrev main_v57 : Ref sig .tc := ⟨.hbm, 66, rfl⟩
abbrev main_v58 : Ref sig .tc := ⟨.hbm, 67, rfl⟩
abbrev main_cst_3 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩

abbrev nD : Nat := 1
abbrev τ : Topo := Topo.v7x

variable {F : FTy → Type} [FloatOps F]
-- ==== Merge.lean ====
abbrev S65536x1024 : Shape := ⟨2, ![65536, 1024]⟩
abbrev S65536x512 : Shape := ⟨2, ![65536, 512]⟩
abbrev S65536x2048 : Shape := ⟨2, ![65536, 2048]⟩
abbrev S8x1x8192x512 : Shape := ⟨4, ![8, 1, 8192, 512]⟩
abbrev S8x1x8192x128 : Shape := ⟨4, ![8, 1, 8192, 128]⟩
abbrev S8x4x2048x512 : Shape := ⟨4, ![8, 4, 2048, 512]⟩
abbrev S8x4x2048x128 : Shape := ⟨4, ![8, 4, 2048, 128]⟩
abbrev S8x16x512x512 : Shape := ⟨4, ![8, 16, 512, 512]⟩
abbrev S8x16x512x128 : Shape := ⟨4, ![8, 16, 512, 128]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S1x128 : Shape := ⟨2, ![1, 128]⟩
abbrev S1x1024 : Shape := ⟨2, ![1, 1024]⟩
abbrev S128x1024x512 : Shape := ⟨3, ![128, 1024, 512]⟩
abbrev S512x512 : Shape := ⟨2, ![512, 512]⟩
abbrev S512x2048 : Shape := ⟨2, ![512, 2048]⟩
abbrev S1x1x512x512 : Shape := ⟨4, ![1, 1, 512, 512]⟩
abbrev S1x1x512x128 : Shape := ⟨4, ![1, 1, 512, 128]⟩
abbrev S1x4x128x512 : Shape := ⟨4, ![1, 4, 128, 512]⟩
abbrev S1x4x128x128 : Shape := ⟨4, ![1, 4, 128, 128]⟩
abbrev S1x16x32x512 : Shape := ⟨4, ![1, 16, 32, 512]⟩
abbrev S1x16x32x128 : Shape := ⟨4, ![1, 16, 32, 128]⟩
abbrev S1x1024x512 : Shape := ⟨3, ![1, 1024, 512]⟩
abbrev S3x4x512x128 : Shape := ⟨4, ![3, 4, 512, 128]⟩
abbrev S3x512x128 : Shape := ⟨3, ![3, 512, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S1x1x128x128 : Shape := ⟨4, ![1, 1, 128, 128]⟩
abbrev S128x128 : Shape := ⟨2, ![128, 128]⟩
abbrev S1x128x128 : Shape := ⟨3, ![1, 128, 128]⟩
abbrev S1x1x32x128 : Shape := ⟨4, ![1, 1, 32, 128]⟩
abbrev S32x128 : Shape := ⟨2, ![32, 128]⟩
abbrev S1x32x128 : Shape := ⟨3, ![1, 32, 128]⟩
abbrev S1024x512 : Shape := ⟨2, ![1024, 512]⟩

abbrev nBuf : Space → Nat
  | .hbm => 26
  | .vmem => 36
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S65536x2048, .bf16⟩
  | .hbm, ⟨4, _⟩ => ⟨S65536x2048, .bf16⟩
  | .hbm, ⟨5, _⟩ => ⟨S8x1x8192x512, .bf16⟩
  | .hbm, ⟨6, _⟩ => ⟨S8x1x8192x128, .f32⟩
  | .hbm, ⟨7, _⟩ => ⟨S8x4x2048x512, .bf16⟩
  | .hbm, ⟨8, _⟩ => ⟨S8x4x2048x128, .f32⟩
  | .hbm, ⟨9, _⟩ => ⟨S8x16x512x512, .bf16⟩
  | .hbm, ⟨10, _⟩ => ⟨S8x16x512x128, .f32⟩
  | .hbm, ⟨11, _⟩ => ⟨S128, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024, .f32⟩
  | .hbm, ⟨16, _⟩ => ⟨S1024x2048, .f32⟩
  | .hbm, ⟨17, _⟩ => ⟨S1x128, .f32⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S1024x2048, .bf16⟩
  | .hbm, ⟨23, _⟩ => ⟨S65536x1024, .f32⟩
  | .hbm, ⟨24, _⟩ => ⟨S128x1024x512, .bf16⟩
  | .hbm, ⟨25, _⟩ => ⟨S65536x2048, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S1x1x512x512, .bf16⟩
  | .local _ .vmem, ⟨11, _⟩ => ⟨S1x1x512x512, .bf16⟩
  | .local _ .vmem, ⟨12, _⟩ => ⟨S1x1x512x128, .f32⟩
  | .local _ .vmem, ⟨13, _⟩ => ⟨S1x1x512x128, .f32⟩
  | .local _ .vmem, ⟨14, _⟩ => ⟨S1x4x128x512, .bf16⟩
  | .local _ .vmem, ⟨15, _⟩ => ⟨S1x4x128x512, .bf16⟩
  | .local _ .vmem, ⟨16, _⟩ => ⟨S1x4x128x128, .f32⟩
  | .local _ .vmem, ⟨17, _⟩ => ⟨S1x4x128x128, .f32⟩
  | .local _ .vmem, ⟨18, _⟩ => ⟨S1x16x32x512, .bf16⟩
  | .local _ .vmem, ⟨19, _⟩ => ⟨S1x16x32x512, .bf16⟩
  | .local _ .vmem, ⟨20, _⟩ => ⟨S1x16x32x128, .f32⟩
  | .local _ .vmem, ⟨21, _⟩ => ⟨S1x16x32x128, .f32⟩
  | .local _ .vmem, ⟨22, _⟩ => ⟨S1x128, .f32⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S1x1024, .f32⟩
  | .local _ .vmem, ⟨27, _⟩ => ⟨S1024x2048, .bf16⟩
  | .local _ .vmem, ⟨28, _⟩ => ⟨S512x1024, .f32⟩
  | .local _ .vmem, ⟨29, _⟩ => ⟨S512x1024, .f32⟩
  | .local _ .vmem, ⟨30, _⟩ => ⟨S1x1024x512, .bf16⟩
  | .local _ .vmem, ⟨31, _⟩ => ⟨S1x1024x512, .bf16⟩
  | .local _ .vmem, ⟨32, _⟩ => ⟨S512x2048, .bf16⟩
  | .local _ .vmem, ⟨33, _⟩ => ⟨S512x2048, .bf16⟩
  | .local _ .vmem, ⟨34, _⟩ => ⟨S3x4x512x128, .f32⟩
  | .local _ .vmem, ⟨35, _⟩ => ⟨S3x512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x32x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MergeRefIdeal.lean ====
abbrev S65536x1024 : Shape := ⟨2, ![65536, 1024]⟩
abbrev S65536x512 : Shape := ⟨2, ![65536, 512]⟩
abbrev S65536x2048 : Shape := ⟨2, ![65536, 2048]⟩
abbrev S8x1x8192x512 : Shape := ⟨4, ![8, 1, 8192, 512]⟩
abbrev S8x1x8192x128 : Shape := ⟨4, ![8, 1, 8192, 128]⟩
abbrev S8x4x2048x512 : Shape := ⟨4, ![8, 4, 2048, 512]⟩
abbrev S8x4x2048x128 : Shape := ⟨4, ![8, 4, 2048, 128]⟩
abbrev S8x16x512x512 : Shape := ⟨4, ![8, 16, 512, 512]⟩
abbrev S8x16x512x128 : Shape := ⟨4, ![8, 16, 512, 128]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x8192x4x128 : Shape := ⟨4, ![8, 8192, 4, 128]⟩
abbrev S_ : Shape := ⟨0, ![]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩
abbrev S8x8192x512 : Shape := ⟨3, ![8, 8192, 512]⟩
abbrev S8x1x8192x4x128 : Shape := ⟨5, ![8, 1, 8192, 4, 128]⟩
abbrev S8x4x8192x1x128 : Shape := ⟨5, ![8, 4, 8192, 1, 128]⟩
abbrev S8x4x8192x128 : Shape := ⟨4, ![8, 4, 8192, 128]⟩
abbrev S8x1x8192x4 : Shape := ⟨4, ![8, 1, 8192, 4]⟩
abbrev S8x4x8192x1 : Shape := ⟨4, ![8, 4, 8192, 1]⟩
abbrev S8x4x8192 : Shape := ⟨3, ![8, 4, 8192]⟩
abbrev S8x4x2048x4x128 : Shape := ⟨5, ![8, 4, 2048, 4, 128]⟩
abbrev S8x4x2048x4 : Shape := ⟨4, ![8, 4, 2048, 4]⟩
abbrev S8x16x512x4x128 : Shape := ⟨5, ![8, 16, 512, 4, 128]⟩
abbrev S8x4x512x16x128 : Shape := ⟨5, ![8, 4, 512, 16, 128]⟩
abbrev S8x16x512x4 : Shape := ⟨4, ![8, 16, 512, 4]⟩
abbrev S8x4x512x16 : Shape := ⟨4, ![8, 4, 512, 16]⟩
abbrev S1x8x4x8192 : Shape := ⟨4, ![1, 8, 4, 8192]⟩
abbrev S3x8x4x8192 : Shape := ⟨4, ![3, 8, 4, 8192]⟩
abbrev S1x8x4x8192x128 : Shape := ⟨5, ![1, 8, 4, 8192, 128]⟩
abbrev S3x8x4x8192x128 : Shape := ⟨5, ![3, 8, 4, 8192, 128]⟩
abbrev S8x8192x1024 : Shape := ⟨3, ![8, 8192, 1024]⟩
abbrev S8x8192x2048 : Shape := ⟨3, ![8, 8192, 2048]⟩
abbrev S8x8192 : Shape := ⟨2, ![8, 8192]⟩
abbrev S8x8192x1 : Shape := ⟨3, ![8, 8192, 1]⟩
abbrev S1x1x1024 : Shape := ⟨3, ![1, 1, 1024]⟩
abbrev S128x512x1024 : Shape := ⟨3, ![128, 512, 1024]⟩
abbrev S128x1024x512 : Shape := ⟨3, ![128, 1024, 512]⟩

abbrev nBuf : Space → Nat
  | .hbm => 130
  | .vmem => 0
  | .smem => 0
  | _ => 0

abbrev hbmTy0_0 (i : Nat) : BufTy := match i % 128 with
  | 0 => ⟨S65536x1024, .f32⟩
  | 1 => ⟨S65536x512, .f32⟩
  | 2 => ⟨S65536x512, .f32⟩
  | 3 => ⟨S65536x2048, .bf16⟩
  | 4 => ⟨S65536x2048, .bf16⟩
  | 5 => ⟨S8x1x8192x512, .bf16⟩
  | 6 => ⟨S8x1x8192x128, .f32⟩
  | 7 => ⟨S8x4x2048x512, .bf16⟩
  | 8 => ⟨S8x4x2048x128, .f32⟩
  | 9 => ⟨S8x16x512x512, .bf16⟩
  | 10 => ⟨S8x16x512x128, .f32⟩
  | 11 => ⟨S128, .f32⟩
  | 12 => ⟨S512x1024, .f32⟩
  | 13 => ⟨S512x1024, .f32⟩
  | 14 => ⟨S1024x1024, .f32⟩
  | 15 => ⟨S1024, .f32⟩
  | 16 => ⟨S1024x2048, .f32⟩
  | 17 => ⟨S65536x512, .f32⟩
  | 18 => ⟨S8x8192x4x128, .f32⟩
  | 19 => ⟨S65536x512, .bf16⟩
  | 20 => ⟨S8x8192x4x128, .f32⟩
  | 21 => ⟨S_, .f32⟩
  | 22 => ⟨S8x8192x4, .f32⟩
  | 23 => ⟨S8x8192x4x1, .f32⟩
  | 24 => ⟨S_, .f32⟩
  | 25 => ⟨S8x8192x4x1, .f32⟩
  | 26 => ⟨S8x8192x4x1, .f32⟩
  | 27 => ⟨S_, .f32⟩
  | 28 => ⟨S8x8192x4x1, .f32⟩
  | 29 => ⟨S8x8192x4x1, .f32⟩
  | 30 => ⟨S8x8192x4x1, .f32⟩
  | 31 => ⟨S8x8192x4x128, .f32⟩
  | 32 => ⟨S8x8192x4x128, .f32⟩
  | 33 => ⟨S1x1x1x128, .f32⟩
  | 34 => ⟨S8x8192x4x128, .f32⟩
  | 35 => ⟨S8x8192x4x128, .f32⟩
  | 36 => ⟨S8x8192x4x128, .bf16⟩
  | 37 => ⟨S8x8192x4x128, .f32⟩
  | 38 => ⟨S8x8192x4x128, .f32⟩
  | 39 => ⟨S8x8192x4x128, .f32⟩
  | 40 => ⟨S_, .f32⟩
  | 41 => ⟨S8x8192x4x128, .f32⟩
  | 42 => ⟨S8x8192x4x128, .f32⟩
  | 43 => ⟨S_, .f32⟩
  | 44 => ⟨S8x8192x4x128, .f32⟩
  | 45 => ⟨S8x8192x4x128, .f32⟩
  | 46 => ⟨S8x8192x4x128, .f32⟩
  | 47 => ⟨S8x8192x4x128, .f32⟩
  | 48 => ⟨S8x8192x512, .f32⟩
  | 49 => ⟨S8x1x8192x512, .f32⟩
  | 50 => ⟨S8x1x8192x4x128, .f32⟩
  | 51 => ⟨S8x4x8192x1x128, .f32⟩
  | 52 => ⟨S8x4x8192x128, .f32⟩
  | 53 => ⟨S8x1x8192x4, .f32⟩
  | 54 => ⟨S8x4x8192x1, .f32⟩
  | 55 => ⟨S8x4x8192, .f32⟩
  | 56 => ⟨S8x4x2048x512, .f32⟩
  | 57 => ⟨S8x4x2048x4x128, .f32⟩
  | 58 => ⟨S8x4x2048x4x128, .f32⟩
  | 59 => ⟨S8x4x8192x128, .f32⟩
  | 60 => ⟨S8x4x2048x4, .f32⟩
  | 61 => ⟨S8x4x2048x4, .f32⟩
  | 62 => ⟨S8x4x8192, .f32⟩
  | 63 => ⟨S8x16x512x512, .f32⟩
  | 64 => ⟨S8x16x512x4x128, .f32⟩
  | 65 => ⟨S8x4x512x16x128, .f32⟩
  | 66 => ⟨S8x4x8192x128, .f32⟩
  | 67 => ⟨S8x16x512x4, .f32⟩
  | 68 => ⟨S8x4x512x16, .f32⟩
  | 69 => ⟨S8x4x8192, .f32⟩
  | 70 => ⟨S1x8x4x8192, .f32⟩
  | 71 => ⟨S1x8x4x8192, .f32⟩
  | 72 => ⟨S1x8x4x8192, .f32⟩
  | 73 => ⟨S3x8x4x8192, .f32⟩
  | 74 => ⟨S_, .f32⟩
  | 75 => ⟨S8x4x8192, .f32⟩
  | 76 => ⟨S_, .f32⟩
  | 77 => ⟨S8x4x8192, .f32⟩
  | 78 => ⟨S8x4x8192, .f32⟩
  | 79 => ⟨S1x8x4x8192, .f32⟩
  | 80 => ⟨S3x8x4x8192, .f32⟩
  | 81 => ⟨S3x8x4x8192, .f32⟩
  | 82 => ⟨S3x8x4x8192, .f32⟩
  | 83 => ⟨S_, .f32⟩
  | 84 => ⟨S8x4x8192, .f32⟩
  | 85 => ⟨S1x8x4x8192, .f32⟩
  | 86 => ⟨S3x8x4x8192, .f32⟩
  | 87 => ⟨S3x8x4x8192, .f32⟩
  | 88 => ⟨S1x8x4x8192x128, .f32⟩
  | 89 => ⟨S1x8x4x8192x128, .f32⟩
  | 90 => ⟨S1x8x4x8192x128, .f32⟩
  | 91 => ⟨S3x8x4x8192x128, .f32⟩
  | 92 => ⟨S8x4x8192x128, .f32⟩
  | 93 => ⟨S8x8192x4x128, .f32⟩
  | 94 => ⟨S8x8192x512, .f32⟩
  | 95 => ⟨S8x8192x1024, .f32⟩
  | 96 => ⟨S8x8192x2048, .bf16⟩
  | 97 => ⟨S8x8192x2048, .f32⟩
  | 98 => ⟨S8x8192x1024, .f32⟩
  | 99 => ⟨S8x8192x1024, .f32⟩
  | 100 => ⟨S8x8192x1024, .f32⟩
  | 101 => ⟨S8x8192x1024, .f32⟩
  | 102 => ⟨S8x8192x1024, .f32⟩
  | 103 => ⟨S8x8192x1024, .f32⟩
  | 104 => ⟨S8x8192x1024, .f32⟩
  | 105 => ⟨S8x8192x1024, .f32⟩
  | 106 => ⟨S8x8192x1024, .f32⟩
  | 107 => ⟨S8x8192x1024, .f32⟩
  | 108 => ⟨S_, .f32⟩
  | 109 => ⟨S8x8192, .f32⟩
  | 110 => ⟨S8x8192x1, .f32⟩
  | 111 => ⟨S_, .f32⟩
  | 112 => ⟨S8x8192x1, .f32⟩
  | 113 => ⟨S8x8192x1, .f32⟩
  | 114 => ⟨S_, .f32⟩
  | 115 => ⟨S8x8192x1, .f32⟩
  | 116 => ⟨S8x8192x1, .f32⟩
  | 117 => ⟨S8x8192x1, .f32⟩
  | 118 => ⟨S8x8192x1024, .f32⟩
  | 119 => ⟨S8x8192x1024, .f32⟩
  | 120 => ⟨S1x1x1024, .f32⟩
  | 121 => ⟨S8x8192x1024, .f32⟩
  | 122 => ⟨S8x8192x1024, .f32⟩
  | 123 => ⟨S65536x1024, .f32⟩
  | 124 => ⟨S65536x2048, .f32⟩
  | 125 => ⟨S128x512x1024, .f32⟩
  | 126 => ⟨S128x1024x512, .f32⟩
  | 127 => ⟨S65536x1024, .f32⟩
  | _ => ⟨S65536x1024, .f32⟩

abbrev hbmTy0_1 (i : Nat) : BufTy := match i % 128 with
  | 0 => ⟨S128x1024x512, .bf16⟩
  | 1 => ⟨S65536x2048, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_2 : Ref sig .tc := ⟨.hbm, 74, rfl⟩
abbrev main_v46 : Ref sig .tc := ⟨.hbm, 75, rfl⟩
abbrev main_cst_3 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_4 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_5 : Ref sig .tc := ⟨.hbm, 108, rfl⟩
abbrev main_v77 : Ref sig .tc := ⟨.hbm, 109, rfl⟩
abbrev main_v78 : Ref sig .tc := ⟨.hbm, 110, rfl⟩
abbrev main_cst_6 : Ref sig .tc := ⟨.hbm, 111, rfl⟩
abbrev main_v79 : Ref sig .tc := ⟨.hbm, 112, rfl⟩
abbrev main_v80 : Ref sig .tc := ⟨.hbm, 113, rfl⟩
abbrev main_cst_7 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]
-- ==== Proof.ProjTile.lean ====
/-
  THE INPUT PROJECTION, ONE BLOCK OF 512 ROWS: the three forms in which the kernel's stores carry the product of the
  normalised rows with a window of the weight matrix, each read at an index.
-/
module

public import proofs.«01_k».proof.Proof.Gen.InprojIdeal.Skeleton
public import Idealize.ShloMosaic.Lib.Pointwise

@[expose] public section

set_option maxRecDepth 16384

noncomputable section

namespace Cert.Proj

open Cert.InprojIdeal Cert.InprojIdeal.Gen Idealize.ShloMosaic Idealize.SL.Sem

/-- Entry `(r, c)` of the product of a block of rows with the whole weight matrix; coordinates are plain numbers, and
    outside the matrix the entry is zero. -/
def entry (X : FVec Ideal S512x1024 .bf16) (W : FVec Ideal S1024x8832 .bf16) (r c : ℕ) : EReal :=
  if h : r < 512 ∧ c < 8832 then ∑ k : Fin 1024, X (ix2 ⟨r, h.1⟩ k) * W (ix2 k ⟨c, h.2⟩) else 0

theorem entry_eq (X : FVec Ideal S512x1024 .bf16) (W : FVec Ideal S1024x8832 .bf16) (r : Fin 512) (c : Fin 8832) :
    entry X W r c = ∑ k : Fin 1024, X (ix2 r k) * W (ix2 k c) := dif_pos ⟨r.2, c.2⟩

/-- The product of the rows with a 512-column window of the weights. -/
def prod (X : FVec Ideal S512x1024 .bf16) (V : FVec Ideal S1024x512 .bf16) : FVec Ideal S512x512 .f32 :=
  matmul dot_S512x1024_S1024x512_S512x512_1_0_0_1_n_n none X (shapeCast S1024x512 V shapeCasts_S1024x512_S1024x512)
    (constant S512x512 .f32 0x00000000#32)

theorem prod_apply (X : FVec Ideal S512x1024 .bf16) (V : FVec Ideal S1024x512 .bf16) (r c : Fin 512) :
    prod X V (ix2 r c) = ∑ k : Fin 1024, X (ix2 r k) * V (ix2 k c) := by
  pointwise [prod]

/-- The window at columns `o …`: its product is the entries at those columns. -/
theorem prod_window (X : FVec Ideal S512x1024 .bf16) (W : FVec Ideal S1024x8832 .bf16) (V : FVec Ideal S1024x512 .bf16)
    (o : ℕ) (ho : o + 512 ≤ 8832)
    (hV : ∀ (k : Fin 1024) (c : Fin 512), V (ix2 k c) = W (ix2 k ⟨o + c.val, by omega⟩)) (r c : Fin 512) :
    prod X V (ix2 r c) = entry X W r (o + c) := by
  rw [prod_apply, entry, dif_pos ⟨r.2, by omega⟩]
  exact Finset.sum_congr rfl fun k _ => by rw [hV]

/-- A plain column tile: the product rounded. -/
def colTile (X : FVec Ideal S512x1024 .bf16) (V : FVec Ideal S1024x512 .bf16) : FVec Ideal S512x512 .bf16 :=
  truncf .bf16 (prod X V) bitsLt_bf16_f32

/-- The same with two leading axes of size one. -/
def headTile (X : FVec Ideal S512x1024 .bf16) (V : FVec Ideal S1024x512 .bf16) : FVec Ideal S1x1x512x512 .bf16 :=
  shapeCast S1x1x512x512 (colTile X V) shapeCasts_S512x512_S1x1x512x512

theorem headTile_apply (X : FVec Ideal S512x1024 .bf16) (V : FVec Ideal S1024x512 .bf16) (x : S1x1x512x512.Idx) :
    headTile X V x = prod X V (ix2 (x 2) (x 3)) := by
  pointwise [headTile, colTile]

/-- The narrow tile of the decay and gate columns. -/
def narrow (X : FVec Ideal S512x1024 .bf16) (V : FVec Ideal S1024x128 .bf16) : FVec Ideal S512x128 .f32 :=
  matmul dot_S512x1024_S1024x128_S512x128_1_0_0_1_n_n none X (shapeCast S1024x128 V shapeCasts_S1024x128_S1024x128)
    (constant S512x128 .f32 0x00000000#32)

theorem narrow_apply (X : FVec Ideal S512x1024 .bf16) (V : FVec Ideal S1024x128 .bf16) (r : Fin 512) (c : Fin 128) :
    narrow X V (ix2 r c) = ∑ k : Fin 1024, X (ix2 r k) * V (ix2 k c) := by
  pointwise [narrow]

theorem narrow_window (X : FVec Ideal S512x1024 .bf16) (W : FVec Ideal S1024x8832 .bf16) (V : FVec Ideal S1024x128 .bf16)
    (o : ℕ) (ho : o + 128 ≤ 8832)
    (hV : ∀ (k : Fin 1024) (c : Fin 128), V (ix2 k c) = W (ix2 k ⟨o + c.val, by omega⟩)) (r : Fin 512) (c : Fin 128) :
    narrow X V (ix2 r c) = entry X W r (o + c) := by
  rw [narrow_apply, entry, dif_pos ⟨r.2, by omega⟩]
  exact Finset.sum_congr rfl fun k _ => by rw [hV]

/-- A gate tile: the logistic function of the product, rounded. -/
def gateTile (X : FVec Ideal S512x1024 .bf16) (V : FVec Ideal S1024x512 .bf16) : FVec Ideal S512x512 .bf16 :=
  truncf .bf16 (divf (broadcast S512x512 (Scalar.ofBits .f32 0x3F800000#32))
    (addf (broadcast S512x512 (Scalar.ofBits .f32 0x3F800000#32))
      (exp (subf (broadcast S512x512 (Scalar.ofBits .f32 0x00000000#32)) (prod X V))))) bitsLt_bf16_f32

/-- The logistic function, with the program's own constant one. -/
def logistic (x : EReal) : EReal :=
  Ideal.div (Ideal.ofBits .f32 0x3F800000#32) (Ideal.ofBits .f32 0x3F800000#32 + Ideal.exp (-x))

theorem gateTile_apply (X : FVec Ideal S512x1024 .bf16) (V : FVec Ideal S1024x512 .bf16) (x : S512x512.Idx) :
    gateTile X V x = logistic (prod X V x) := by
  pointwise [gateTile, logistic]
  simp

/-- One lane slab of the product as the scratch buffer holds it: 128 columns from column `o`. -/
def slab (o : ℕ) (h : S512x512.Slices ![0, o] S512x128) (X : FVec Ideal S512x1024 .bf16)
    (V : FVec Ideal S1024x512 .bf16) : FVec Ideal S1x512x128 .f32 :=
  shapeCast S1x512x128 (extractStridedSlice S512x128 ![0, o] (prod X V) h) shapeCasts_S512x128_S1x512x128

theorem slab_apply (o : ℕ) (ho : o + 128 ≤ 512) (h : S512x512.Slices ![0, o] S512x128) (X : FVec Ideal S512x1024 .bf16)
    (V : FVec Ideal S1024x512 .bf16) (x : S1x512x128.Idx) :
    slab o h X V x = prod X V (ix2 (x 1) ⟨o + (x 2).val, by have := (x 2).isLt; change (x 2).val < 128 at this; omega⟩) := by
  pointwise [slab]

/-- A strided tile of group 1: 128 rows of one lane slab, rounded, with two leading axes of size one. -/
def tile4 (v : FVec Ideal S1x128x128 .f32) : FVec Ideal S1x1x128x128 .bf16 :=
  shapeCast S1x1x128x128 (truncf .bf16 (shapeCast S128x128 v shapeCasts_S1x128x128_S128x128) bitsLt_bf16_f32)
    shapeCasts_S128x128_S1x1x128x128

theorem tile4_apply (v : FVec Ideal S1x128x128 .f32) (x : S1x1x128x128.Idx) :
    tile4 v x = v (ix3 0 (x 2) (x 3)) := by
  pointwise [tile4]

/-- A strided tile of group 2: 32 rows of one lane slab. -/
def tile16 (v : FVec Ideal S1x32x128 .f32) : FVec Ideal S1x1x32x128 .bf16 :=
  shapeCast S1x1x32x128 (truncf .bf16 (shapeCast S32x128 v shapeCasts_S1x32x128_S32x128) bitsLt_bf16_f32)
    shapeCasts_S32x128_S1x1x32x128

theorem tile16_apply (v : FVec Ideal S1x32x128 .f32) (x : S1x1x32x128.Idx) :
    tile16 v x = v (ix3 0 (x 2) (x 3)) := by
  pointwise [tile16]

/-- The kernel's normalised rows at an index. -/
theorem rows_apply (x0 : FVec Ideal S512x1024 .f32) (x1 : FVec Ideal S1x1024 .f32) (r : Fin 512) (k : Fin 1024) :
    (show EReal from k0_pay2 (F := Ideal) x0 x1 (ix2 r k))
      = x0 (ix2 r k) * Ideal.rsqrt (Ideal.div (∑ k' : Fin 1024, x0 (ix2 r k') * x0 (ix2 r k'))
          (Ideal.ofBits .f32 0x44800000#32) + Ideal.ofBits .f32 0x358637BD#32) * x1 (ix2 0 k) := by
  pointwise [k0_pay2]

end Cert.Proj

end
-- ==== Proof.ProjSpec.lean ====
/-
  THE INPUT PROJECTION AS MATHEMATICS: the normalised rows times the weight matrix, entry by entry, and the six arrays
  of the layer's call as entries of that product.
-/
module

public import proofs.«01_k».proof.Proof.ProjTile

@[expose] public section

set_option maxRecDepth 16384

noncomputable section

namespace Cert.Proj

open Cert.InprojIdeal Idealize.ShloMosaic

variable (X : FVec Ideal S8x8192x1024 .f32) (N : FVec Ideal S1x1024 .f32) (W : FVec Ideal S1x1024x8720 .f32)

/-- Entry `k` of row `(b, s)` after the root-mean-square normalisation with gain `N`. -/
def nrm (b : Fin 8) (s : Fin 8192) (k : Fin 1024) : EReal :=
  X (ix3 b s k) * Ideal.rsqrt (Ideal.div (∑ k' : Fin 1024, X (ix3 b s k') * X (ix3 b s k'))
    (Ideal.ofBits .f32 0x44800000#32) + Ideal.ofBits .f32 0x358637BD#32) * N (ix2 0 k)

/-- Column `c` of the projection of row `(b, s)`. -/
def proj (b : Fin 8) (s : Fin 8192) (c : Fin 8720) : EReal := ∑ k : Fin 1024, nrm X N b s k * W (ix3 0 k c)

/-- The same with coordinates as plain numbers; zero outside. -/
def projN (b s c : ℕ) : EReal := if h : b < 8 ∧ s < 8192 ∧ c < 8720 then proj X N W ⟨b, h.1⟩ ⟨s, h.2.1⟩ ⟨c, h.2.2⟩ else 0

theorem projN_eq (b : Fin 8) (s : Fin 8192) (c : Fin 8720) : projN X N W b s c = proj X N W b s c :=
  dif_pos ⟨b.2, s.2, c.2⟩

/-- The recurrence's projections, one row per token. -/
def dnArr (y : S65536x2048.Idx) : EReal := projN X N W ((y 0).val / 8192) ((y 0).val % 8192) (y 1).val
/-- The two per-head scalars, padded with zeros to 128 lanes. -/
def abArr (y : S65536x128.Idx) : EReal :=
  if (y 1).val < 16 then projN X N W ((y 0).val / 8192) ((y 0).val % 8192) (2048 + (y 1).val) else 0
/-- One attention group's q, k and v: group `g` of dilation `d`, residue `r`, position `l`. -/
def qkvEntry (g d : ℕ) (b r l c : ℕ) : EReal := projN X N W b (l * d + r) (2064 + c / 512 * 1536 + g * 512 + c % 512)
def g0Arr (y : S8x1x8192x1536.Idx) : EReal := qkvEntry X N W 0 1 (y 0).val (y 1).val (y 2).val (y 3).val
def g1Arr (y : S8x4x2048x1536.Idx) : EReal := qkvEntry X N W 1 4 (y 0).val (y 1).val (y 2).val (y 3).val
def g2Arr (y : S8x16x512x1536.Idx) : EReal := qkvEntry X N W 2 16 (y 0).val (y 1).val (y 2).val (y 3).val
/-- The output gates. -/
def gateArr (y : S65536x2048.Idx) : EReal :=
  logistic (projN X N W ((y 0).val / 8192) ((y 0).val % 8192) (6672 + (y 1).val))

end Cert.Proj

end
-- ==== Proof.ProjRef.lean ====
/-
  THE REFERENCE'S SIX RESULTS are the six arrays of `ProjSpec`.
-/
module

public import proofs.«01_k».proof.Proof.ProjSpec
public import proofs.«01_k».proof.Proof.Gen.InprojRefIdeal.Read
public import Idealize.ShloMosaic.Lib.Pointwise
public import Idealize.ShloMosaic.Lib.KernelVsHost

@[expose] public section

set_option maxRecDepth 16384

noncomputable section

namespace Cert.Proj

open Cert.InprojRefIdeal Cert.InprojRefIdeal.Read Idealize.ShloMosaic

variable (X : FVec Ideal S8x8192x1024 .f32) (N : FVec Ideal S1x1024 .f32) (W : FVec Ideal S1x1024x8720 .f32)

theorem ref_row (b : Fin 8) (s : Fin 8192) (k : Fin 1024) :
    (show EReal from val_main_v13 (F := Ideal) X N (ix3 b s k)) = nrm X N b s k := by
  unfold nrm
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

theorem ref_proj (b : Fin 8) (s : Fin 8192) (c : Fin 8720) :
    (show EReal from val_main_v15 (F := Ideal) X N W (ix3 b s c)) = projN X N W b s c := by
  rw [projN_eq]
  unfold proj
  simp only [← ref_row]
  pointwise [val_main_v15, val_main_v14]

/-- The product read at coordinates that are equal to the given numbers. -/
theorem ref_at {b s c b' s' c' : ℕ} (hb) (hs) (hc) (e1 : b = b') (e2 : s = s') (e3 : c = c') :
    (show EReal from val_main_v15 (F := Ideal) X N W (ix3 ⟨b, hb⟩ ⟨s, hs⟩ ⟨c, hc⟩)) = projN X N W b' s' c' := by
  subst e1 e2 e3
  exact ref_proj X N W _ _ _

theorem cat_dn (b : Fin 8) (s : Fin 8192) (c : Fin 2048) :
    (show EReal from val_main_v27 (F := Ideal) X N W (ix3 b s c)) = projN X N W b s c := by
  pointwise [val_main_v27, val_main_v16, val_main_v17, val_main_v18, val_main_v19]
  split_ifs <;> exact ref_at X N W _ _ _ rfl rfl (by omega)

theorem cat_ab (b : Fin 8) (s : Fin 8192) (c : Fin 16) :
    (show EReal from val_main_v30 (F := Ideal) X N W (ix3 b s c)) = projN X N W b s (2048 + c) := by
  pointwise [val_main_v30, val_main_v20, val_main_v21]
  split_ifs <;> exact ref_at X N W _ _ _ rfl rfl (by omega)

theorem cat_g0 (b : Fin 8) (s : Fin 8192) (c : Fin 1536) :
    (show EReal from val_main_v36 (F := Ideal) X N W (ix3 b s c)) = projN X N W b s (2064 + c.val / 512 * 1536 + 0 * 512 + c.val % 512) := by
  pointwise [val_main_v36, val_main_v33, val_main_v34, val_main_v35, val_main_v22, val_main_v23, val_main_v24]
  split_ifs <;> exact ref_at X N W _ _ _ rfl rfl (by omega)

theorem cat_g1 (b : Fin 8) (s : Fin 8192) (c : Fin 1536) :
    (show EReal from val_main_v43 (F := Ideal) X N W (ix3 b s c)) = projN X N W b s (2064 + c.val / 512 * 1536 + 1 * 512 + c.val % 512) := by
  pointwise [val_main_v43, val_main_v40, val_main_v41, val_main_v42, val_main_v22, val_main_v23, val_main_v24]
  split_ifs <;> exact ref_at X N W _ _ _ rfl rfl (by omega)

theorem cat_g2 (b : Fin 8) (s : Fin 8192) (c : Fin 1536) :
    (show EReal from val_main_v50 (F := Ideal) X N W (ix3 b s c)) = projN X N W b s (2064 + c.val / 512 * 1536 + 2 * 512 + c.val % 512) := by
  pointwise [val_main_v50, val_main_v47, val_main_v48, val_main_v49, val_main_v22, val_main_v23, val_main_v24]
  split_ifs <;> exact ref_at X N W _ _ _ rfl rfl (by omega)

theorem cat_gate (b : Fin 8) (s : Fin 8192) (c : Fin 2048) :
    (show EReal from val_main_v54 (F := Ideal) X N W (ix3 b s c)) = projN X N W b s (6672 + c) := by
  pointwise [val_main_v54, val_main_v25, val_main_v26]
  split_ifs <;> exact ref_at X N W _ _ _ rfl rfl (by omega)

/-- A three-coordinate index is the index of its coordinates. -/
theorem idx3_eq {n0 n1 n2 : ℕ} (j : (⟨3, ![n0, n1, n2]⟩ : Shape).Idx) : j = ix3 (j 0) (j 1) (j 2) :=
  funext fun a => by match a with | ⟨0, _⟩ => rfl | ⟨1, _⟩ => rfl | ⟨2, _⟩ => rfl

theorem projN_congr {b s c b' s' c' : ℕ} (e1 : b = b') (e2 : s = s') (e3 : c = c') :
    projN X N W b s c = projN X N W b' s' c' := by rw [e1, e2, e3]

theorem ref_dn (y : S65536x2048.Idx) : (show EReal from val_main_v29 (F := Ideal) X N W y) = dnArr X N W y := by
  have h0 : (y 0).val < 65536 := (y 0).isLt
  have h1 : (y 1).val < 2048 := (y 1).isLt
  refine (val_main_v28_apply (F := Ideal) X N W y).trans ?_
  rw [idx3_eq (idx_main_v28 y)]
  refine (cat_dn X N W _ _ _).trans (projN_congr X N W ?_ ?_ ?_)
  · show ((y 0).val * 2048 + (y 1).val) / 16777216 = (y 0).val / 8192; omega
  · show ((y 0).val * 2048 + (y 1).val) / 2048 % 8192 = (y 0).val % 8192; omega
  · show ((y 0).val * 2048 + (y 1).val) % 2048 = (y 1).val; omega

theorem ref_gate (y : S65536x2048.Idx) : (show EReal from val_main_v62 (F := Ideal) X N W y) = gateArr X N W y := by
  have h0 : (y 0).val < 65536 := (y 0).isLt
  have h1 : (y 1).val < 2048 := (y 1).isLt
  refine (val_main_v61_apply (F := Ideal) X N W y).trans ?_
  rw [idx3_eq (idx_main_v61 y)]
  have e := cat_gate X N W (idx_main_v61 y 0) (idx_main_v61 y 1) (idx_main_v61 y 2)
  refine Eq.trans (b := logistic (val_main_v54 (F := Ideal) X N W (ix3 (idx_main_v61 y 0) (idx_main_v61 y 1) (idx_main_v61 y 2)))) ?_ ?_
  · pointwise [val_main_v60, val_main_v59, val_main_v58, val_main_v57, val_main_v56, val_main_v55, val_main_cst_2, val_main_cst_3, logistic]
  · refine congrArg logistic (e.trans (projN_congr X N W ?_ ?_ ?_))
    · show ((y 0).val * 2048 + (y 1).val) / 16777216 = (y 0).val / 8192; omega
    · show ((y 0).val * 2048 + (y 1).val) / 2048 % 8192 = (y 0).val % 8192; omega
    · show 6672 + ((y 0).val * 2048 + (y 1).val) % 2048 = 6672 + (y 1).val; omega

theorem ref_ab (y : S65536x128.Idx) : (show EReal from val_main_v32 (F := Ideal) X N W y) = abArr X N W y := by
  have h0 : (y 0).val < 65536 := (y 0).isLt
  have h1 : (y 1).val < 128 := (y 1).isLt
  unfold abArr
  by_cases h : (y 1).val < 16
  · rw [if_pos h]
    refine Eq.trans (b := val_main_v31 (F := Ideal) X N W (ix2 ⟨(y 0).val, h0⟩ ⟨(y 1).val, h⟩)) ?_ ?_
    · pointwise [val_main_v32]
      rw [dif_pos h]
    · refine (val_main_v31_apply (F := Ideal) X N W _).trans ?_
      refine (congrArg (val_main_v30 (F := Ideal) X N W) (idx3_eq (idx_main_v31 (ix2 ⟨(y 0).val, h0⟩ ⟨(y 1).val, h⟩)))).trans ?_
      refine (cat_ab X N W _ _ _).trans (projN_congr X N W ?_ ?_ ?_)
      · show ((y 0).val * 16 + (y 1).val) / 131072 = (y 0).val / 8192; omega
      · show ((y 0).val * 16 + (y 1).val) / 16 % 8192 = (y 0).val % 8192; omega
      · show 2048 + ((y 0).val * 16 + (y 1).val) % 16 = 2048 + (y 1).val; omega
  · rw [if_neg h]
    pointwise [val_main_v32, val_main_call0_v0, val_main_c]
    rw [dif_neg h]
    exact sitofp_zero (φ := .f32)

theorem idx4_eq {n0 n1 n2 n3 : ℕ} (j : (⟨4, ![n0, n1, n2, n3]⟩ : Shape).Idx) : j = ix4 (j 0) (j 1) (j 2) (j 3) :=
  funext fun a => by match a with | ⟨0, _⟩ => rfl | ⟨1, _⟩ => rfl | ⟨2, _⟩ => rfl | ⟨3, _⟩ => rfl

theorem idx_g0 (b : Fin 8) (r : Fin 1) (l : Fin 8192) (c : Fin 1536) :
    idx_main_v37 (idx_main_v38 (ix4 b r l c)) = ix3 b ⟨l.val * 1 + r.val, by omega⟩ c := by
  have hr := r.isLt
  have hb := b.isLt
  have hl := l.isLt
  have hc := c.isLt
  funext a
  match a with
  | ⟨0, _⟩ => exact Fin.ext (show (((b.val * 8192 + l.val) * 1 + r.val) * 1536 + c.val) / 12582912 = b.val by omega)
  | ⟨1, _⟩ => exact Fin.ext (show (((b.val * 8192 + l.val) * 1 + r.val) * 1536 + c.val) / 1536 % 8192 = l.val * 1 + r.val by omega)
  | ⟨2, _⟩ => exact Fin.ext (show (((b.val * 8192 + l.val) * 1 + r.val) * 1536 + c.val) % 1536 = c.val by omega)

theorem at_g0 (b : Fin 8) (r : Fin 1) (l : Fin 8192) (c : Fin 1536) :
    (show EReal from val_main_v39 (F := Ideal) X N W (ix4 b r l c)) = qkvEntry X N W 0 1 b.val r.val l.val c.val := by
  have e : val_main_v39 (F := Ideal) X N W (ix4 b r l c) = val_main_v36 (F := Ideal) X N W (ix3 b ⟨l.val * 1 + r.val, by omega⟩ c) := by
    rw [val_main_v39_apply, Ideal.truncf_def, val_main_v38_apply, val_main_v37_apply, idx_g0]
  exact e.trans (cat_g0 X N W b ⟨l.val * 1 + r.val, by omega⟩ c)

theorem ref_g0 (y : S8x1x8192x1536.Idx) : (show EReal from val_main_v39 (F := Ideal) X N W y) = g0Arr X N W y :=
  (congrArg (val_main_v39 (F := Ideal) X N W) (idx4_eq y)).trans (at_g0 X N W (y 0) (y 1) (y 2) (y 3))

theorem idx_g1 (b : Fin 8) (r : Fin 4) (l : Fin 2048) (c : Fin 1536) :
    idx_main_v44 (idx_main_v45 (ix4 b r l c)) = ix3 b ⟨l.val * 4 + r.val, by omega⟩ c := by
  have hr := r.isLt
  have hb := b.isLt
  have hl := l.isLt
  have hc := c.isLt
  funext a
  match a with
  | ⟨0, _⟩ => exact Fin.ext (show (((b.val * 2048 + l.val) * 4 + r.val) * 1536 + c.val) / 12582912 = b.val by omega)
  | ⟨1, _⟩ => exact Fin.ext (show (((b.val * 2048 + l.val) * 4 + r.val) * 1536 + c.val) / 1536 % 8192 = l.val * 4 + r.val by omega)
  | ⟨2, _⟩ => exact Fin.ext (show (((b.val * 2048 + l.val) * 4 + r.val) * 1536 + c.val) % 1536 = c.val by omega)

theorem at_g1 (b : Fin 8) (r : Fin 4) (l : Fin 2048) (c : Fin 1536) :
    (show EReal from val_main_v46 (F := Ideal) X N W (ix4 b r l c)) = qkvEntry X N W 1 4 b.val r.val l.val c.val := by
  have e : val_main_v46 (F := Ideal) X N W (ix4 b r l c) = val_main_v43 (F := Ideal) X N W (ix3 b ⟨l.val * 4 + r.val, by omega⟩ c) := by
    rw [val_main_v46_apply, Ideal.truncf_def, val_main_v45_apply, val_main_v44_apply, idx_g1]
  exact e.trans (cat_g1 X N W b ⟨l.val * 4 + r.val, by omega⟩ c)

theorem ref_g1 (y : S8x4x2048x1536.Idx) : (show EReal from val_main_v46 (F := Ideal) X N W y) = g1Arr X N W y :=
  (congrArg (val_main_v46 (F := Ideal) X N W) (idx4_eq y)).trans (at_g1 X N W (y 0) (y 1) (y 2) (y 3))

theorem idx_g2 (b : Fin 8) (r : Fin 16) (l : Fin 512) (c : Fin 1536) :
    idx_main_v51 (idx_main_v52 (ix4 b r l c)) = ix3 b ⟨l.val * 16 + r.val, by omega⟩ c := by
  have hr := r.isLt
  have hb := b.isLt
  have hl := l.isLt
  have hc := c.isLt
  funext a
  match a with
  | ⟨0, _⟩ => exact Fin.ext (show (((b.val * 512 + l.val) * 16 + r.val) * 1536 + c.val) / 12582912 = b.val by omega)
  | ⟨1, _⟩ => exact Fin.ext (show (((b.val * 512 + l.val) * 16 + r.val) * 1536 + c.val) / 1536 % 8192 = l.val * 16 + r.val by omega)
  | ⟨2, _⟩ => exact Fin.ext (show (((b.val * 512 + l.val) * 16 + r.val) * 1536 + c.val) % 1536 = c.val by omega)

theorem at_g2 (b : Fin 8) (r : Fin 16) (l : Fin 512) (c : Fin 1536) :
    (show EReal from val_main_v53 (F := Ideal) X N W (ix4 b r l c)) = qkvEntry X N W 2 16 b.val r.val l.val c.val := by
  have e : val_main_v53 (F := Ideal) X N W (ix4 b r l c) = val_main_v50 (F := Ideal) X N W (ix3 b ⟨l.val * 16 + r.val, by omega⟩ c) := by
    rw [val_main_v53_apply, Ideal.truncf_def, val_main_v52_apply, val_main_v51_apply, idx_g2]
  exact e.trans (cat_g2 X N W b ⟨l.val * 16 + r.val, by omega⟩ c)

theorem ref_g2 (y : S8x16x512x1536.Idx) : (show EReal from val_main_v53 (F := Ideal) X N W y) = g2Arr X N W y :=
  (congrArg (val_main_v53 (F := Ideal) X N W) (idx4_eq y)).trans (at_g2 X N W (y 0) (y 1) (y 2) (y 3))

end Cert.Proj

end
-- ==== Proof.ProjHost.lean ====
module

public import proofs.«01_k».proof.Proof.ProjSpec
public import proofs.«01_k».proof.Proof.ProjTile
public import proofs.«01_k».proof.Proof.Gen.InprojIdeal.Frame
public import Idealize.ShloMosaic.Lib.Pointwise
public import Idealize.ShloMosaic.Lib.KernelVsHost
public import Idealize.ShloMosaic.Lib.StableHlo.RunRead

/-! What the projection kernel is handed by the lines of `main` before it: the tokens as one list of rows, the gain as one row, and the
weight matrix with its columns put in another order (the columns of the three attention groups gathered, the two per-head scalars
padded with zero columns to a full 128). -/

@[expose] public section

set_option maxRecDepth 16384

noncomputable section

namespace Cert.Proj

open Cert.InprojIdeal Cert.InprojIdeal.Gen Idealize.ShloMosaic

/-- The columns of the weights, reordered. -/
def catF (w : FVec Ideal S1024x8720 .f32) : FVec Ideal S1024x8832 .f32 :=
  concatenate S1024x8832 1
    [ ⟨S1024x2048, extractStridedSlice S1024x2048 ![0, 0] w slices_S1024x8720_S1024x2048_0_0⟩,
      ⟨S1024x128, pad S1024x128 ![0, 0] ![0, 112] ![0, 0] (extractStridedSlice S1024x16 ![0, 2048] w slices_S1024x8720_S1024x16_0_2048) (sitofp .f32 (constantI S_ 32 0#32)) pads_S1024x16_S1024x128_000_01120 h_S_⟩,
      ⟨S1024x512, extractStridedSlice S1024x512 ![0, 2064] w slices_S1024x8720_S1024x512_0_2064⟩,
      ⟨S1024x512, extractStridedSlice S1024x512 ![0, 3600] w slices_S1024x8720_S1024x512_0_3600⟩,
      ⟨S1024x512, extractStridedSlice S1024x512 ![0, 5136] w slices_S1024x8720_S1024x512_0_5136⟩,
      ⟨S1024x512, extractStridedSlice S1024x512 ![0, 2576] w slices_S1024x8720_S1024x512_0_2576⟩,
      ⟨S1024x512, extractStridedSlice S1024x512 ![0, 4112] w slices_S1024x8720_S1024x512_0_4112⟩,
      ⟨S1024x512, extractStridedSlice S1024x512 ![0, 5648] w slices_S1024x8720_S1024x512_0_5648⟩,
      ⟨S1024x512, extractStridedSlice S1024x512 ![0, 3088] w slices_S1024x8720_S1024x512_0_3088⟩,
      ⟨S1024x512, extractStridedSlice S1024x512 ![0, 4624] w slices_S1024x8720_S1024x512_0_4624⟩,
      ⟨S1024x512, extractStridedSlice S1024x512 ![0, 6160] w slices_S1024x8720_S1024x512_0_6160⟩,
      ⟨S1024x2048, extractStridedSlice S1024x2048 ![0, 6672] w slices_S1024x8720_S1024x2048_0_6672⟩ ]
    concatenates_S1024x2048_S1024x128_S1024x512_S1024x512_S1024x512_S1024x512_S1024x512_S1024x512_S1024x512_S1024x512_S1024x512_S1024x2048_S1024x8832_d1

/-- The reordered weights, from the weights as a matrix. -/
def catW (w : FVec Ideal S1024x8720 .f32) : FVec Ideal S1024x8832 .bf16 := truncf .bf16 (catF w) bitsLt_bf16_f32

variable (m : (ℓ : Loc nD τ sig) → Buf (Elt Ideal) ℓ)

theorem found_tokens (c : Dev nD) : V m c main_v0 = shapeCast S65536x1024 (m (c.tc.loc main_arg0)) shapeCasts_S8x8192x1024_S65536x1024 := by
  unfold V
  simp only [List.flatten_cons, List.flatten_nil, List.cons_append, List.nil_append]
  after_reads_simp
  rfl

theorem found_gain (c : Dev nD) : V m c main_v18 = shapeCast S1x1024 (shapeCast S1024 (m (c.tc.loc main_arg1)) shapeCasts_S1x1024_S1024) shapeCasts_S1024_S1x1024 := by
  unfold V
  simp only [List.flatten_cons, List.flatten_nil, List.cons_append, List.nil_append]
  after_reads_simp
  rfl

theorem found_weights (c : Dev nD) : V m c main_v16 = catW (shapeCast S1024x8720 (m (c.tc.loc main_arg2)) shapeCasts_S1x1024x8720_S1024x8720) := by
  unfold V
  simp only [List.flatten_cons, List.flatten_nil, List.cons_append, List.nil_append]
  after_reads_simp
  rfl

/-- Which column of the weights stands at column `j` of the reordered ones; 8720 (no column) at the zero padding. -/
def catCol (j : ℕ) : ℕ :=
  if j < 2048 then j
  else if j < 2176 then (if j < 2064 then j else 8720)
  else if j < 6784 then 2064 + (j - 2176) % 1536 / 512 * 1536 + (j - 2176) / 1536 * 512 + (j - 2176) % 512
  else j - 112

/-- A weight at a plain column number; zero where there is no such column. -/
def wAt (W : FVec Ideal S1x1024x8720 .f32) (k : Fin 1024) (c : ℕ) : EReal := if h : c < 8720 then W (ix3 0 k ⟨c, h⟩) else 0

theorem wAt_eq (W : FVec Ideal S1x1024x8720 .f32) (k : Fin 1024) {c : ℕ} {d : ℕ} (hd : d < 8720) (h : c = d) : wAt W k c = W (ix3 0 k ⟨d, hd⟩) := by
  subst h; exact dif_pos hd

theorem mat_apply (W : FVec Ideal S1x1024x8720 .f32) (k : Fin 1024) (c : Fin 8720) :
    shapeCast S1024x8720 W shapeCasts_S1x1024x8720_S1024x8720 (ix2 k c) = W (ix3 0 k c) :=
  shapeCast_apply W shapeCasts_S1x1024x8720_S1024x8720 (ix2 k c) (ix3 0 k c)
    (by rewrite [Shape.rowMajor_val_three, Shape.rowMajor_val_two]; show (0 * 1024 + k.val) * 8720 + c.val = k.val * 8720 + c.val; omega)

theorem mat_at (W : FVec Ideal S1x1024x8720 .f32) (k : Fin 1024) {c d : ℕ} (hd : d < 8720) (h : c = d) :
    shapeCast S1024x8720 W shapeCasts_S1x1024x8720_S1024x8720 (ix2 k ⟨d, hd⟩) = wAt W k c :=
  (mat_apply W k ⟨d, hd⟩).trans (wAt_eq W k hd h).symm

theorem tokens_apply (X : FVec Ideal S8x8192x1024 .f32) (b : Fin 8) (s : Fin 8192) (k : Fin 1024) (T : Fin 65536) (hT : T.val = b.val * 8192 + s.val) :
    shapeCast S65536x1024 X shapeCasts_S8x8192x1024_S65536x1024 (ix2 T k) = X (ix3 b s k) :=
  shapeCast_apply X shapeCasts_S8x8192x1024_S65536x1024 (ix2 T k) (ix3 b s k)
    (by rewrite [Shape.rowMajor_val_three, Shape.rowMajor_val_two]; show (b.val * 8192 + s.val) * 1024 + k.val = T.val * 1024 + k.val; omega)

theorem gain_apply (N : FVec Ideal S1x1024 .f32) (k : Fin 1024) :
    shapeCast S1x1024 (shapeCast S1024 N shapeCasts_S1x1024_S1024) shapeCasts_S1024_S1x1024 (ix2 0 k) = N (ix2 0 k) := by
  pointwise []

/-- One entry of a block's product: the projection of that row, at the column that the reordering put there. -/
theorem entry_rows {x0 : FVec Ideal S512x1024 .f32} {x1 : FVec Ideal S1x1024 .f32} {x2 : FVec Ideal S1024x8832 .bf16}
    (X : FVec Ideal S8x8192x1024 .f32) (N : FVec Ideal S1x1024 .f32) (W : FVec Ideal S1x1024x8720 .f32)
    (b : Fin 8) (s : Fin 8192) (r : Fin 512) (j : Fin 8832) (hx0 : ∀ k, x0 (ix2 r k) = X (ix3 b s k)) (hx1 : ∀ k, x1 (ix2 0 k) = N (ix2 0 k))
    (hx2 : ∀ k, x2 (ix2 k j) = wAt W k (catCol j)) :
    entry (k0_pay2 x0 x1) x2 r j = projN X N W b s (catCol j) := by
  rw [entry_eq]
  by_cases h : catCol j < 8720
  · refine Eq.trans ?_ (dif_pos (⟨b.2, s.2, h⟩ : b.val < 8 ∧ s.val < 8192 ∧ catCol j < 8720)).symm
    refine Finset.sum_congr rfl fun k _ => ?_
    refine congrArg₂ (fun a b : EReal => a * b) ((rows_apply x0 x1 r k).trans ?_) ((hx2 k).trans (wAt_eq W k h rfl))
    simp only [hx0, hx1]
    rfl
  · refine Eq.trans ?_ (dif_neg (fun h' : b.val < 8 ∧ s.val < 8192 ∧ catCol j < 8720 => h h'.2.2)).symm
    exact Finset.sum_eq_zero fun k _ => by rw [hx2, wAt, dif_neg h, mul_zero]

end Cert.Proj

end
-- ==== Proof.ProjCat.lean ====
module

public import proofs.«01_k».proof.Proof.ProjHost

/-! The reordered weights read at an entry: the twelve pieces of the concatenation, told apart by the column. -/

@[expose] public section

set_option maxRecDepth 16384

noncomputable section

namespace Cert.Proj

open Cert.InprojIdeal Cert.InprojIdeal.Gen Idealize.ShloMosaic

theorem off_axis {n0 n1 n2 : ℕ} (k : Fin n0) (i : Fin n1) (j : Fin n2) (h : (⟨2, ![n0, n1]⟩ : Shape).rank = (⟨2, ![n0, n2]⟩ : Shape).rank) :
    ∀ b : Fin (⟨2, ![n0, n1]⟩ : Shape).rank, b.cast h ≠ (1 : Fin 2) →
      ((ix2 k i : (⟨2, ![n0, n1]⟩ : Shape).Idx) b).val = ((ix2 k j : (⟨2, ![n0, n2]⟩ : Shape).Idx) (b.cast h)).val :=
  fun b hb => by match b with | ⟨0, _⟩ => rfl | ⟨1, _⟩ => exact absurd rfl hb

/-- How many columns some first pieces take. -/
abbrev width (l : List Shape) : ℕ := (l.map fun s => if h : s.rank = 2 then s.size ((1 : Fin 2).cast h.symm) else 0).sum

theorem before0 : width [] = 0 := by decide +kernel
theorem before1 : width [S1024x2048] = 2048 := by decide +kernel
theorem before2 : width [S1024x2048, S1024x128] = 2176 := by decide +kernel
theorem before3 : width [S1024x2048, S1024x128, S1024x512] = 2688 := by decide +kernel
theorem before4 : width [S1024x2048, S1024x128, S1024x512, S1024x512] = 3200 := by decide +kernel
theorem before5 : width [S1024x2048, S1024x128, S1024x512, S1024x512, S1024x512] = 3712 := by decide +kernel
theorem before6 : width [S1024x2048, S1024x128, S1024x512, S1024x512, S1024x512, S1024x512] = 4224 := by decide +kernel
theorem before7 : width [S1024x2048, S1024x128, S1024x512, S1024x512, S1024x512, S1024x512, S1024x512] = 4736 := by decide +kernel
theorem before8 : width [S1024x2048, S1024x128, S1024x512, S1024x512, S1024x512, S1024x512, S1024x512, S1024x512] = 5248 := by decide +kernel
theorem before9 : width [S1024x2048, S1024x128, S1024x512, S1024x512, S1024x512, S1024x512, S1024x512, S1024x512, S1024x512] = 5760 := by decide +kernel
theorem before10 : width [S1024x2048, S1024x128, S1024x512, S1024x512, S1024x512, S1024x512, S1024x512, S1024x512, S1024x512, S1024x512] = 6272 := by decide +kernel
theorem before11 : width [S1024x2048, S1024x128, S1024x512, S1024x512, S1024x512, S1024x512, S1024x512, S1024x512, S1024x512, S1024x512, S1024x512] = 6784 := by decide +kernel

section Pieces
variable (w : FVec Ideal S1024x8720 .f32) (k : Fin 1024) (j : Fin 8832)

theorem piece0 (h : 0 ≤ j.val) (h' : j.val < 2048) : catF w (ix2 k j) = w (ix2 k ⟨0 + (j.val - 0), by omega⟩) :=
  (concatenate_apply_piece 1 _ _ (ix2 k j) 0 (by show 0 < 12; decide) S1024x2048
    (extractStridedSlice S1024x2048 ![0, 0] w slices_S1024x8720_S1024x2048_0_0)
    (by simp only [List.getElem_cons_succ, List.getElem_cons_zero]) rfl 0 (by exact before0) (ix2 k ⟨j.val - 0, by omega⟩)
    (off_axis (n0 := 1024) (n1 := 2048) (n2 := 8832) k _ j rfl) (show 0 + (j.val - 0) = j.val by omega)).trans
  (congrArg w (funext fun a => Fin.ext (by match a with | ⟨0, _⟩ => exact Nat.zero_add k.val | ⟨1, _⟩ => rfl)))

theorem piece1 (h : 2048 ≤ j.val) (h' : j.val < 2176) :
    catF w (ix2 k j) = pad S1024x128 ![0, 0] ![0, 112] ![0, 0] (extractStridedSlice S1024x16 ![0, 2048] w slices_S1024x8720_S1024x16_0_2048)
      (sitofp .f32 (constantI S_ 32 0#32) : FVec Ideal S_ .f32) pads_S1024x16_S1024x128_000_01120 h_S_ (ix2 k ⟨j.val - 2048, by omega⟩) :=
  (concatenate_apply_piece 1 _ _ (ix2 k j) 1 (by show 1 < 12; decide) S1024x128
    (pad S1024x128 ![0, 0] ![0, 112] ![0, 0] (extractStridedSlice S1024x16 ![0, 2048] w slices_S1024x8720_S1024x16_0_2048) (sitofp .f32 (constantI S_ 32 0#32) : FVec Ideal S_ .f32) pads_S1024x16_S1024x128_000_01120 h_S_)
    (by simp only [List.getElem_cons_succ, List.getElem_cons_zero]) rfl 2048 (by exact before1) (ix2 k ⟨j.val - 2048, by omega⟩)
    (off_axis (n0 := 1024) (n1 := 128) (n2 := 8832) k _ j rfl) (show 2048 + (j.val - 2048) = j.val by omega))

theorem padded_in (c : ℕ) (hc : c < 128) (h : c < 16) :
    pad S1024x128 ![0, 0] ![0, 112] ![0, 0] (extractStridedSlice S1024x16 ![0, 2048] w slices_S1024x8720_S1024x16_0_2048)
      (sitofp .f32 (constantI S_ 32 0#32) : FVec Ideal S_ .f32) pads_S1024x16_S1024x128_000_01120 h_S_ (ix2 k ⟨c, hc⟩) = w (ix2 k ⟨2048 + c, by omega⟩) := by
  pointwise []
  rw [dif_pos h]

theorem padded_out (c : ℕ) (hc : c < 128) (h : ¬ c < 16) :
    (show EReal from pad S1024x128 ![0, 0] ![0, 112] ![0, 0] (extractStridedSlice S1024x16 ![0, 2048] w slices_S1024x8720_S1024x16_0_2048)
      (sitofp .f32 (constantI S_ 32 0#32) : FVec Ideal S_ .f32) pads_S1024x16_S1024x128_000_01120 h_S_ (ix2 k ⟨c, hc⟩)) = 0 := by
  pointwise []
  rw [dif_neg h]
  exact sitofp_zero (φ := .f32)

theorem piece2 (h : 2176 ≤ j.val) (h' : j.val < 2688) : catF w (ix2 k j) = w (ix2 k ⟨2064 + (j.val - 2176), by omega⟩) :=
  (concatenate_apply_piece 1 _ _ (ix2 k j) 2 (by show 2 < 12; decide) S1024x512
    (extractStridedSlice S1024x512 ![0, 2064] w slices_S1024x8720_S1024x512_0_2064)
    (by simp only [List.getElem_cons_succ, List.getElem_cons_zero]) rfl 2176 (by exact before2) (ix2 k ⟨j.val - 2176, by omega⟩)
    (off_axis (n0 := 1024) (n1 := 512) (n2 := 8832) k _ j rfl) (show 2176 + (j.val - 2176) = j.val by omega)).trans
  (congrArg w (funext fun a => Fin.ext (by match a with | ⟨0, _⟩ => exact Nat.zero_add k.val | ⟨1, _⟩ => rfl)))

theorem piece3 (h : 2688 ≤ j.val) (h' : j.val < 3200) : catF w (ix2 k j) = w (ix2 k ⟨3600 + (j.val - 2688), by omega⟩) :=
  (concatenate_apply_piece 1 _ _ (ix2 k j) 3 (by show 3 < 12; decide) S1024x512
    (extractStridedSlice S1024x512 ![0, 3600] w slices_S1024x8720_S1024x512_0_3600)
    (by simp only [List.getElem_cons_succ, List.getElem_cons_zero]) rfl 2688 (by exact before3) (ix2 k ⟨j.val - 2688, by omega⟩)
    (off_axis (n0 := 1024) (n1 := 512) (n2 := 8832) k _ j rfl) (show 2688 + (j.val - 2688) = j.val by omega)).trans
  (congrArg w (funext fun a => Fin.ext (by match a with | ⟨0, _⟩ => exact Nat.zero_add k.val | ⟨1, _⟩ => rfl)))

theorem piece4 (h : 3200 ≤ j.val) (h' : j.val < 3712) : catF w (ix2 k j) = w (ix2 k ⟨5136 + (j.val - 3200), by omega⟩) :=
  (concatenate_apply_piece 1 _ _ (ix2 k j) 4 (by show 4 < 12; decide) S1024x512
    (extractStridedSlice S1024x512 ![0, 5136] w slices_S1024x8720_S1024x512_0_5136)
    (by simp only [List.getElem_cons_succ, List.getElem_cons_zero]) rfl 3200 (by exact before4) (ix2 k ⟨j.val - 3200, by omega⟩)
    (off_axis (n0 := 1024) (n1 := 512) (n2 := 8832) k _ j rfl) (show 3200 + (j.val - 3200) = j.val by omega)).trans
  (congrArg w (funext fun a => Fin.ext (by match a with | ⟨0, _⟩ => exact Nat.zero_add k.val | ⟨1, _⟩ => rfl)))

theorem piece5 (h : 3712 ≤ j.val) (h' : j.val < 4224) : catF w (ix2 k j) = w (ix2 k ⟨2576 + (j.val - 3712), by omega⟩) :=
  (concatenate_apply_piece 1 _ _ (ix2 k j) 5 (by show 5 < 12; decide) S1024x512
    (extractStridedSlice S1024x512 ![0, 2576] w slices_S1024x8720_S1024x512_0_2576)
    (by simp only [List.getElem_cons_succ, List.getElem_cons_zero]) rfl 3712 (by exact before5) (ix2 k ⟨j.val - 3712, by omega⟩)
    (off_axis (n0 := 1024) (n1 := 512) (n2 := 8832) k _ j rfl) (show 3712 + (j.val - 3712) = j.val by omega)).trans
  (congrArg w (funext fun a => Fin.ext (by match a with | ⟨0, _⟩ => exact Nat.zero_add k.val | ⟨1, _⟩ => rfl)))

theorem piece6 (h : 4224 ≤ j.val) (h' : j.val < 4736) : catF w (ix2 k j) = w (ix2 k ⟨4112 + (j.val - 4224), by omega⟩) :=
  (concatenate_apply_piece 1 _ _ (ix2 k j) 6 (by show 6 < 12; decide) S1024x512
    (extractStridedSlice S1024x512 ![0, 4112] w slices_S1024x8720_S1024x512_0_4112)
    (by simp only [List.getElem_cons_succ, List.getElem_cons_zero]) rfl 4224 (by exact before6) (ix2 k ⟨j.val - 4224, by omega⟩)
    (off_axis (n0 := 1024) (n1 := 512) (n2 := 8832) k _ j rfl) (show 4224 + (j.val - 4224) = j.val by omega)).trans
  (congrArg w (funext fun a => Fin.ext (by match a with | ⟨0, _⟩ => exact Nat.zero_add k.val | ⟨1, _⟩ => rfl)))

theorem piece7 (h : 4736 ≤ j.val) (h' : j.val < 5248) : catF w (ix2 k j) = w (ix2 k ⟨5648 + (j.val - 4736), by omega⟩) :=
  (concatenate_apply_piece 1 _ _ (ix2 k j) 7 (by show 7 < 12; decide) S1024x512
    (extractStridedSlice S1024x512 ![0, 5648] w slices_S1024x8720_S1024x512_0_5648)
    (by simp only [List.getElem_cons_succ, List.getElem_cons_zero]) rfl 4736 (by exact before7) (ix2 k ⟨j.val - 4736, by omega⟩)
    (off_axis (n0 := 1024) (n1 := 512) (n2 := 8832) k _ j rfl) (show 4736 + (j.val - 4736) = j.val by omega)).trans
  (congrArg w (funext fun a => Fin.ext (by match a with | ⟨0, _⟩ => exact Nat.zero_add k.val | ⟨1, _⟩ => rfl)))

theorem piece8 (h : 5248 ≤ j.val) (h' : j.val < 5760) : catF w (ix2 k j) = w (ix2 k ⟨3088 + (j.val - 5248), by omega⟩) :=
  (concatenate_apply_piece 1 _ _ (ix2 k j) 8 (by show 8 < 12; decide) S1024x512
    (extractStridedSlice S1024x512 ![0, 3088] w slices_S1024x8720_S1024x512_0_3088)
    (by simp only [List.getElem_cons_succ, List.getElem_cons_zero]) rfl 5248 (by exact before8) (ix2 k ⟨j.val - 5248, by omega⟩)
    (off_axis (n0 := 1024) (n1 := 512) (n2 := 8832) k _ j rfl) (show 5248 + (j.val - 5248) = j.val by omega)).trans
  (congrArg w (funext fun a => Fin.ext (by match a with | ⟨0, _⟩ => exact Nat.zero_add k.val | ⟨1, _⟩ => rfl)))

theorem piece9 (h : 5760 ≤ j.val) (h' : j.val < 6272) : catF w (ix2 k j) = w (ix2 k ⟨4624 + (j.val - 5760), by omega⟩) :=
  (concatenate_apply_piece 1 _ _ (ix2 k j) 9 (by show 9 < 12; decide) S1024x512
    (extractStridedSlice S1024x512 ![0, 4624] w slices_S1024x8720_S1024x512_0_4624)
    (by simp only [List.getElem_cons_succ, List.getElem_cons_zero]) rfl 5760 (by exact before9) (ix2 k ⟨j.val - 5760, by omega⟩)
    (off_axis (n0 := 1024) (n1 := 512) (n2 := 8832) k _ j rfl) (show 5760 + (j.val - 5760) = j.val by omega)).trans
  (congrArg w (funext fun a => Fin.ext (by match a with | ⟨0, _⟩ => exact Nat.zero_add k.val | ⟨1, _⟩ => rfl)))

theorem piece10 (h : 6272 ≤ j.val) (h' : j.val < 6784) : catF w (ix2 k j) = w (ix2 k ⟨6160 + (j.val - 6272), by omega⟩) :=
  (concatenate_apply_piece 1 _ _ (ix2 k j) 10 (by show 10 < 12; decide) S1024x512
    (extractStridedSlice S1024x512 ![0, 6160] w slices_S1024x8720_S1024x512_0_6160)
    (by simp only [List.getElem_cons_succ, List.getElem_cons_zero]) rfl 6272 (by exact before10) (ix2 k ⟨j.val - 6272, by omega⟩)
    (off_axis (n0 := 1024) (n1 := 512) (n2 := 8832) k _ j rfl) (show 6272 + (j.val - 6272) = j.val by omega)).trans
  (congrArg w (funext fun a => Fin.ext (by match a with | ⟨0, _⟩ => exact Nat.zero_add k.val | ⟨1, _⟩ => rfl)))

theorem piece11 (h : 6784 ≤ j.val) (h' : j.val < 8832) : catF w (ix2 k j) = w (ix2 k ⟨6672 + (j.val - 6784), by omega⟩) :=
  (concatenate_apply_piece 1 _ _ (ix2 k j) 11 (by show 11 < 12; decide) S1024x2048
    (extractStridedSlice S1024x2048 ![0, 6672] w slices_S1024x8720_S1024x2048_0_6672)
    (by simp only [List.getElem_cons_succ, List.getElem_cons_zero]) rfl 6784 (by exact before11) (ix2 k ⟨j.val - 6784, by omega⟩)
    (off_axis (n0 := 1024) (n1 := 2048) (n2 := 8832) k _ j rfl) (show 6784 + (j.val - 6784) = j.val by omega)).trans
  (congrArg w (funext fun a => Fin.ext (by match a with | ⟨0, _⟩ => exact Nat.zero_add k.val | ⟨1, _⟩ => rfl)))

end Pieces

theorem catW_apply (W : FVec Ideal S1x1024x8720 .f32) (k : Fin 1024) (j : Fin 8832) :
    (show EReal from catW (shapeCast S1024x8720 W shapeCasts_S1x1024x8720_S1024x8720) (ix2 k j)) = wAt W k (catCol j) := by
  have hj := j.isLt
  have at' : ∀ {c d : ℕ} (hd : d < 8720) (_ : c = d), shapeCast S1024x8720 W shapeCasts_S1x1024x8720_S1024x8720 (ix2 k ⟨d, hd⟩) = wAt W k c := fun hd h => mat_at W k hd h
  by_cases c0 : j.val < 2048
  · exact (piece0 _ k j (by omega) (by omega)).trans (at' _ (by unfold catCol; split_ifs <;> omega))
  by_cases c1 : j.val < 2176
  · by_cases hp : j.val - 2048 < 16
    · exact ((piece1 _ k j (by omega) (by omega)).trans (padded_in _ k (j.val - 2048) (by omega) hp)).trans (at' _ (by unfold catCol; split_ifs <;> omega))
    · refine ((piece1 _ k j (by omega) (by omega)).trans (padded_out _ k (j.val - 2048) (by omega) hp)).trans ?_
      have hc : ¬ catCol j < 8720 := by unfold catCol; split_ifs <;> omega
      exact (show wAt W k (catCol j) = 0 from dif_neg hc).symm
  by_cases c2 : j.val < 2688
  · exact (piece2 _ k j (by omega) (by omega)).trans (at' _ (by unfold catCol; split_ifs <;> omega))
  by_cases c3 : j.val < 3200
  · exact (piece3 _ k j (by omega) (by omega)).trans (at' _ (by unfold catCol; split_ifs <;> omega))
  by_cases c4 : j.val < 3712
  · exact (piece4 _ k j (by omega) (by omega)).trans (at' _ (by unfold catCol; split_ifs <;> omega))
  by_cases c5 : j.val < 4224
  · exact (piece5 _ k j (by omega) (by omega)).trans (at' _ (by unfold catCol; split_ifs <;> omega))
  by_cases c6 : j.val < 4736
  · exact (piece6 _ k j (by omega) (by omega)).trans (at' _ (by unfold catCol; split_ifs <;> omega))
  by_cases c7 : j.val < 5248
  · exact (piece7 _ k j (by omega) (by omega)).trans (at' _ (by unfold catCol; split_ifs <;> omega))
  by_cases c8 : j.val < 5760
  · exact (piece8 _ k j (by omega) (by omega)).trans (at' _ (by unfold catCol; split_ifs <;> omega))
  by_cases c9 : j.val < 6272
  · exact (piece9 _ k j (by omega) (by omega)).trans (at' _ (by unfold catCol; split_ifs <;> omega))
  by_cases c10 : j.val < 6784
  · exact (piece10 _ k j (by omega) (by omega)).trans (at' _ (by unfold catCol; split_ifs <;> omega))
  exact (piece11 _ k j (by omega) (by omega)).trans (at' _ (by unfold catCol; split_ifs <;> omega))

end Cert.Proj

end
-- ==== Proof.ProjPiece.lean ====
/-
  THE INPUT PROJECTION, ONE BLOCK OF 512 ROWS: what the kernel's stores leave in each of its six results' buffers, as
  one function of the block. Every result is filled by several stores; each store's value is the tile of that one
  function which its rectangle names.
-/
module

public import proofs.«01_k».proof.Proof.ProjTile
public import proofs.«01_k».proof.Proof.Gen.InprojIdeal.Frame
public import Idealize.ShloMosaic.Lib.WholeRead
public import Idealize.ShloMosaic.Lib.Pipeline.ValueKit.Basic

@[expose] public section

set_option maxRecDepth 16384

noncomputable section

namespace Cert.Proj

open Cert.InprojIdeal Cert.InprojIdeal.Gen Idealize.ShloMosaic Idealize.ShloMosaic.TcCoe Idealize.SL.Sem

/-! ## The six functions -/

section Fns
variable (X : FVec Ideal S512x1024 .bf16) (W : FVec Ideal S1024x8832 .bf16)

def dnFn (y : S512x2048.Idx) : EReal := entry X W (y 0).val (y 1).val
def abFn (y : S512x128.Idx) : EReal := entry X W (y 0).val (2048 + (y 1).val)
def g0Fn (y : S1x1x512x1536.Idx) : EReal := entry X W (y 2).val (2176 + (y 3).val)
def g1Fn (y : S1x4x128x1536.Idx) : EReal := entry X W ((y 2).val * 4 + (y 1).val) (3712 + (y 3).val)
def g2Fn (y : S1x16x32x1536.Idx) : EReal := entry X W ((y 2).val * 16 + (y 1).val) (5248 + (y 3).val)
def gateFn (y : S512x2048.Idx) : EReal := logistic (entry X W (y 0).val (6784 + (y 1).val))

end Fns

/-! ## One store's value is a tile -/

section Pieces
variable (X : FVec Ideal S512x1024 .bf16) (x2 : FVec Ideal S1024x8832 .bf16)
variable (arg3 : Memref sig .tc .vmem S1024x8832 .bf16) (harg3 : arg3.IsWhole)

/-- A window of the weights as the kernel loads it. -/
abbrev wload (o : ℕ) (inb : ∀ a, (![0, o] : Fin 2 → ℕ) a + S1024x512.size a ≤ S1024x8832.size a) : FVec Ideal S1024x512 .bf16 :=
  View.readAt (Elt Ideal) arg3.view (Rect.unit (s := S1024x8832) ![0, o] S1024x512.size inb).toLoadRect (harg3.unread x2)

theorem wload_apply (o : ℕ) (ho : o + 512 ≤ 8832) (inb) (k : Fin 1024) (c : Fin 512) :
    wload x2 arg3 harg3 o inb (ix2 k c) = x2 (ix2 k ⟨o + c.val, by omega⟩) := by
  unfold wload
  rw [harg3.readAt_unread]
  exact congrArg x2 (funext fun a => Fin.ext (by
    match a with
    | ⟨0, _⟩ => show 0 + 1 * k.val = k.val; omega
    | ⟨1, _⟩ => show o + 1 * c.val = o + c.val; omega))

theorem prod_wload (o : ℕ) (ho : o + 512 ≤ 8832) (inb) (r c : Fin 512) :
    prod X (wload x2 arg3 harg3 o inb) (ix2 r c) = entry X x2 r (o + c) :=
  prod_window X x2 _ o ho (wload_apply x2 arg3 harg3 o ho inb) r c

theorem prod_wload_idx (o : ℕ) (ho : o + 512 ≤ 8832) (inb) (x : S512x512.Idx) :
    prod X (wload x2 arg3 harg3 o inb) x = entry X x2 (x 0).val (o + (x 1).val) := by
  have e : x = ix2 (x 0) (x 1) := funext fun a => by match a with | ⟨0, _⟩ => rfl | ⟨1, _⟩ => rfl
  conv_lhs => rw [e]
  exact prod_wload X x2 arg3 harg3 o ho inb (x 0) (x 1)

theorem dn_piece (o : ℕ) (ho : o + 512 ≤ 8832) (inb) (inb') (x : S512x512.Idx) :
    colTile X (wload x2 arg3 harg3 o inb) x = dnFn X x2 ((Rect.unit (s := S512x2048) ![0, o] ![512, 512] inb').emb x) := by
  show prod X _ x = _
  rw [prod_wload_idx X x2 arg3 harg3 o ho]
  show _ = entry X x2 (0 + 1 * (x 0).val) (o + 1 * (x 1).val)
  rw [Nat.zero_add, Nat.one_mul, Nat.one_mul]

theorem g0_piece (o q : ℕ) (hq : o = 2176 + q) (ho : o + 512 ≤ 8832) (inb) (inb') (x : S1x1x512x512.Idx) :
    headTile X (wload x2 arg3 harg3 o inb) x
      = g0Fn X x2 ((Rect.unit (s := S1x1x512x1536) ![0, 0, 0, q] ![1, 1, 512, 512] inb').emb x) := by
  refine (headTile_apply X _ x).trans ((prod_wload X x2 arg3 harg3 o ho inb (x 2) (x 3)).trans ?_)
  show _ = entry X x2 (0 + 1 * (x 2).val) (2176 + (q + 1 * (x 3).val))
  rw [Nat.zero_add, Nat.one_mul, Nat.one_mul, hq, Nat.add_assoc]

theorem gate_piece (o q : ℕ) (hq : o = 6784 + q) (ho : o + 512 ≤ 8832) (inb) (inb') (x : S512x512.Idx) :
    gateTile X (wload x2 arg3 harg3 o inb) x
      = gateFn X x2 ((Rect.unit (s := S512x2048) ![0, q] ![512, 512] inb').emb x) := by
  rw [gateTile_apply, prod_wload_idx X x2 arg3 harg3 o ho]
  show _ = logistic (entry X x2 (0 + 1 * (x 0).val) (6784 + (q + 1 * (x 1).val)))
  rw [Nat.zero_add, Nat.one_mul, Nat.one_mul, hq, Nat.add_assoc]

theorem ab_piece (inb : ∀ a, (![0, 2048] : Fin 2 → ℕ) a + S1024x128.size a ≤ S1024x8832.size a) (inb') (x : S512x128.Idx) :
    narrow X (View.readAt (Elt Ideal) arg3.view (Rect.unit (s := S1024x8832) ![0, 2048] S1024x128.size inb).toLoadRect (harg3.unread x2)) x
      = abFn X x2 ((Rect.unit (s := S512x128) ![0, 0] ![512, 128] inb').emb x) := by
  have e : x = ix2 (x 0) (x 1) := funext fun a => by match a with | ⟨0, _⟩ => rfl | ⟨1, _⟩ => rfl
  refine (congrArg (narrow X _) e).trans ((narrow_window X x2 _ 2048 (by omega) (fun k c => ?_) (x 0) (x 1)).trans ?_)
  rotate_left
  · show _ = entry X x2 (0 + 1 * (x 0).val) (2048 + (0 + 1 * (x 1).val))
    rw [Nat.zero_add, Nat.zero_add, Nat.one_mul, Nat.one_mul]
  · rw [harg3.readAt_unread]
    exact congrArg x2 (funext fun a => Fin.ext (by
      match a with
      | ⟨0, _⟩ => show 0 + 1 * k.val = k.val; omega
      | ⟨1, _⟩ => show 2048 + 1 * c.val = 2048 + c.val; omega))

/-- Position `y` of the scratch buffer: row `y 1`, lane slab `y 0`, lane `y 2` of the window at columns `o …`. -/
def heldFn (o : ℕ) (y : S4x512x128.Idx) : EReal := entry X x2 (y 1).val (o + ((y 0).val * 128 + (y 2).val))

/-- What the scratch buffer holds after the four lane slabs of the window at columns `o …` were stored into it. -/
def Holds (o : ℕ) (L : List (View.Piece (Elt Ideal) S4x512x128 .f32)) : Prop :=
  ∀ (v : Memref sig .tc .vmem S4x512x128 .f32) (y : S4x512x128.Idx),
    v.view.read (Elt Ideal) (v.view.writes (Elt Ideal) v.view.junk L) y
      = heldFn X x2 o y

theorem slab_piece (o s q : ℕ) (hq : q = s * 128) (hs : s < 4) (ho : o + 512 ≤ 8832) (h) (inb) (inb') (x : S1x512x128.Idx) :
    slab q h X (wload x2 arg3 harg3 o inb) x
      = heldFn X x2 o ((Rect.unit (s := S4x512x128) ![s, 0, 0] S1x512x128.size inb').emb x) := by
  refine (slab_apply q (by omega) h X _ x).trans ((prod_wload X x2 arg3 harg3 o ho inb (x 1) _).trans ?_)
  have h0 : (x 0).val < 1 := (x 0).isLt
  show entry X x2 (x 1).val (o + (q + (x 2).val)) = entry X x2 (0 + 1 * (x 1).val) (o + ((s + 1 * (x 0).val) * 128 + (0 + 1 * (x 2).val)))
  congr 1 <;> omega

/-- The four slabs fill the scratch buffer. -/
theorem slabs_cover (i0 i1 i2 i3) (p0 p1 p2 p3 : FVec Ideal S1x512x128 .f32) (y : S4x512x128.Idx) :
    ∃ pc ∈ ([⟨Rect.unit ![3, 0, 0] S1x512x128.size i3, p3⟩, ⟨Rect.unit ![2, 0, 0] S1x512x128.size i2, p2⟩,
      ⟨Rect.unit ![1, 0, 0] S1x512x128.size i1, p1⟩, ⟨Rect.unit ![0, 0, 0] S1x512x128.size i0, p0⟩] :
        List (View.Piece (Elt Ideal) S4x512x128 .f32)), y ∈ pc.1.set := by
  have hy0 : (y 0).val < 4 := (y 0).isLt
  have hy1 : (y 1).val < 512 := (y 1).isLt
  have hy2 : (y 2).val < 128 := (y 2).isLt
  have mem : ∀ (s : ℕ) (inb), (y 0).val = s → y ∈ (Rect.unit (s := S4x512x128) ![s, 0, 0] S1x512x128.size inb).set := by
    intro s inb e
    rw [Rect.mem_set_unit]
    intro a
    match a with
    | ⟨0, _⟩ => show s ≤ (y 0).val ∧ (y 0).val < s + 1; omega
    | ⟨1, _⟩ => show 0 ≤ (y 1).val ∧ (y 1).val < 0 + 512; omega
    | ⟨2, _⟩ => show 0 ≤ (y 2).val ∧ (y 2).val < 0 + 128; omega
  rcases (by omega : (y 0).val = 3 ∨ (y 0).val = 2 ∨ (y 0).val = 1 ∨ (y 0).val = 0) with e | e | e | e
  · exact ⟨_, List.mem_cons_self, mem 3 i3 e⟩
  · exact ⟨_, List.mem_cons_of_mem _ List.mem_cons_self, mem 2 i2 e⟩
  · exact ⟨_, List.mem_cons_of_mem _ (List.mem_cons_of_mem _ List.mem_cons_self), mem 1 i1 e⟩
  · exact ⟨_, List.mem_cons_of_mem _ (List.mem_cons_of_mem _ (List.mem_cons_of_mem _ List.mem_cons_self)), mem 0 i0 e⟩

theorem holds_of_slabs (o : ℕ) (ho : o + 512 ≤ 8832) (inb) (h0 h1 h2 h3) (i0 i1 i2 i3)
    (L : List (View.Piece (Elt Ideal) S4x512x128 .f32)) :
    Holds X x2 o
      (⟨Rect.unit ![3, 0, 0] S1x512x128.size i3, slab 384 h3 X (wload x2 arg3 harg3 o inb)⟩
        :: ⟨Rect.unit ![2, 0, 0] S1x512x128.size i2, slab 256 h2 X (wload x2 arg3 harg3 o inb)⟩
        :: ⟨Rect.unit ![1, 0, 0] S1x512x128.size i1, slab 128 h1 X (wload x2 arg3 harg3 o inb)⟩
        :: ⟨Rect.unit ![0, 0, 0] S1x512x128.size i0, slab 0 h0 X (wload x2 arg3 harg3 o inb)⟩ :: L) := by
  intro v y
  rw [show ∀ a b c d : View.Piece (Elt Ideal) S4x512x128 .f32, (a :: b :: c :: d :: L) = [a, b, c, d] ++ L from fun _ _ _ _ => rfl,
    View.writes_append]
  refine View.read_writes_apply_of_pieces (Val := Elt Ideal) (e := .f32) _ _ (heldFn X x2 o) _ ?_ y ?_
  · simp only [List.forall_mem_cons]
    refine ⟨?_, ?_, ?_, ?_, by simp⟩
    · exact slab_piece X x2 arg3 harg3 o 3 384 (by omega) (by omega) ho _ _ _
    · exact slab_piece X x2 arg3 harg3 o 2 256 (by omega) (by omega) ho _ _ _
    · exact slab_piece X x2 arg3 harg3 o 1 128 (by omega) (by omega) ho _ _ _
    · exact slab_piece X x2 arg3 harg3 o 0 0 (by omega) (by omega) ho _ _ _
  · exact slabs_cover _ _ _ _ _ _ _ _ y

variable {X x2}

theorem g1_piece (o : ℕ) {L : List (View.Piece (Elt Ideal) S4x512x128 .f32)} (hL : Holds X x2 o L)
    (v : Memref sig .tc .vmem S4x512x128 .f32) (s r q : ℕ) (hq : o + s * 128 = 3712 + q) (inb) (inb')
    (x : S1x1x128x128.Idx) :
    tile4 (v.view.readCov L { off := ![s, r, 0], size := S1x128x128.size, stride := ![1, 4, 1], inb := inb }) x
      = g1Fn X x2 ((Rect.unit (s := S1x4x128x1536) ![0, r, 0, q] ![1, 1, 128, 128] inb').emb x) := by
  refine (tile4_apply _ x).trans ?_
  have h1 : (x 1).val < 1 := (x 1).isLt
  refine (hL v _).trans ?_
  show entry X x2 (r + 4 * (x 2).val) (o + ((s + 1 * 0) * 128 + (0 + 1 * (x 3).val)))
    = entry X x2 ((0 + 1 * (x 2).val) * 4 + (r + 1 * (x 1).val)) (3712 + (q + 1 * (x 3).val))
  congr 1 <;> omega

theorem g2_piece (o : ℕ) {L : List (View.Piece (Elt Ideal) S4x512x128 .f32)} (hL : Holds X x2 o L)
    (v : Memref sig .tc .vmem S4x512x128 .f32) (s r q : ℕ) (hq : o + s * 128 = 5248 + q) (inb) (inb')
    (x : S1x1x32x128.Idx) :
    tile16 (v.view.readCov L { off := ![s, r, 0], size := S1x32x128.size, stride := ![1, 16, 1], inb := inb }) x
      = g2Fn X x2 ((Rect.unit (s := S1x16x32x1536) ![0, r, 0, q] ![1, 1, 32, 128] inb').emb x) := by
  refine (tile16_apply _ x).trans ?_
  have h1 : (x 1).val < 1 := (x 1).isLt
  refine (hL v _).trans ?_
  show entry X x2 (r + 16 * (x 2).val) (o + ((s + 1 * 0) * 128 + (0 + 1 * (x 3).val)))
    = entry X x2 ((0 + 1 * (x 2).val) * 16 + (r + 1 * (x 1).val)) (5248 + (q + 1 * (x 3).val))
  congr 1 <;> omega

end Pieces

/-! ## The run's stores -/

section Run
variable (c : Dev nD) (i : grid0.Coords) (arg1 : Memref sig .tc .vmem S512x1024 .f32) (harg1 : arg1.IsWhole)
  (arg2 : Memref sig .tc .vmem S1x1024 .f32) (harg2 : arg2.IsWhole) (arg3 : Memref sig .tc .vmem S1024x8832 .bf16) (harg3 : arg3.IsWhole)
  (arg4 : Memref sig .tc .vmem S512x2048 .bf16) (harg4 : arg4.IsWhole) (arg5 : Memref sig .tc .vmem S512x128 .f32) (harg5 : arg5.IsWhole)
  (arg6 : Memref sig .tc .vmem S1x1x512x1536 .bf16) (harg6 : arg6.IsWhole) (arg7 : Memref sig .tc .vmem S1x4x128x1536 .bf16) (harg7 : arg7.IsWhole)
  (arg8 : Memref sig .tc .vmem S1x16x32x1536 .bf16) (harg8 : arg8.IsWhole) (arg9 : Memref sig .tc .vmem S512x2048 .bf16) (harg9 : arg9.IsWhole)
  (arg10 : Memref sig .tc .vmem S512x1024 .bf16) (harg10 : arg10.IsWhole) (arg11 : Memref sig .tc .vmem S4x512x128 .f32) (harg11 : arg11.IsWhole)
  (x0 : Vec Ideal S512x1024 .f32) (x1 : Vec Ideal S1x1024 .f32) (x2 : Vec Ideal S1024x8832 .bf16)

theorem xn_eq : kernelRun0_A.sl.v20 (F := Ideal) c arg1 harg1 arg2 harg2 arg10 x0 x1 = k0_pay2 x0 x1 := by
  unfold kernelRun0_A.sl.v20 kernelRun0_A.sl.HS0_1
  rw [View.readCov_unit_lit _ _ _ (by decide)]
  congr 1
  · funext x
    rw [harg1.readAt_unread]
    exact congrArg x0 (funext fun a => Fin.ext (by
      match a with
      | ⟨0, _⟩ => show 0 + 1 * (x 0).val = (x 0).val; omega
      | ⟨1, _⟩ => show 0 + 1 * (x 1).val = (x 1).val; omega))
  · funext x
    rw [harg2.readAt_unread]
    exact congrArg x1 (funext fun a => Fin.ext (by
      match a with
      | ⟨0, _⟩ => show 0 + 1 * (x 0).val = (x 0).val; omega
      | ⟨1, _⟩ => show 0 + 1 * (x 1).val = (x 1).val; omega))

theorem holds4 : Holds (kernelRun0_A.sl.v20 (F := Ideal) c arg1 harg1 arg2 harg2 arg10 x0 x1) x2 3712 (kernelRun0_A.sl.HS1_4 (F := Ideal) c arg1 harg1 arg2 harg2 arg3 harg3 arg10 x0 x1 x2) := by
  unfold kernelRun0_A.sl.HS1_4
  exact holds_of_slabs _ x2 arg3 harg3 3712 (by omega) _ (by decide) (by decide) (by decide) (by decide) _ _ _ _ _

theorem holds8 : Holds (kernelRun0_A.sl.v20 (F := Ideal) c arg1 harg1 arg2 harg2 arg10 x0 x1) x2 4224 (kernelRun0_A.sl.HS1_8 (F := Ideal) c arg1 harg1 arg2 harg2 arg3 harg3 arg10 x0 x1 x2) := by
  unfold kernelRun0_A.sl.HS1_8 kernelRun0_A.sl.r_4 kernelRun0_A.sl.r_5
  exact holds_of_slabs _ x2 arg3 harg3 4224 (by omega) _ (by decide) (by decide) (by decide) (by decide) _ _ _ _ _

theorem holds12 : Holds (kernelRun0_A.sl.v20 (F := Ideal) c arg1 harg1 arg2 harg2 arg10 x0 x1) x2 4736 (kernelRun0_A.sl.HS1_12 (F := Ideal) c arg1 harg1 arg2 harg2 arg3 harg3 arg10 x0 x1 x2) := by
  unfold kernelRun0_A.sl.HS1_12 kernelRun0_A.sl.r_9
  exact holds_of_slabs _ x2 arg3 harg3 4736 (by omega) _ (by decide) (by decide) (by decide) (by decide) _ _ _ _ _

theorem holds16 : Holds (kernelRun0_A.sl.v20 (F := Ideal) c arg1 harg1 arg2 harg2 arg10 x0 x1) x2 5248 (kernelRun0_A.sl.HS1_16 (F := Ideal) c arg1 harg1 arg2 harg2 arg3 harg3 arg10 x0 x1 x2) := by
  unfold kernelRun0_A.sl.HS1_16
  exact holds_of_slabs _ x2 arg3 harg3 5248 (by omega) _ (by decide) (by decide) (by decide) (by decide) _ _ _ _ _

theorem holds20 : Holds (kernelRun0_A.sl.v20 (F := Ideal) c arg1 harg1 arg2 harg2 arg10 x0 x1) x2 5760 (kernelRun0_A.sl.HS1_20 (F := Ideal) c arg1 harg1 arg2 harg2 arg3 harg3 arg10 x0 x1 x2) := by
  unfold kernelRun0_A.sl.HS1_20 kernelRun0_A.sl.r_23 kernelRun0_A.sl.r_24
  exact holds_of_slabs _ x2 arg3 harg3 5760 (by omega) _ (by decide) (by decide) (by decide) (by decide) _ _ _ _ _

theorem holds24 : Holds (kernelRun0_A.sl.v20 (F := Ideal) c arg1 harg1 arg2 harg2 arg10 x0 x1) x2 6272 (kernelRun0_A.sl.HS1_24 (F := Ideal) c arg1 harg1 arg2 harg2 arg3 harg3 arg10 x0 x1 x2) := by
  unfold kernelRun0_A.sl.HS1_24 kernelRun0_A.sl.r_35
  exact holds_of_slabs _ x2 arg3 harg3 6272 (by omega) _ (by decide) (by decide) (by decide) (by decide) _ _ _ _ _

end Run

end Cert.Proj

end
-- ==== Proof.ProjBlock.lean ====
/-
  THE INPUT PROJECTION, ONE BLOCK OF 512 ROWS: each result's buffer after the body, as one function of the block.
-/
module

public import proofs.«01_k».proof.Proof.ProjPiece
public import proofs.«01_k».proof.Proof.Gen.InprojIdeal.Frame
public import Idealize.ShloMosaic.Lib.WholeRead
public import Idealize.ShloMosaic.Lib.Pipeline.ValueKit.Basic

@[expose] public section

set_option maxRecDepth 16384

noncomputable section

namespace Cert.Proj

open Cert.InprojIdeal Cert.InprojIdeal.Gen Idealize.ShloMosaic Idealize.ShloMosaic.TcCoe Idealize.SL.Sem

/-- Stores one by one: a list of them writes the tiles of `G` when the first does and the others do. -/
theorem forall_piece {s : Shape} {e : EltTy} (G : s.Idx → Elt Ideal e) (r : Rect s) (v : r.shape.Idx → Elt Ideal e)
    (l : List (View.Piece (Elt Ideal) s e)) (h : ∀ x, v x = G (r.emb x)) (t : ∀ p ∈ l, ∀ x, p.2 x = G (p.1.emb x)) :
    ∀ p ∈ (⟨r, v⟩ :: l : List (View.Piece (Elt Ideal) s e)), ∀ x, p.2 x = G (p.1.emb x) :=
  List.forall_mem_cons.2 ⟨h, t⟩

section Run
variable (c : Dev nD) (i : grid0.Coords) (arg1 : Memref sig .tc .vmem S512x1024 .f32) (harg1 : arg1.IsWhole)
  (arg2 : Memref sig .tc .vmem S1x1024 .f32) (harg2 : arg2.IsWhole) (arg3 : Memref sig .tc .vmem S1024x8832 .bf16) (harg3 : arg3.IsWhole)
  (arg4 : Memref sig .tc .vmem S512x2048 .bf16) (harg4 : arg4.IsWhole) (arg5 : Memref sig .tc .vmem S512x128 .f32) (harg5 : arg5.IsWhole)
  (arg6 : Memref sig .tc .vmem S1x1x512x1536 .bf16) (harg6 : arg6.IsWhole) (arg7 : Memref sig .tc .vmem S1x4x128x1536 .bf16) (harg7 : arg7.IsWhole)
  (arg8 : Memref sig .tc .vmem S1x16x32x1536 .bf16) (harg8 : arg8.IsWhole) (arg9 : Memref sig .tc .vmem S512x2048 .bf16) (harg9 : arg9.IsWhole)
  (arg10 : Memref sig .tc .vmem S512x1024 .bf16) (harg10 : arg10.IsWhole) (arg11 : Memref sig .tc .vmem S4x512x128 .f32) (harg11 : arg11.IsWhole)
  (x0 : Vec Ideal S512x1024 .f32) (x1 : Vec Ideal S1x1024 .f32) (x2 : Vec Ideal S1024x8832 .bf16)

theorem pieces3 : ∀ p ∈ (kernelRun0_A (F := Ideal) c i arg1 harg1 arg2 harg2 arg3 harg3 arg4 harg4 arg5 harg5 arg6 harg6 arg7 harg7 arg8 harg8 arg9 harg9 arg10 harg10 arg11 harg11 x0 x1 x2).1, ∀ x, p.2 x = dnFn (kernelRun0_A.sl.v20 (F := Ideal) c arg1 harg1 arg2 harg2 arg10 x0 x1) x2 (p.1.emb x) := by
  unfold kernelRun0_A
  dsimp only
  refine forall_piece _ _ _ _ (fun x => dn_piece _ x2 arg3 harg3 1536 (by omega) _ (by decide) x) ?_
  refine forall_piece _ _ _ _ (fun x => dn_piece _ x2 arg3 harg3 1024 (by omega) _ (by decide) x) ?_
  refine forall_piece _ _ _ _ (fun x => dn_piece _ x2 arg3 harg3 512 (by omega) _ (by decide) x) ?_
  refine forall_piece _ _ _ _ (fun x => dn_piece _ x2 arg3 harg3 0 (by omega) _ (by decide) x) ?_
  exact fun p h => absurd h List.not_mem_nil

theorem out3 (y : S512x2048.Idx) : out0_A_3 (F := Ideal) c i arg1 harg1 arg2 harg2 arg3 harg3 arg4 harg4 arg5 harg5 arg6 harg6 arg7 harg7 arg8 harg8 arg9 harg9 arg10 harg10 arg11 harg11 x0 x1 x2 y = dnFn (k0_pay2 x0 x1) x2 y := by
  unfold out0_A_3
  exact (View.read_writes_apply_of_pieces _ _ (dnFn (kernelRun0_A.sl.v20 (F := Ideal) c arg1 harg1 arg2 harg2 arg10 x0 x1) x2) _ (pieces3 c i arg1 harg1 arg2 harg2 arg3 harg3 arg4 harg4 arg5 harg5 arg6 harg6 arg7 harg7 arg8 harg8 arg9 harg9 arg10 harg10 arg11 harg11 x0 x1 x2) y (cover0_A_3 c i arg1 harg1 arg2 harg2 arg3 harg3 arg4 harg4 arg5 harg5 arg6 harg6 arg7 harg7 arg8 harg8 arg9 harg9 arg10 harg10 arg11 harg11 x0 x1 x2 y)).trans
    (congrArg (fun X => dnFn X x2 y) (xn_eq c arg1 harg1 arg2 harg2 arg10 x0 x1))

theorem pieces4 : ∀ p ∈ (kernelRun0_A (F := Ideal) c i arg1 harg1 arg2 harg2 arg3 harg3 arg4 harg4 arg5 harg5 arg6 harg6 arg7 harg7 arg8 harg8 arg9 harg9 arg10 harg10 arg11 harg11 x0 x1 x2).2.1, ∀ x, p.2 x = abFn (kernelRun0_A.sl.v20 (F := Ideal) c arg1 harg1 arg2 harg2 arg10 x0 x1) x2 (p.1.emb x) := by
  unfold kernelRun0_A
  dsimp only
  refine forall_piece _ _ _ _ (fun x => ab_piece _ x2 arg3 harg3 _ (by decide) x) ?_
  exact fun p h => absurd h List.not_mem_nil

theorem out4 (y : S512x128.Idx) : out0_A_4 (F := Ideal) c i arg1 harg1 arg2 harg2 arg3 harg3 arg4 harg4 arg5 harg5 arg6 harg6 arg7 harg7 arg8 harg8 arg9 harg9 arg10 harg10 arg11 harg11 x0 x1 x2 y = abFn (k0_pay2 x0 x1) x2 y := by
  unfold out0_A_4
  exact (View.read_writes_apply_of_pieces _ _ (abFn (kernelRun0_A.sl.v20 (F := Ideal) c arg1 harg1 arg2 harg2 arg10 x0 x1) x2) _ (pieces4 c i arg1 harg1 arg2 harg2 arg3 harg3 arg4 harg4 arg5 harg5 arg6 harg6 arg7 harg7 arg8 harg8 arg9 harg9 arg10 harg10 arg11 harg11 x0 x1 x2) y (cover0_A_4 c i arg1 harg1 arg2 harg2 arg3 harg3 arg4 harg4 arg5 harg5 arg6 harg6 arg7 harg7 arg8 harg8 arg9 harg9 arg10 harg10 arg11 harg11 x0 x1 x2 y)).trans
    (congrArg (fun X => abFn X x2 y) (xn_eq c arg1 harg1 arg2 harg2 arg10 x0 x1))

theorem pieces5 : ∀ p ∈ (kernelRun0_A (F := Ideal) c i arg1 harg1 arg2 harg2 arg3 harg3 arg4 harg4 arg5 harg5 arg6 harg6 arg7 harg7 arg8 harg8 arg9 harg9 arg10 harg10 arg11 harg11 x0 x1 x2).2.2.1, ∀ x, p.2 x = g0Fn (kernelRun0_A.sl.v20 (F := Ideal) c arg1 harg1 arg2 harg2 arg10 x0 x1) x2 (p.1.emb x) := by
  unfold kernelRun0_A
  dsimp only
  refine forall_piece _ _ _ _ (fun x => g0_piece _ x2 arg3 harg3 3200 1024 rfl (by omega) _ (by decide) x) ?_
  refine forall_piece _ _ _ _ (fun x => g0_piece _ x2 arg3 harg3 2688 512 rfl (by omega) _ (by decide) x) ?_
  refine forall_piece _ _ _ _ (fun x => g0_piece _ x2 arg3 harg3 2176 0 rfl (by omega) _ (by decide) x) ?_
  exact fun p h => absurd h List.not_mem_nil

theorem out5 (y : S1x1x512x1536.Idx) : out0_A_5 (F := Ideal) c i arg1 harg1 arg2 harg2 arg3 harg3 arg4 harg4 arg5 harg5 arg6 harg6 arg7 harg7 arg8 harg8 arg9 harg9 arg10 harg10 arg11 harg11 x0 x1 x2 y = g0Fn (k0_pay2 x0 x1) x2 y := by
  unfold out0_A_5
  exact (View.read_writes_apply_of_pieces _ _ (g0Fn (kernelRun0_A.sl.v20 (F := Ideal) c arg1 harg1 arg2 harg2 arg10 x0 x1) x2) _ (pieces5 c i arg1 harg1 arg2 harg2 arg3 harg3 arg4 harg4 arg5 harg5 arg6 harg6 arg7 harg7 arg8 harg8 arg9 harg9 arg10 harg10 arg11 harg11 x0 x1 x2) y (cover0_A_5 c i arg1 harg1 arg2 harg2 arg3 harg3 arg4 harg4 arg5 harg5 arg6 harg6 arg7 harg7 arg8 harg8 arg9 harg9 arg10 harg10 arg11 harg11 x0 x1 x2 y)).trans
    (congrArg (fun X => g0Fn X x2 y) (xn_eq c arg1 harg1 arg2 harg2 arg10 x0 x1))

theorem pieces6 : ∀ p ∈ (kernelRun0_A (F := Ideal) c i arg1 harg1 arg2 harg2 arg3 harg3 arg4 harg4 arg5 harg5 arg6 harg6 arg7 harg7 arg8 harg8 arg9 harg9 arg10 harg10 arg11 harg11 x0 x1 x2).2.2.2.1, ∀ x, p.2 x = g1Fn (kernelRun0_A.sl.v20 (F := Ideal) c arg1 harg1 arg2 harg2 arg10 x0 x1) x2 (p.1.emb x) := by
  unfold kernelRun0_A
  dsimp only
  refine forall_piece _ _ _ _ (fun x => g1_piece 4736 (holds12 c arg1 harg1 arg2 harg2 arg3 harg3 arg10 x0 x1 x2) arg11 3 3 1408 rfl inb_S4x512x128_S1x128x128_3_3_0_s_1_4_1 inb_S1x4x128x1536_S1x1x128x128_0_3_0_1408 x) ?_
  refine forall_piece _ _ _ _ (fun x => g1_piece 4736 (holds12 c arg1 harg1 arg2 harg2 arg3 harg3 arg10 x0 x1 x2) arg11 2 3 1280 rfl inb_S4x512x128_S1x128x128_2_3_0_s_1_4_1 inb_S1x4x128x1536_S1x1x128x128_0_3_0_1280 x) ?_
  refine forall_piece _ _ _ _ (fun x => g1_piece 4736 (holds12 c arg1 harg1 arg2 harg2 arg3 harg3 arg10 x0 x1 x2) arg11 1 3 1152 rfl inb_S4x512x128_S1x128x128_1_3_0_s_1_4_1 inb_S1x4x128x1536_S1x1x128x128_0_3_0_1152 x) ?_
  refine forall_piece _ _ _ _ (fun x => g1_piece 4736 (holds12 c arg1 harg1 arg2 harg2 arg3 harg3 arg10 x0 x1 x2) arg11 0 3 1024 rfl inb_S4x512x128_S1x128x128_0_3_0_s_1_4_1 inb_S1x4x128x1536_S1x1x128x128_0_3_0_1024 x) ?_
  refine forall_piece _ _ _ _ (fun x => g1_piece 4736 (holds12 c arg1 harg1 arg2 harg2 arg3 harg3 arg10 x0 x1 x2) arg11 3 2 1408 rfl inb_S4x512x128_S1x128x128_3_2_0_s_1_4_1 inb_S1x4x128x1536_S1x1x128x128_0_2_0_1408 x) ?_
  refine forall_piece _ _ _ _ (fun x => g1_piece 4736 (holds12 c arg1 harg1 arg2 harg2 arg3 harg3 arg10 x0 x1 x2) arg11 2 2 1280 rfl inb_S4x512x128_S1x128x128_2_2_0_s_1_4_1 inb_S1x4x128x1536_S1x1x128x128_0_2_0_1280 x) ?_
  refine forall_piece _ _ _ _ (fun x => g1_piece 4736 (holds12 c arg1 harg1 arg2 harg2 arg3 harg3 arg10 x0 x1 x2) arg11 1 2 1152 rfl inb_S4x512x128_S1x128x128_1_2_0_s_1_4_1 inb_S1x4x128x1536_S1x1x128x128_0_2_0_1152 x) ?_
  refine forall_piece _ _ _ _ (fun x => g1_piece 4736 (holds12 c arg1 harg1 arg2 harg2 arg3 harg3 arg10 x0 x1 x2) arg11 0 2 1024 rfl inb_S4x512x128_S1x128x128_0_2_0_s_1_4_1 inb_S1x4x128x1536_S1x1x128x128_0_2_0_1024 x) ?_
  refine forall_piece _ _ _ _ (fun x => g1_piece 4736 (holds12 c arg1 harg1 arg2 harg2 arg3 harg3 arg10 x0 x1 x2) arg11 3 1 1408 rfl inb_S4x512x128_S1x128x128_3_1_0_s_1_4_1 inb_S1x4x128x1536_S1x1x128x128_0_1_0_1408 x) ?_
  refine forall_piece _ _ _ _ (fun x => g1_piece 4736 (holds12 c arg1 harg1 arg2 harg2 arg3 harg3 arg10 x0 x1 x2) arg11 2 1 1280 rfl inb_S4x512x128_S1x128x128_2_1_0_s_1_4_1 inb_S1x4x128x1536_S1x1x128x128_0_1_0_1280 x) ?_
  refine forall_piece _ _ _ _ (fun x => g1_piece 4736 (holds12 c arg1 harg1 arg2 harg2 arg3 harg3 arg10 x0 x1 x2) arg11 1 1 1152 rfl inb_S4x512x128_S1x128x128_1_1_0_s_1_4_1 inb_S1x4x128x1536_S1x1x128x128_0_1_0_1152 x) ?_
  refine forall_piece _ _ _ _ (fun x => g1_piece 4736 (holds12 c arg1 harg1 arg2 harg2 arg3 harg3 arg10 x0 x1 x2) arg11 0 1 1024 rfl inb_S4x512x128_S1x128x128_0_1_0_s_1_4_1 inb_S1x4x128x1536_S1x1x128x128_0_1_0_1024 x) ?_
  refine forall_piece _ _ _ _ (fun x => g1_piece 4736 (holds12 c arg1 harg1 arg2 harg2 arg3 harg3 arg10 x0 x1 x2) arg11 3 0 1408 rfl inb_S4x512x128_S1x128x128_3_0_0_s_1_4_1 inb_S1x4x128x1536_S1x1x128x128_0_0_0_1408 x) ?_
  refine forall_piece _ _ _ _ (fun x => g1_piece 4736 (holds12 c arg1 harg1 arg2 harg2 arg3 harg3 arg10 x0 x1 x2) arg11 2 0 1280 rfl inb_S4x512x128_S1x128x128_2_0_0_s_1_4_1 inb_S1x4x128x1536_S1x1x128x128_0_0_0_1280 x) ?_
  refine forall_piece _ _ _ _ (fun x => g1_piece 4736 (holds12 c arg1 harg1 arg2 harg2 arg3 harg3 arg10 x0 x1 x2) arg11 1 0 1152 rfl inb_S4x512x128_S1x128x128_1_0_0_s_1_4_1 inb_S1x4x128x1536_S1x1x128x128_0_0_0_1152 x) ?_
  refine forall_piece _ _ _ _ (fun x => g1_piece 4736 (holds12 c arg1 harg1 arg2 harg2 arg3 harg3 arg10 x0 x1 x2) arg11 0 0 1024 rfl inb_S4x512x128_S1x128x128_0_0_0_s_1_4_1 inb_S1x4x128x1536_S1x1x128x128_0_0_0_1024 x) ?_
  refine forall_piece _ _ _ _ (fun x => g1_piece 4224 (holds8 c arg1 harg1 arg2 harg2 arg3 harg3 arg10 x0 x1 x2) arg11 3 3 896 rfl inb_S4x512x128_S1x128x128_3_3_0_s_1_4_1 inb_S1x4x128x1536_S1x1x128x128_0_3_0_896 x) ?_
  refine forall_piece _ _ _ _ (fun x => g1_piece 4224 (holds8 c arg1 harg1 arg2 harg2 arg3 harg3 arg10 x0 x1 x2) arg11 2 3 768 rfl inb_S4x512x128_S1x128x128_2_3_0_s_1_4_1 inb_S1x4x128x1536_S1x1x128x128_0_3_0_768 x) ?_
  refine forall_piece _ _ _ _ (fun x => g1_piece 4224 (holds8 c arg1 harg1 arg2 harg2 arg3 harg3 arg10 x0 x1 x2) arg11 1 3 640 rfl inb_S4x512x128_S1x128x128_1_3_0_s_1_4_1 inb_S1x4x128x1536_S1x1x128x128_0_3_0_640 x) ?_
  refine forall_piece _ _ _ _ (fun x => g1_piece 4224 (holds8 c arg1 harg1 arg2 harg2 arg3 harg3 arg10 x0 x1 x2) arg11 0 3 512 rfl inb_S4x512x128_S1x128x128_0_3_0_s_1_4_1 inb_S1x4x128x1536_S1x1x128x128_0_3_0_512 x) ?_
  refine forall_piece _ _ _ _ (fun x => g1_piece 4224 (holds8 c arg1 harg1 arg2 harg2 arg3 harg3 arg10 x0 x1 x2) arg11 3 2 896 rfl inb_S4x512x128_S1x128x128_3_2_0_s_1_4_1 inb_S1x4x128x1536_S1x1x128x128_0_2_0_896 x) ?_
  refine forall_piece _ _ _ _ (fun x => g1_piece 4224 (holds8 c arg1 harg1 arg2 harg2 arg3 harg3 arg10 x0 x1 x2) arg11 2 2 768 rfl inb_S4x512x128_S1x128x128_2_2_0_s_1_4_1 inb_S1x4x128x1536_S1x1x128x128_0_2_0_768 x) ?_
  refine forall_piece _ _ _ _ (fun x => g1_piece 4224 (holds8 c arg1 harg1 arg2 harg2 arg3 harg3 arg10 x0 x1 x2) arg11 1 2 640 rfl inb_S4x512x128_S1x128x128_1_2_0_s_1_4_1 inb_S1x4x128x1536_S1x1x128x128_0_2_0_640 x) ?_
  refine forall_piece _ _ _ _ (fun x => g1_piece 4224 (holds8 c arg1 harg1 arg2 harg2 arg3 harg3 arg10 x0 x1 x2) arg11 0 2 512 rfl inb_S4x512x128_S1x128x128_0_2_0_s_1_4_1 inb_S1x4x128x1536_S1x1x128x128_0_2_0_512 x) ?_
  refine forall_piece _ _ _ _ (fun x => g1_piece 4224 (holds8 c arg1 harg1 arg2 harg2 arg3 harg3 arg10 x0 x1 x2) arg11 3 1 896 rfl inb_S4x512x128_S1x128x128_3_1_0_s_1_4_1 inb_S1x4x128x1536_S1x1x128x128_0_1_0_896 x) ?_
  refine forall_piece _ _ _ _ (fun x => g1_piece 4224 (holds8 c arg1 harg1 arg2 harg2 arg3 harg3 arg10 x0 x1 x2) arg11 2 1 768 rfl inb_S4x512x128_S1x128x128_2_1_0_s_1_4_1 inb_S1x4x128x1536_S1x1x128x128_0_1_0_768 x) ?_
  refine forall_piece _ _ _ _ (fun x => g1_piece 4224 (holds8 c arg1 harg1 arg2 harg2 arg3 harg3 arg10 x0 x1 x2) arg11 1 1 640 rfl inb_S4x512x128_S1x128x128_1_1_0_s_1_4_1 inb_S1x4x128x1536_S1x1x128x128_0_1_0_640 x) ?_
  refine forall_piece _ _ _ _ (fun x => g1_piece 4224 (holds8 c arg1 harg1 arg2 harg2 arg3 harg3 arg10 x0 x1 x2) arg11 0 1 512 rfl inb_S4x512x128_S1x128x128_0_1_0_s_1_4_1 inb_S1x4x128x1536_S1x1x128x128_0_1_0_512 x) ?_
  refine forall_piece _ _ _ _ (fun x => g1_piece 4224 (holds8 c arg1 harg1 arg2 harg2 arg3 harg3 arg10 x0 x1 x2) arg11 3 0 896 rfl inb_S4x512x128_S1x128x128_3_0_0_s_1_4_1 inb_S1x4x128x1536_S1x1x128x128_0_0_0_896 x) ?_
  refine forall_piece _ _ _ _ (fun x => g1_piece 4224 (holds8 c arg1 harg1 arg2 harg2 arg3 harg3 arg10 x0 x1 x2) arg11 2 0 768 rfl inb_S4x512x128_S1x128x128_2_0_0_s_1_4_1 inb_S1x4x128x1536_S1x1x128x128_0_0_0_768 x) ?_
  refine forall_piece _ _ _ _ (fun x => g1_piece 4224 (holds8 c arg1 harg1 arg2 harg2 arg3 harg3 arg10 x0 x1 x2) arg11 1 0 640 rfl inb_S4x512x128_S1x128x128_1_0_0_s_1_4_1 inb_S1x4x128x1536_S1x1x128x128_0_0_0_640 x) ?_
  refine forall_piece _ _ _ _ (fun x => g1_piece 4224 (holds8 c arg1 harg1 arg2 harg2 arg3 harg3 arg10 x0 x1 x2) arg11 0 0 512 rfl inb_S4x512x128_S1x128x128_0_0_0_s_1_4_1 inb_S1x4x128x1536_S1x1x128x128_0_0_0_512 x) ?_
  refine forall_piece _ _ _ _ (fun x => g1_piece 3712 (holds4 c arg1 harg1 arg2 harg2 arg3 harg3 arg10 x0 x1 x2) arg11 3 3 384 rfl inb_S4x512x128_S1x128x128_3_3_0_s_1_4_1 inb_S1x4x128x1536_S1x1x128x128_0_3_0_384 x) ?_
  refine forall_piece _ _ _ _ (fun x => g1_piece 3712 (holds4 c arg1 harg1 arg2 harg2 arg3 harg3 arg10 x0 x1 x2) arg11 2 3 256 rfl inb_S4x512x128_S1x128x128_2_3_0_s_1_4_1 inb_S1x4x128x1536_S1x1x128x128_0_3_0_256 x) ?_
  refine forall_piece _ _ _ _ (fun x => g1_piece 3712 (holds4 c arg1 harg1 arg2 harg2 arg3 harg3 arg10 x0 x1 x2) arg11 1 3 128 rfl inb_S4x512x128_S1x128x128_1_3_0_s_1_4_1 inb_S1x4x128x1536_S1x1x128x128_0_3_0_128 x) ?_
  refine forall_piece _ _ _ _ (fun x => g1_piece 3712 (holds4 c arg1 harg1 arg2 harg2 arg3 harg3 arg10 x0 x1 x2) arg11 0 3 0 rfl inb_S4x512x128_S1x128x128_0_3_0_s_1_4_1 inb_S1x4x128x1536_S1x1x128x128_0_3_0_0 x) ?_
  refine forall_piece _ _ _ _ (fun x => g1_piece 3712 (holds4 c arg1 harg1 arg2 harg2 arg3 harg3 arg10 x0 x1 x2) arg11 3 2 384 rfl inb_S4x512x128_S1x128x128_3_2_0_s_1_4_1 inb_S1x4x128x1536_S1x1x128x128_0_2_0_384 x) ?_
  refine forall_piece _ _ _ _ (fun x => g1_piece 3712 (holds4 c arg1 harg1 arg2 harg2 arg3 harg3 arg10 x0 x1 x2) arg11 2 2 256 rfl inb_S4x512x128_S1x128x128_2_2_0_s_1_4_1 inb_S1x4x128x1536_S1x1x128x128_0_2_0_256 x) ?_
  refine forall_piece _ _ _ _ (fun x => g1_piece 3712 (holds4 c arg1 harg1 arg2 harg2 arg3 harg3 arg10 x0 x1 x2) arg11 1 2 128 rfl inb_S4x512x128_S1x128x128_1_2_0_s_1_4_1 inb_S1x4x128x1536_S1x1x128x128_0_2_0_128 x) ?_
  refine forall_piece _ _ _ _ (fun x => g1_piece 3712 (holds4 c arg1 harg1 arg2 harg2 arg3 harg3 arg10 x0 x1 x2) arg11 0 2 0 rfl inb_S4x512x128_S1x128x128_0_2_0_s_1_4_1 inb_S1x4x128x1536_S1x1x128x128_0_2_0_0 x) ?_
  refine forall_piece _ _ _ _ (fun x => g1_piece 3712 (holds4 c arg1 harg1 arg2 harg2 arg3 harg3 arg10 x0 x1 x2) arg11 3 1 384 rfl inb_S4x512x128_S1x128x128_3_1_0_s_1_4_1 inb_S1x4x128x1536_S1x1x128x128_0_1_0_384 x) ?_
  refine forall_piece _ _ _ _ (fun x => g1_piece 3712 (holds4 c arg1 harg1 arg2 harg2 arg3 harg3 arg10 x0 x1 x2) arg11 2 1 256 rfl inb_S4x512x128_S1x128x128_2_1_0_s_1_4_1 inb_S1x4x128x1536_S1x1x128x128_0_1_0_256 x) ?_
  refine forall_piece _ _ _ _ (fun x => g1_piece 3712 (holds4 c arg1 harg1 arg2 harg2 arg3 harg3 arg10 x0 x1 x2) arg11 1 1 128 rfl inb_S4x512x128_S1x128x128_1_1_0_s_1_4_1 inb_S1x4x128x1536_S1x1x128x128_0_1_0_128 x) ?_
  refine forall_piece _ _ _ _ (fun x => g1_piece 3712 (holds4 c arg1 harg1 arg2 harg2 arg3 harg3 arg10 x0 x1 x2) arg11 0 1 0 rfl inb_S4x512x128_S1x128x128_0_1_0_s_1_4_1 inb_S1x4x128x1536_S1x1x128x128_0_1_0_0 x) ?_
  refine forall_piece _ _ _ _ (fun x => g1_piece 3712 (holds4 c arg1 harg1 arg2 harg2 arg3 harg3 arg10 x0 x1 x2) arg11 3 0 384 rfl inb_S4x512x128_S1x128x128_3_0_0_s_1_4_1 inb_S1x4x128x1536_S1x1x128x128_0_0_0_384 x) ?_
  refine forall_piece _ _ _ _ (fun x => g1_piece 3712 (holds4 c arg1 harg1 arg2 harg2 arg3 harg3 arg10 x0 x1 x2) arg11 2 0 256 rfl inb_S4x512x128_S1x128x128_2_0_0_s_1_4_1 inb_S1x4x128x1536_S1x1x128x128_0_0_0_256 x) ?_
  refine forall_piece _ _ _ _ (fun x => g1_piece 3712 (holds4 c arg1 harg1 arg2 harg2 arg3 harg3 arg10 x0 x1 x2) arg11 1 0 128 rfl inb_S4x512x128_S1x128x128_1_0_0_s_1_4_1 inb_S1x4x128x1536_S1x1x128x128_0_0_0_128 x) ?_
  refine forall_piece _ _ _ _ (fun x => g1_piece 3712 (holds4 c arg1 harg1 arg2 harg2 arg3 harg3 arg10 x0 x1 x2) arg11 0 0 0 rfl inb_S4x512x128_S1x128x128_0_0_0_s_1_4_1 inb_S1x4x128x1536_S1x1x128x128_0_0_0_0 x) ?_
  exact fun p h => absurd h List.not_mem_nil

theorem out6 (y : S1x4x128x1536.Idx) : out0_A_6 (F := Ideal) c i arg1 harg1 arg2 harg2 arg3 harg3 arg4 harg4 arg5 harg5 arg6 harg6 arg7 harg7 arg8 harg8 arg9 harg9 arg10 harg10 arg11 harg11 x0 x1 x2 y = g1Fn (k0_pay2 x0 x1) x2 y := by
  unfold out0_A_6
  exact (View.read_writes_apply_of_pieces _ _ (g1Fn (kernelRun0_A.sl.v20 (F := Ideal) c arg1 harg1 arg2 harg2 arg10 x0 x1) x2) _ (pieces6 c i arg1 harg1 arg2 harg2 arg3 harg3 arg4 harg4 arg5 harg5 arg6 harg6 arg7 harg7 arg8 harg8 arg9 harg9 arg10 harg10 arg11 harg11 x0 x1 x2) y (cover0_A_6 c i arg1 harg1 arg2 harg2 arg3 harg3 arg4 harg4 arg5 harg5 arg6 harg6 arg7 harg7 arg8 harg8 arg9 harg9 arg10 harg10 arg11 harg11 x0 x1 x2 y)).trans
    (congrArg (fun X => g1Fn X x2 y) (xn_eq c arg1 harg1 arg2 harg2 arg10 x0 x1))

theorem pieces7 : ∀ p ∈ (kernelRun0_A (F := Ideal) c i arg1 harg1 arg2 harg2 arg3 harg3 arg4 harg4 arg5 harg5 arg6 harg6 arg7 harg7 arg8 harg8 arg9 harg9 arg10 harg10 arg11 harg11 x0 x1 x2).2.2.2.2.1, ∀ x, p.2 x = g2Fn (kernelRun0_A.sl.v20 (F := Ideal) c arg1 harg1 arg2 harg2 arg10 x0 x1) x2 (p.1.emb x) := by
  unfold kernelRun0_A
  dsimp only
  refine forall_piece _ _ _ _ (fun x => g2_piece 6272 (holds24 c arg1 harg1 arg2 harg2 arg3 harg3 arg10 x0 x1 x2) arg11 3 15 1408 rfl inb_S4x512x128_S1x32x128_3_15_0_s_1_16_1 inb_S1x16x32x1536_S1x1x32x128_0_15_0_1408 x) ?_
  refine forall_piece _ _ _ _ (fun x => g2_piece 6272 (holds24 c arg1 harg1 arg2 harg2 arg3 harg3 arg10 x0 x1 x2) arg11 2 15 1280 rfl inb_S4x512x128_S1x32x128_2_15_0_s_1_16_1 inb_S1x16x32x1536_S1x1x32x128_0_15_0_1280 x) ?_
  refine forall_piece _ _ _ _ (fun x => g2_piece 6272 (holds24 c arg1 harg1 arg2 harg2 arg3 harg3 arg10 x0 x1 x2) arg11 1 15 1152 rfl inb_S4x512x128_S1x32x128_1_15_0_s_1_16_1 inb_S1x16x32x1536_S1x1x32x128_0_15_0_1152 x) ?_
  refine forall_piece _ _ _ _ (fun x => g2_piece 6272 (holds24 c arg1 harg1 arg2 harg2 arg3 harg3 arg10 x0 x1 x2) arg11 0 15 1024 rfl inb_S4x512x128_S1x32x128_0_15_0_s_1_16_1 inb_S1x16x32x1536_S1x1x32x128_0_15_0_1024 x) ?_
  refine forall_piece _ _ _ _ (fun x => g2_piece 6272 (holds24 c arg1 harg1 arg2 harg2 arg3 harg3 arg10 x0 x1 x2) arg11 3 14 1408 rfl inb_S4x512x128_S1x32x128_3_14_0_s_1_16_1 inb_S1x16x32x1536_S1x1x32x128_0_14_0_1408 x) ?_
  refine forall_piece _ _ _ _ (fun x => g2_piece 6272 (holds24 c arg1 harg1 arg2 harg2 arg3 harg3 arg10 x0 x1 x2) arg11 2 14 1280 rfl inb_S4x512x128_S1x32x128_2_14_0_s_1_16_1 inb_S1x16x32x1536_S1x1x32x128_0_14_0_1280 x) ?_
  refine forall_piece _ _ _ _ (fun x => g2_piece 6272 (holds24 c arg1 harg1 arg2 harg2 arg3 harg3 arg10 x0 x1 x2) arg11 1 14 1152 rfl inb_S4x512x128_S1x32x128_1_14_0_s_1_16_1 inb_S1x16x32x1536_S1x1x32x128_0_14_0_1152 x) ?_
  refine forall_piece _ _ _ _ (fun x => g2_piece 6272 (holds24 c arg1 harg1 arg2 harg2 arg3 harg3 arg10 x0 x1 x2) arg11 0 14 1024 rfl inb_S4x512x128_S1x32x128_0_14_0_s_1_16_1 inb_S1x16x32x1536_S1x1x32x128_0_14_0_1024 x) ?_
  refine forall_piece _ _ _ _ (fun x => g2_piece 6272 (holds24 c arg1 harg1 arg2 harg2 arg3 harg3 arg10 x0 x1 x2) arg11 3 13 1408 rfl inb_S4x512x128_S1x32x128_3_13_0_s_1_16_1 inb_S1x16x32x1536_S1x1x32x128_0_13_0_1408 x) ?_
  refine forall_piece _ _ _ _ (fun x => g2_piece 6272 (holds24 c arg1 harg1 arg2 harg2 arg3 harg3 arg10 x0 x1 x2) arg11 2 13 1280 rfl inb_S4x512x128_S1x32x128_2_13_0_s_1_16_1 inb_S1x16x32x1536_S1x1x32x128_0_13_0_1280 x) ?_
  refine forall_piece _ _ _ _ (fun x => g2_piece 6272 (holds24 c arg1 harg1 arg2 harg2 arg3 harg3 arg10 x0 x1 x2) arg11 1 13 1152 rfl inb_S4x512x128_S1x32x128_1_13_0_s_1_16_1 inb_S1x16x32x1536_S1x1x32x128_0_13_0_1152 x) ?_
  refine forall_piece _ _ _ _ (fun x => g2_piece 6272 (holds24 c arg1 harg1 arg2 harg2 arg3 harg3 arg10 x0 x1 x2) arg11 0 13 1024 rfl inb_S4x512x128_S1x32x128_0_13_0_s_1_16_1 inb_S1x16x32x1536_S1x1x32x128_0_13_0_1024 x) ?_
  refine forall_piece _ _ _ _ (fun x => g2_piece 6272 (holds24 c arg1 harg1 arg2 harg2 arg3 harg3 arg10 x0 x1 x2) arg11 3 12 1408 rfl inb_S4x512x128_S1x32x128_3_12_0_s_1_16_1 inb_S1x16x32x1536_S1x1x32x128_0_12_0_1408 x) ?_
  refine forall_piece _ _ _ _ (fun x => g2_piece 6272 (holds24 c arg1 harg1 arg2 harg2 arg3 harg3 arg10 x0 x1 x2) arg11 2 12 1280 rfl inb_S4x512x128_S1x32x128_2_12_0_s_1_16_1 inb_S1x16x32x1536_S1x1x32x128_0_12_0_1280 x) ?_
  refine forall_piece _ _ _ _ (fun x => g2_piece 6272 (holds24 c arg1 harg1 arg2 harg2 arg3 harg3 arg10 x0 x1 x2) arg11 1 12 1152 rfl inb_S4x512x128_S1x32x128_1_12_0_s_1_16_1 inb_S1x16x32x1536_S1x1x32x128_0_12_0_1152 x) ?_
  refine forall_piece _ _ _ _ (fun x => g2_piece 6272 (holds24 c arg1 harg1 arg2 harg2 arg3 harg3 arg10 x0 x1 x2) arg11 0 12 1024 rfl inb_S4x512x128_S1x32x128_0_12_0_s_1_16_1 inb_S1x16x32x1536_S1x1x32x128_0_12_0_1024 x) ?_
  refine forall_piece _ _ _ _ (fun x => g2_piece 6272 (holds24 c arg1 harg1 arg2 harg2 arg3 harg3 arg10 x0 x1 x2) arg11 3 11 1408 rfl inb_S4x512x128_S1x32x128_3_11_0_s_1_16_1 inb_S1x16x32x1536_S1x1x32x128_0_11_0_1408 x) ?_
  refine forall_piece _ _ _ _ (fun x => g2_piece 6272 (holds24 c arg1 harg1 arg2 harg2 arg3 harg3 arg10 x0 x1 x2) arg11 2 11 1280 rfl inb_S4x512x128_S1x32x128_2_11_0_s_1_16_1 inb_S1x16x32x1536_S1x1x32x128_0_11_0_1280 x) ?_
  refine forall_piece _ _ _ _ (fun x => g2_piece 6272 (holds24 c arg1 harg1 arg2 harg2 arg3 harg3 arg10 x0 x1 x2) arg11 1 11 1152 rfl inb_S4x512x128_S1x32x128_1_11_0_s_1_16_1 inb_S1x16x32x1536_S1x1x32x128_0_11_0_1152 x) ?_
  refine forall_piece _ _ _ _ (fun x => g2_piece 6272 (holds24 c arg1 harg1 arg2 harg2 arg3 harg3 arg10 x0 x1 x2) arg11 0 11 1024 rfl inb_S4x512x128_S1x32x128_0_11_0_s_1_16_1 inb_S1x16x32x1536_S1x1x32x128_0_11_0_1024 x) ?_
  refine forall_piece _ _ _ _ (fun x => g2_piece 6272 (holds24 c arg1 harg1 arg2 harg2 arg3 harg3 arg10 x0 x1 x2) arg11 3 10 1408 rfl inb_S4x512x128_S1x32x128_3_10_0_s_1_16_1 inb_S1x16x32x1536_S1x1x32x128_0_10_0_1408 x) ?_
  refine forall_piece _ _ _ _ (fun x => g2_piece 6272 (holds24 c arg1 harg1 arg2 harg2 arg3 harg3 arg10 x0 x1 x2) arg11 2 10 1280 rfl inb_S4x512x128_S1x32x128_2_10_0_s_1_16_1 inb_S1x16x32x1536_S1x1x32x128_0_10_0_1280 x) ?_
  refine forall_piece _ _ _ _ (fun x => g2_piece 6272 (holds24 c arg1 harg1 arg2 harg2 arg3 harg3 arg10 x0 x1 x2) arg11 1 10 1152 rfl inb_S4x512x128_S1x32x128_1_10_0_s_1_16_1 inb_S1x16x32x1536_S1x1x32x128_0_10_0_1152 x) ?_
  refine forall_piece _ _ _ _ (fun x => g2_piece 6272 (holds24 c arg1 harg1 arg2 harg2 arg3 harg3 arg10 x0 x1 x2) arg11 0 10 1024 rfl inb_S4x512x128_S1x32x128_0_10_0_s_1_16_1 inb_S1x16x32x1536_S1x1x32x128_0_10_0_1024 x) ?_
  refine forall_piece _ _ _ _ (fun x => g2_piece 6272 (holds24 c arg1 harg1 arg2 harg2 arg3 harg3 arg10 x0 x1 x2) arg11 3 9 1408 rfl inb_S4x512x128_S1x32x128_3_9_0_s_1_16_1 inb_S1x16x32x1536_S1x1x32x128_0_9_0_1408 x) ?_
  refine forall_piece _ _ _ _ (fun x => g2_piece 6272 (holds24 c arg1 harg1 arg2 harg2 arg3 harg3 arg10 x0 x1 x2) arg11 2 9 1280 rfl inb_S4x512x128_S1x32x128_2_9_0_s_1_16_1 inb_S1x16x32x1536_S1x1x32x128_0_9_0_1280 x) ?_
  refine forall_piece _ _ _ _ (fun x => g2_piece 6272 (holds24 c arg1 harg1 arg2 harg2 arg3 harg3 arg10 x0 x1 x2) arg11 1 9 1152 rfl inb_S4x512x128_S1x32x128_1_9_0_s_1_16_1 inb_S1x16x32x1536_S1x1x32x128_0_9_0_1152 x) ?_
  refine forall_piece _ _ _ _ (fun x => g2_piece 6272 (holds24 c arg1 harg1 arg2 harg2 arg3 harg3 arg10 x0 x1 x2) arg11 0 9 1024 rfl inb_S4x512x128_S1x32x128_0_9_0_s_1_16_1 inb_S1x16x32x1536_S1x1x32x128_0_9_0_1024 x) ?_
  refine forall_piece _ _ _ _ (fun x => g2_piece 6272 (holds24 c arg1 harg1 arg2 harg2 arg3 harg3 arg10 x0 x1 x2) arg11 3 8 1408 rfl inb_S4x512x128_S1x32x128_3_8_0_s_1_16_1 inb_S1x16x32x1536_S1x1x32x128_0_8_0_1408 x) ?_
  refine forall_piece _ _ _ _ (fun x => g2_piece 6272 (holds24 c arg1 harg1 arg2 harg2 arg3 harg3 arg10 x0 x1 x2) arg11 2 8 1280 rfl inb_S4x512x128_S1x32x128_2_8_0_s_1_16_1 inb_S1x16x32x1536_S1x1x32x128_0_8_0_1280 x) ?_
  refine forall_piece _ _ _ _ (fun x => g2_piece 6272 (holds24 c arg1 harg1 arg2 harg2 arg3 harg3 arg10 x0 x1 x2) arg11 1 8 1152 rfl inb_S4x512x128_S1x32x128_1_8_0_s_1_16_1 inb_S1x16x32x1536_S1x1x32x128_0_8_0_1152 x) ?_
  refine forall_piece _ _ _ _ (fun x => g2_piece 6272 (holds24 c arg1 harg1 arg2 harg2 arg3 harg3 arg10 x0 x1 x2) arg11 0 8 1024 rfl inb_S4x512x128_S1x32x128_0_8_0_s_1_16_1 inb_S1x16x32x1536_S1x1x32x128_0_8_0_1024 x) ?_
  refine forall_piece _ _ _ _ (fun x => g2_piece 6272 (holds24 c arg1 harg1 arg2 harg2 arg3 harg3 arg10 x0 x1 x2) arg11 3 7 1408 rfl inb_S4x512x128_S1x32x128_3_7_0_s_1_16_1 inb_S1x16x32x1536_S1x1x32x128_0_7_0_1408 x) ?_
  refine forall_piece _ _ _ _ (fun x => g2_piece 6272 (holds24 c arg1 harg1 arg2 harg2 arg3 harg3 arg10 x0 x1 x2) arg11 2 7 1280 rfl inb_S4x512x128_S1x32x128_2_7_0_s_1_16_1 inb_S1x16x32x1536_S1x1x32x128_0_7_0_1280 x) ?_
  refine forall_piece _ _ _ _ (fun x => g2_piece 6272 (holds24 c arg1 harg1 arg2 harg2 arg3 harg3 arg10 x0 x1 x2) arg11 1 7 1152 rfl inb_S4x512x128_S1x32x128_1_7_0_s_1_16_1 inb_S1x16x32x1536_S1x1x32x128_0_7_0_1152 x) ?_
  refine forall_piece _ _ _ _ (fun x => g2_piece 6272 (holds24 c arg1 harg1 arg2 harg2 arg3 harg3 arg10 x0 x1 x2) arg11 0 7 1024 rfl inb_S4x512x128_S1x32x128_0_7_0_s_1_16_1 inb_S1x16x32x1536_S1x1x32x128_0_7_0_1024 x) ?_
  refine forall_piece _ _ _ _ (fun x => g2_piece 6272 (holds24 c arg1 harg1 arg2 harg2 arg3 harg3 arg10 x0 x1 x2) arg11 3 6 1408 rfl inb_S4x512x128_S1x32x128_3_6_0_s_1_16_1 inb_S1x16x32x1536_S1x1x32x128_0_6_0_1408 x) ?_
  refine forall_piece _ _ _ _ (fun x => g2_piece 6272 (holds24 c arg1 harg1 arg2 harg2 arg3 harg3 arg10 x0 x1 x2) arg11 2 6 1280 rfl inb_S4x512x128_S1x32x128_2_6_0_s_1_16_1 inb_S1x16x32x1536_S1x1x32x128_0_6_0_1280 x) ?_
  refine forall_piece _ _ _ _ (fun x => g2_piece 6272 (holds24 c arg1 harg1 arg2 harg2 arg3 harg3 arg10 x0 x1 x2) arg11 1 6 1152 rfl inb_S4x512x128_S1x32x128_1_6_0_s_1_16_1 inb_S1x16x32x1536_S1x1x32x128_0_6_0_1152 x) ?_
  refine forall_piece _ _ _ _ (fun x => g2_piece 6272 (holds24 c arg1 harg1 arg2 harg2 arg3 harg3 arg10 x0 x1 x2) arg11 0 6 1024 rfl inb_S4x512x128_S1x32x128_0_6_0_s_1_16_1 inb_S1x16x32x1536_S1x1x32x128_0_6_0_1024 x) ?_
  refine forall_piece _ _ _ _ (fun x => g2_piece 6272 (holds24 c arg1 harg1 arg2 harg2 arg3 harg3 arg10 x0 x1 x2) arg11 3 5 1408 rfl inb_S4x512x128_S1x32x128_3_5_0_s_1_16_1 inb_S1x16x32x1536_S1x1x32x128_0_5_0_1408 x) ?_
  refine forall_piece _ _ _ _ (fun x => g2_piece 6272 (holds24 c arg1 harg1 arg2 harg2 arg3 harg3 arg10 x0 x1 x2) arg11 2 5 1280 rfl inb_S4x512x128_S1x32x128_2_5_0_s_1_16_1 inb_S1x16x32x1536_S1x1x32x128_0_5_0_1280 x) ?_
  refine forall_piece _ _ _ _ (fun x => g2_piece 6272 (holds24 c arg1 harg1 arg2 harg2 arg3 harg3 arg10 x0 x1 x2) arg11 1 5 1152 rfl inb_S4x512x128_S1x32x128_1_5_0_s_1_16_1 inb_S1x16x32x1536_S1x1x32x128_0_5_0_1152 x) ?_
  refine forall_piece _ _ _ _ (fun x => g2_piece 6272 (holds24 c arg1 harg1 arg2 harg2 arg3 harg3 arg10 x0 x1 x2) arg11 0 5 1024 rfl inb_S4x512x128_S1x32x128_0_5_0_s_1_16_1 inb_S1x16x32x1536_S1x1x32x128_0_5_0_1024 x) ?_
  refine forall_piece _ _ _ _ (fun x => g2_piece 6272 (holds24 c arg1 harg1 arg2 harg2 arg3 harg3 arg10 x0 x1 x2) arg11 3 4 1408 rfl inb_S4x512x128_S1x32x128_3_4_0_s_1_16_1 inb_S1x16x32x1536_S1x1x32x128_0_4_0_1408 x) ?_
  refine forall_piece _ _ _ _ (fun x => g2_piece 6272 (holds24 c arg1 harg1 arg2 harg2 arg3 harg3 arg10 x0 x1 x2) arg11 2 4 1280 rfl inb_S4x512x128_S1x32x128_2_4_0_s_1_16_1 inb_S1x16x32x1536_S1x1x32x128_0_4_0_1280 x) ?_
  refine forall_piece _ _ _ _ (fun x => g2_piece 6272 (holds24 c arg1 harg1 arg2 harg2 arg3 harg3 arg10 x0 x1 x2) arg11 1 4 1152 rfl inb_S4x512x128_S1x32x128_1_4_0_s_1_16_1 inb_S1x16x32x1536_S1x1x32x128_0_4_0_1152 x) ?_
  refine forall_piece _ _ _ _ (fun x => g2_piece 6272 (holds24 c arg1 harg1 arg2 harg2 arg3 harg3 arg10 x0 x1 x2) arg11 0 4 1024 rfl inb_S4x512x128_S1x32x128_0_4_0_s_1_16_1 inb_S1x16x32x1536_S1x1x32x128_0_4_0_1024 x) ?_
  refine forall_piece _ _ _ _ (fun x => g2_piece 6272 (holds24 c arg1 harg1 arg2 harg2 arg3 harg3 arg10 x0 x1 x2) arg11 3 3 1408 rfl inb_S4x512x128_S1x32x128_3_3_0_s_1_16_1 inb_S1x16x32x1536_S1x1x32x128_0_3_0_1408 x) ?_
  refine forall_piece _ _ _ _ (fun x => g2_piece 6272 (holds24 c arg1 harg1 arg2 harg2 arg3 harg3 arg10 x0 x1 x2) arg11 2 3 1280 rfl inb_S4x512x128_S1x32x128_2_3_0_s_1_16_1 inb_S1x16x32x1536_S1x1x32x128_0_3_0_1280 x) ?_
  refine forall_piece _ _ _ _ (fun x => g2_piece 6272 (holds24 c arg1 harg1 arg2 harg2 arg3 harg3 arg10 x0 x1 x2) arg11 1 3 1152 rfl inb_S4x512x128_S1x32x128_1_3_0_s_1_16_1 inb_S1x16x32x1536_S1x1x32x128_0_3_0_1152 x) ?_
  refine forall_piece _ _ _ _ (fun x => g2_piece 6272 (holds24 c arg1 harg1 arg2 harg2 arg3 harg3 arg10 x0 x1 x2) arg11 0 3 1024 rfl inb_S4x512x128_S1x32x128_0_3_0_s_1_16_1 inb_S1x16x32x1536_S1x1x32x128_0_3_0_1024 x) ?_
  refine forall_piece _ _ _ _ (fun x => g2_piece 6272 (holds24 c arg1 harg1 arg2 harg2 arg3 harg3 arg10 x0 x1 x2) arg11 3 2 1408 rfl inb_S4x512x128_S1x32x128_3_2_0_s_1_16_1 inb_S1x16x32x1536_S1x1x32x128_0_2_0_1408 x) ?_
  refine forall_piece _ _ _ _ (fun x => g2_piece 6272 (holds24 c arg1 harg1 arg2 harg2 arg3 harg3 arg10 x0 x1 x2) arg11 2 2 1280 rfl inb_S4x512x128_S1x32x128_2_2_0_s_1_16_1 inb_S1x16x32x1536_S1x1x32x128_0_2_0_1280 x) ?_
  refine forall_piece _ _ _ _ (fun x => g2_piece 6272 (holds24 c arg1 harg1 arg2 harg2 arg3 harg3 arg10 x0 x1 x2) arg11 1 2 1152 rfl inb_S4x512x128_S1x32x128_1_2_0_s_1_16_1 inb_S1x16x32x1536_S1x1x32x128_0_2_0_1152 x) ?_
  refine forall_piece _ _ _ _ (fun x => g2_piece 6272 (holds24 c arg1 harg1 arg2 harg2 arg3 harg3 arg10 x0 x1 x2) arg11 0 2 1024 rfl inb_S4x512x128_S1x32x128_0_2_0_s_1_16_1 inb_S1x16x32x1536_S1x1x32x128_0_2_0_1024 x) ?_
  refine forall_piece _ _ _ _ (fun x => g2_piece 6272 (holds24 c arg1 harg1 arg2 harg2 arg3 harg3 arg10 x0 x1 x2) arg11 3 1 1408 rfl inb_S4x512x128_S1x32x128_3_1_0_s_1_16_1 inb_S1x16x32x1536_S1x1x32x128_0_1_0_1408 x) ?_
  refine forall_piece _ _ _ _ (fun x => g2_piece 6272 (holds24 c arg1 harg1 arg2 harg2 arg3 harg3 arg10 x0 x1 x2) arg11 2 1 1280 rfl inb_S4x512x128_S1x32x128_2_1_0_s_1_16_1 inb_S1x16x32x1536_S1x1x32x128_0_1_0_1280 x) ?_
  refine forall_piece _ _ _ _ (fun x => g2_piece 6272 (holds24 c arg1 harg1 arg2 harg2 arg3 harg3 arg10 x0 x1 x2) arg11 1 1 1152 rfl inb_S4x512x128_S1x32x128_1_1_0_s_1_16_1 inb_S1x16x32x1536_S1x1x32x128_0_1_0_1152 x) ?_
  refine forall_piece _ _ _ _ (fun x => g2_piece 6272 (holds24 c arg1 harg1 arg2 harg2 arg3 harg3 arg10 x0 x1 x2) arg11 0 1 1024 rfl inb_S4x512x128_S1x32x128_0_1_0_s_1_16_1 inb_S1x16x32x1536_S1x1x32x128_0_1_0_1024 x) ?_
  refine forall_piece _ _ _ _ (fun x => g2_piece 6272 (holds24 c arg1 harg1 arg2 harg2 arg3 harg3 arg10 x0 x1 x2) arg11 3 0 1408 rfl inb_S4x512x128_S1x32x128_3_0_0_s_1_16_1 inb_S1x16x32x1536_S1x1x32x128_0_0_0_1408 x) ?_
  refine forall_piece _ _ _ _ (fun x => g2_piece 6272 (holds24 c arg1 harg1 arg2 harg2 arg3 harg3 arg10 x0 x1 x2) arg11 2 0 1280 rfl inb_S4x512x128_S1x32x128_2_0_0_s_1_16_1 inb_S1x16x32x1536_S1x1x32x128_0_0_0_1280 x) ?_
  refine forall_piece _ _ _ _ (fun x => g2_piece 6272 (holds24 c arg1 harg1 arg2 harg2 arg3 harg3 arg10 x0 x1 x2) arg11 1 0 1152 rfl inb_S4x512x128_S1x32x128_1_0_0_s_1_16_1 inb_S1x16x32x1536_S1x1x32x128_0_0_0_1152 x) ?_
  refine forall_piece _ _ _ _ (fun x => g2_piece 6272 (holds24 c arg1 harg1 arg2 harg2 arg3 harg3 arg10 x0 x1 x2) arg11 0 0 1024 rfl inb_S4x512x128_S1x32x128_0_0_0_s_1_16_1 inb_S1x16x32x1536_S1x1x32x128_0_0_0_1024 x) ?_
  refine forall_piece _ _ _ _ (fun x => g2_piece 5760 (holds20 c arg1 harg1 arg2 harg2 arg3 harg3 arg10 x0 x1 x2) arg11 3 15 896 rfl inb_S4x512x128_S1x32x128_3_15_0_s_1_16_1 inb_S1x16x32x1536_S1x1x32x128_0_15_0_896 x) ?_
  refine forall_piece _ _ _ _ (fun x => g2_piece 5760 (holds20 c arg1 harg1 arg2 harg2 arg3 harg3 arg10 x0 x1 x2) arg11 2 15 768 rfl inb_S4x512x128_S1x32x128_2_15_0_s_1_16_1 inb_S1x16x32x1536_S1x1x32x128_0_15_0_768 x) ?_
  refine forall_piece _ _ _ _ (fun x => g2_piece 5760 (holds20 c arg1 harg1 arg2 harg2 arg3 harg3 arg10 x0 x1 x2) arg11 1 15 640 rfl inb_S4x512x128_S1x32x128_1_15_0_s_1_16_1 inb_S1x16x32x1536_S1x1x32x128_0_15_0_640 x) ?_
  refine forall_piece _ _ _ _ (fun x => g2_piece 5760 (holds20 c arg1 harg1 arg2 harg2 arg3 harg3 arg10 x0 x1 x2) arg11 0 15 512 rfl inb_S4x512x128_S1x32x128_0_15_0_s_1_16_1 inb_S1x16x32x1536_S1x1x32x128_0_15_0_512 x) ?_
  refine forall_piece _ _ _ _ (fun x => g2_piece 5760 (holds20 c arg1 harg1 arg2 harg2 arg3 harg3 arg10 x0 x1 x2) arg11 3 14 896 rfl inb_S4x512x128_S1x32x128_3_14_0_s_1_16_1 inb_S1x16x32x1536_S1x1x32x128_0_14_0_896 x) ?_
  refine forall_piece _ _ _ _ (fun x => g2_piece 5760 (holds20 c arg1 harg1 arg2 harg2 arg3 harg3 arg10 x0 x1 x2) arg11 2 14 768 rfl inb_S4x512x128_S1x32x128_2_14_0_s_1_16_1 inb_S1x16x32x1536_S1x1x32x128_0_14_0_768 x) ?_
  refine forall_piece _ _ _ _ (fun x => g2_piece 5760 (holds20 c arg1 harg1 arg2 harg2 arg3 harg3 arg10 x0 x1 x2) arg11 1 14 640 rfl inb_S4x512x128_S1x32x128_1_14_0_s_1_16_1 inb_S1x16x32x1536_S1x1x32x128_0_14_0_640 x) ?_
  refine forall_piece _ _ _ _ (fun x => g2_piece 5760 (holds20 c arg1 harg1 arg2 harg2 arg3 harg3 arg10 x0 x1 x2) arg11 0 14 512 rfl inb_S4x512x128_S1x32x128_0_14_0_s_1_16_1 inb_S1x16x32x1536_S1x1x32x128_0_14_0_512 x) ?_
  refine forall_piece _ _ _ _ (fun x => g2_piece 5760 (holds20 c arg1 harg1 arg2 harg2 arg3 harg3 arg10 x0 x1 x2) arg11 3 13 896 rfl inb_S4x512x128_S1x32x128_3_13_0_s_1_16_1 inb_S1x16x32x1536_S1x1x32x128_0_13_0_896 x) ?_
  refine forall_piece _ _ _ _ (fun x => g2_piece 5760 (holds20 c arg1 harg1 arg2 harg2 arg3 harg3 arg10 x0 x1 x2) arg11 2 13 768 rfl inb_S4x512x128_S1x32x128_2_13_0_s_1_16_1 inb_S1x16x32x1536_S1x1x32x128_0_13_0_768 x) ?_
  refine forall_piece _ _ _ _ (fun x => g2_piece 5760 (holds20 c arg1 harg1 arg2 harg2 arg3 harg3 arg10 x0 x1 x2) arg11 1 13 640 rfl inb_S4x512x128_S1x32x128_1_13_0_s_1_16_1 inb_S1x16x32x1536_S1x1x32x128_0_13_0_640 x) ?_
  refine forall_piece _ _ _ _ (fun x => g2_piece 5760 (holds20 c arg1 harg1 arg2 harg2 arg3 harg3 arg10 x0 x1 x2) arg11 0 13 512 rfl inb_S4x512x128_S1x32x128_0_13_0_s_1_16_1 inb_S1x16x32x1536_S1x1x32x128_0_13_0_512 x) ?_
  refine forall_piece _ _ _ _ (fun x => g2_piece 5760 (holds20 c arg1 harg1 arg2 harg2 arg3 harg3 arg10 x0 x1 x2) arg11 3 12 896 rfl inb_S4x512x128_S1x32x128_3_12_0_s_1_16_1 inb_S1x16x32x1536_S1x1x32x128_0_12_0_896 x) ?_
  refine forall_piece _ _ _ _ (fun x => g2_piece 5760 (holds20 c arg1 harg1 arg2 harg2 arg3 harg3 arg10 x0 x1 x2) arg11 2 12 768 rfl inb_S4x512x128_S1x32x128_2_12_0_s_1_16_1 inb_S1x16x32x1536_S1x1x32x128_0_12_0_768 x) ?_
  refine forall_piece _ _ _ _ (fun x => g2_piece 5760 (holds20 c arg1 harg1 arg2 harg2 arg3 harg3 arg10 x0 x1 x2) arg11 1 12 640 rfl inb_S4x512x128_S1x32x128_1_12_0_s_1_16_1 inb_S1x16x32x1536_S1x1x32x128_0_12_0_640 x) ?_
  refine forall_piece _ _ _ _ (fun x => g2_piece 5760 (holds20 c arg1 harg1 arg2 harg2 arg3 harg3 arg10 x0 x1 x2) arg11 0 12 512 rfl inb_S4x512x128_S1x32x128_0_12_0_s_1_16_1 inb_S1x16x32x1536_S1x1x32x128_0_12_0_512 x) ?_
  refine forall_piece _ _ _ _ (fun x => g2_piece 5760 (holds20 c arg1 harg1 arg2 harg2 arg3 harg3 arg10 x0 x1 x2) arg11 3 11 896 rfl inb_S4x512x128_S1x32x128_3_11_0_s_1_16_1 inb_S1x16x32x1536_S1x1x32x128_0_11_0_896 x) ?_
  refine forall_piece _ _ _ _ (fun x => g2_piece 5760 (holds20 c arg1 harg1 arg2 harg2 arg3 harg3 arg10 x0 x1 x2) arg11 2 11 768 rfl inb_S4x512x128_S1x32x128_2_11_0_s_1_16_1 inb_S1x16x32x1536_S1x1x32x128_0_11_0_768 x) ?_
  refine forall_piece _ _ _ _ (fun x => g2_piece 5760 (holds20 c arg1 harg1 arg2 harg2 arg3 harg3 arg10 x0 x1 x2) arg11 1 11 640 rfl inb_S4x512x128_S1x32x128_1_11_0_s_1_16_1 inb_S1x16x32x1536_S1x1x32x128_0_11_0_640 x) ?_
  refine forall_piece _ _ _ _ (fun x => g2_piece 5760 (holds20 c arg1 harg1 arg2 harg2 arg3 harg3 arg10 x0 x1 x2) arg11 0 11 512 rfl inb_S4x512x128_S1x32x128_0_11_0_s_1_16_1 inb_S1x16x32x1536_S1x1x32x128_0_11_0_512 x) ?_
  refine forall_piece _ _ _ _ (fun x => g2_piece 5760 (holds20 c arg1 harg1 arg2 harg2 arg3 harg3 arg10 x0 x1 x2) arg11 3 10 896 rfl inb_S4x512x128_S1x32x128_3_10_0_s_1_16_1 inb_S1x16x32x1536_S1x1x32x128_0_10_0_896 x) ?_
  refine forall_piece _ _ _ _ (fun x => g2_piece 5760 (holds20 c arg1 harg1 arg2 harg2 arg3 harg3 arg10 x0 x1 x2) arg11 2 10 768 rfl inb_S4x512x128_S1x32x128_2_10_0_s_1_16_1 inb_S1x16x32x1536_S1x1x32x128_0_10_0_768 x) ?_
  refine forall_piece _ _ _ _ (fun x => g2_piece 5760 (holds20 c arg1 harg1 arg2 harg2 arg3 harg3 arg10 x0 x1 x2) arg11 1 10 640 rfl inb_S4x512x128_S1x32x128_1_10_0_s_1_16_1 inb_S1x16x32x1536_S1x1x32x128_0_10_0_640 x) ?_
  refine forall_piece _ _ _ _ (fun x => g2_piece 5760 (holds20 c arg1 harg1 arg2 harg2 arg3 harg3 arg10 x0 x1 x2) arg11 0 10 512 rfl inb_S4x512x128_S1x32x128_0_10_0_s_1_16_1 inb_S1x16x32x1536_S1x1x32x128_0_10_0_512 x) ?_
  refine forall_piece _ _ _ _ (fun x => g2_piece 5760 (holds20 c arg1 harg1 arg2 harg2 arg3 harg3 arg10 x0 x1 x2) arg11 3 9 896 rfl inb_S4x512x128_S1x32x128_3_9_0_s_1_16_1 inb_S1x16x32x1536_S1x1x32x128_0_9_0_896 x) ?_
  refine forall_piece _ _ _ _ (fun x => g2_piece 5760 (holds20 c arg1 harg1 arg2 harg2 arg3 harg3 arg10 x0 x1 x2) arg11 2 9 768 rfl inb_S4x512x128_S1x32x128_2_9_0_s_1_16_1 inb_S1x16x32x1536_S1x1x32x128_0_9_0_768 x) ?_
  refine forall_piece _ _ _ _ (fun x => g2_piece 5760 (holds20 c arg1 harg1 arg2 harg2 arg3 harg3 arg10 x0 x1 x2) arg11 1 9 640 rfl inb_S4x512x128_S1x32x128_1_9_0_s_1_16_1 inb_S1x16x32x1536_S1x1x32x128_0_9_0_640 x) ?_
  refine forall_piece _ _ _ _ (fun x => g2_piece 5760 (holds20 c arg1 harg1 arg2 harg2 arg3 harg3 arg10 x0 x1 x2) arg11 0 9 512 rfl inb_S4x512x128_S1x32x128_0_9_0_s_1_16_1 inb_S1x16x32x1536_S1x1x32x128_0_9_0_512 x) ?_
  refine forall_piece _ _ _ _ (fun x => g2_piece 5760 (holds20 c arg1 harg1 arg2 harg2 arg3 harg3 arg10 x0 x1 x2) arg11 3 8 896 rfl inb_S4x512x128_S1x32x128_3_8_0_s_1_16_1 inb_S1x16x32x1536_S1x1x32x128_0_8_0_896 x) ?_
  refine forall_piece _ _ _ _ (fun x => g2_piece 5760 (holds20 c arg1 harg1 arg2 harg2 arg3 harg3 arg10 x0 x1 x2) arg11 2 8 768 rfl inb_S4x512x128_S1x32x128_2_8_0_s_1_16_1 inb_S1x16x32x1536_S1x1x32x128_0_8_0_768 x) ?_
  refine forall_piece _ _ _ _ (fun x => g2_piece 5760 (holds20 c arg1 harg1 arg2 harg2 arg3 harg3 arg10 x0 x1 x2) arg11 1 8 640 rfl inb_S4x512x128_S1x32x128_1_8_0_s_1_16_1 inb_S1x16x32x1536_S1x1x32x128_0_8_0_640 x) ?_
  refine forall_piece _ _ _ _ (fun x => g2_piece 5760 (holds20 c arg1 harg1 arg2 harg2 arg3 harg3 arg10 x0 x1 x2) arg11 0 8 512 rfl inb_S4x512x128_S1x32x128_0_8_0_s_1_16_1 inb_S1x16x32x1536_S1x1x32x128_0_8_0_512 x) ?_
  refine forall_piece _ _ _ _ (fun x => g2_piece 5760 (holds20 c arg1 harg1 arg2 harg2 arg3 harg3 arg10 x0 x1 x2) arg11 3 7 896 rfl inb_S4x512x128_S1x32x128_3_7_0_s_1_16_1 inb_S1x16x32x1536_S1x1x32x128_0_7_0_896 x) ?_
  refine forall_piece _ _ _ _ (fun x => g2_piece 5760 (holds20 c arg1 harg1 arg2 harg2 arg3 harg3 arg10 x0 x1 x2) arg11 2 7 768 rfl inb_S4x512x128_S1x32x128_2_7_0_s_1_16_1 inb_S1x16x32x1536_S1x1x32x128_0_7_0_768 x) ?_
  refine forall_piece _ _ _ _ (fun x => g2_piece 5760 (holds20 c arg1 harg1 arg2 harg2 arg3 harg3 arg10 x0 x1 x2) arg11 1 7 640 rfl inb_S4x512x128_S1x32x128_1_7_0_s_1_16_1 inb_S1x16x32x1536_S1x1x32x128_0_7_0_640 x) ?_
  refine forall_piece _ _ _ _ (fun x => g2_piece 5760 (holds20 c arg1 harg1 arg2 harg2 arg3 harg3 arg10 x0 x1 x2) arg11 0 7 512 rfl inb_S4x512x128_S1x32x128_0_7_0_s_1_16_1 inb_S1x16x32x1536_S1x1x32x128_0_7_0_512 x) ?_
  refine forall_piece _ _ _ _ (fun x => g2_piece 5760 (holds20 c arg1 harg1 arg2 harg2 arg3 harg3 arg10 x0 x1 x2) arg11 3 6 896 rfl inb_S4x512x128_S1x32x128_3_6_0_s_1_16_1 inb_S1x16x32x1536_S1x1x32x128_0_6_0_896 x) ?_
  refine forall_piece _ _ _ _ (fun x => g2_piece 5760 (holds20 c arg1 harg1 arg2 harg2 arg3 harg3 arg10 x0 x1 x2) arg11 2 6 768 rfl inb_S4x512x128_S1x32x128_2_6_0_s_1_16_1 inb_S1x16x32x1536_S1x1x32x128_0_6_0_768 x) ?_
  refine forall_piece _ _ _ _ (fun x => g2_piece 5760 (holds20 c arg1 harg1 arg2 harg2 arg3 harg3 arg10 x0 x1 x2) arg11 1 6 640 rfl inb_S4x512x128_S1x32x128_1_6_0_s_1_16_1 inb_S1x16x32x1536_S1x1x32x128_0_6_0_640 x) ?_
  refine forall_piece _ _ _ _ (fun x => g2_piece 5760 (holds20 c arg1 harg1 arg2 harg2 arg3 harg3 arg10 x0 x1 x2) arg11 0 6 512 rfl inb_S4x512x128_S1x32x128_0_6_0_s_1_16_1 inb_S1x16x32x1536_S1x1x32x128_0_6_0_512 x) ?_
  refine forall_piece _ _ _ _ (fun x => g2_piece 5760 (holds20 c arg1 harg1 arg2 harg2 arg3 harg3 arg10 x0 x1 x2) arg11 3 5 896 rfl inb_S4x512x128_S1x32x128_3_5_0_s_1_16_1 inb_S1x16x32x1536_S1x1x32x128_0_5_0_896 x) ?_
  refine forall_piece _ _ _ _ (fun x => g2_piece 5760 (holds20 c arg1 harg1 arg2 harg2 arg3 harg3 arg10 x0 x1 x2) arg11 2 5 768 rfl inb_S4x512x128_S1x32x128_2_5_0_s_1_16_1 inb_S1x16x32x1536_S1x1x32x128_0_5_0_768 x) ?_
  refine forall_piece _ _ _ _ (fun x => g2_piece 5760 (holds20 c arg1 harg1 arg2 harg2 arg3 harg3 arg10 x0 x1 x2) arg11 1 5 640 rfl inb_S4x512x128_S1x32x128_1_5_0_s_1_16_1 inb_S1x16x32x1536_S1x1x32x128_0_5_0_640 x) ?_
  refine forall_piece _ _ _ _ (fun x => g2_piece 5760 (holds20 c arg1 harg1 arg2 harg2 arg3 harg3 arg10 x0 x1 x2) arg11 0 5 512 rfl inb_S4x512x128_S1x32x128_0_5_0_s_1_16_1 inb_S1x16x32x1536_S1x1x32x128_0_5_0_512 x) ?_
  refine forall_piece _ _ _ _ (fun x => g2_piece 5760 (holds20 c arg1 harg1 arg2 harg2 arg3 harg3 arg10 x0 x1 x2) arg11 3 4 896 rfl inb_S4x512x128_S1x32x128_3_4_0_s_1_16_1 inb_S1x16x32x1536_S1x1x32x128_0_4_0_896 x) ?_
  refine forall_piece _ _ _ _ (fun x => g2_piece 5760 (holds20 c arg1 harg1 arg2 harg2 arg3 harg3 arg10 x0 x1 x2) arg11 2 4 768 rfl inb_S4x512x128_S1x32x128_2_4_0_s_1_16_1 inb_S1x16x32x1536_S1x1x32x128_0_4_0_768 x) ?_
  refine forall_piece _ _ _ _ (fun x => g2_piece 5760 (holds20 c arg1 harg1 arg2 harg2 arg3 harg3 arg10 x0 x1 x2) arg11 1 4 640 rfl inb_S4x512x128_S1x32x128_1_4_0_s_1_16_1 inb_S1x16x32x1536_S1x1x32x128_0_4_0_640 x) ?_
  refine forall_piece _ _ _ _ (fun x => g2_piece 5760 (holds20 c arg1 harg1 arg2 harg2 arg3 harg3 arg10 x0 x1 x2) arg11 0 4 512 rfl inb_S4x512x128_S1x32x128_0_4_0_s_1_16_1 inb_S1x16x32x1536_S1x1x32x128_0_4_0_512 x) ?_
  refine forall_piece _ _ _ _ (fun x => g2_piece 5760 (holds20 c arg1 harg1 arg2 harg2 arg3 harg3 arg10 x0 x1 x2) arg11 3 3 896 rfl inb_S4x512x128_S1x32x128_3_3_0_s_1_16_1 inb_S1x16x32x1536_S1x1x32x128_0_3_0_896 x) ?_
  refine forall_piece _ _ _ _ (fun x => g2_piece 5760 (holds20 c arg1 harg1 arg2 harg2 arg3 harg3 arg10 x0 x1 x2) arg11 2 3 768 rfl inb_S4x512x128_S1x32x128_2_3_0_s_1_16_1 inb_S1x16x32x1536_S1x1x32x128_0_3_0_768 x) ?_
  refine forall_piece _ _ _ _ (fun x => g2_piece 5760 (holds20 c arg1 harg1 arg2 harg2 arg3 harg3 arg10 x0 x1 x2) arg11 1 3 640 rfl inb_S4x512x128_S1x32x128_1_3_0_s_1_16_1 inb_S1x16x32x1536_S1x1x32x128_0_3_0_640 x) ?_
  refine forall_piece _ _ _ _ (fun x => g2_piece 5760 (holds20 c arg1 harg1 arg2 harg2 arg3 harg3 arg10 x0 x1 x2) arg11 0 3 512 rfl inb_S4x512x128_S1x32x128_0_3_0_s_1_16_1 inb_S1x16x32x1536_S1x1x32x128_0_3_0_512 x) ?_
  refine forall_piece _ _ _ _ (fun x => g2_piece 5760 (holds20 c arg1 harg1 arg2 harg2 arg3 harg3 arg10 x0 x1 x2) arg11 3 2 896 rfl inb_S4x512x128_S1x32x128_3_2_0_s_1_16_1 inb_S1x16x32x1536_S1x1x32x128_0_2_0_896 x) ?_
  refine forall_piece _ _ _ _ (fun x => g2_piece 5760 (holds20 c arg1 harg1 arg2 harg2 arg3 harg3 arg10 x0 x1 x2) arg11 2 2 768 rfl inb_S4x512x128_S1x32x128_2_2_0_s_1_16_1 inb_S1x16x32x1536_S1x1x32x128_0_2_0_768 x) ?_
  refine forall_piece _ _ _ _ (fun x => g2_piece 5760 (holds20 c arg1 harg1 arg2 harg2 arg3 harg3 arg10 x0 x1 x2) arg11 1 2 640 rfl inb_S4x512x128_S1x32x128_1_2_0_s_1_16_1 inb_S1x16x32x1536_S1x1x32x128_0_2_0_640 x) ?_
  refine forall_piece _ _ _ _ (fun x => g2_piece 5760 (holds20 c arg1 harg1 arg2 harg2 arg3 harg3 arg10 x0 x1 x2) arg11 0 2 512 rfl inb_S4x512x128_S1x32x128_0_2_0_s_1_16_1 inb_S1x16x32x1536_S1x1x32x128_0_2_0_512 x) ?_
  refine forall_piece _ _ _ _ (fun x => g2_piece 5760 (holds20 c arg1 harg1 arg2 harg2 arg3 harg3 arg10 x0 x1 x2) arg11 3 1 896 rfl inb_S4x512x128_S1x32x128_3_1_0_s_1_16_1 inb_S1x16x32x1536_S1x1x32x128_0_1_0_896 x) ?_
  refine forall_piece _ _ _ _ (fun x => g2_piece 5760 (holds20 c arg1 harg1 arg2 harg2 arg3 harg3 arg10 x0 x1 x2) arg11 2 1 768 rfl inb_S4x512x128_S1x32x128_2_1_0_s_1_16_1 inb_S1x16x32x1536_S1x1x32x128_0_1_0_768 x) ?_
  refine forall_piece _ _ _ _ (fun x => g2_piece 5760 (holds20 c arg1 harg1 arg2 harg2 arg3 harg3 arg10 x0 x1 x2) arg11 1 1 640 rfl inb_S4x512x128_S1x32x128_1_1_0_s_1_16_1 inb_S1x16x32x1536_S1x1x32x128_0_1_0_640 x) ?_
  refine forall_piece _ _ _ _ (fun x => g2_piece 5760 (holds20 c arg1 harg1 arg2 harg2 arg3 harg3 arg10 x0 x1 x2) arg11 0 1 512 rfl inb_S4x512x128_S1x32x128_0_1_0_s_1_16_1 inb_S1x16x32x1536_S1x1x32x128_0_1_0_512 x) ?_
  refine forall_piece _ _ _ _ (fun x => g2_piece 5760 (holds20 c arg1 harg1 arg2 harg2 arg3 harg3 arg10 x0 x1 x2) arg11 3 0 896 rfl inb_S4x512x128_S1x32x128_3_0_0_s_1_16_1 inb_S1x16x32x1536_S1x1x32x128_0_0_0_896 x) ?_
  refine forall_piece _ _ _ _ (fun x => g2_piece 5760 (holds20 c arg1 harg1 arg2 harg2 arg3 harg3 arg10 x0 x1 x2) arg11 2 0 768 rfl inb_S4x512x128_S1x32x128_2_0_0_s_1_16_1 inb_S1x16x32x1536_S1x1x32x128_0_0_0_768 x) ?_
  refine forall_piece _ _ _ _ (fun x => g2_piece 5760 (holds20 c arg1 harg1 arg2 harg2 arg3 harg3 arg10 x0 x1 x2) arg11 1 0 640 rfl inb_S4x512x128_S1x32x128_1_0_0_s_1_16_1 inb_S1x16x32x1536_S1x1x32x128_0_0_0_640 x) ?_
  refine forall_piece _ _ _ _ (fun x => g2_piece 5760 (holds20 c arg1 harg1 arg2 harg2 arg3 harg3 arg10 x0 x1 x2) arg11 0 0 512 rfl inb_S4x512x128_S1x32x128_0_0_0_s_1_16_1 inb_S1x16x32x1536_S1x1x32x128_0_0_0_512 x) ?_
  refine forall_piece _ _ _ _ (fun x => g2_piece 5248 (holds16 c arg1 harg1 arg2 harg2 arg3 harg3 arg10 x0 x1 x2) arg11 3 15 384 rfl inb_S4x512x128_S1x32x128_3_15_0_s_1_16_1 inb_S1x16x32x1536_S1x1x32x128_0_15_0_384 x) ?_
  refine forall_piece _ _ _ _ (fun x => g2_piece 5248 (holds16 c arg1 harg1 arg2 harg2 arg3 harg3 arg10 x0 x1 x2) arg11 2 15 256 rfl inb_S4x512x128_S1x32x128_2_15_0_s_1_16_1 inb_S1x16x32x1536_S1x1x32x128_0_15_0_256 x) ?_
  refine forall_piece _ _ _ _ (fun x => g2_piece 5248 (holds16 c arg1 harg1 arg2 harg2 arg3 harg3 arg10 x0 x1 x2) arg11 1 15 128 rfl inb_S4x512x128_S1x32x128_1_15_0_s_1_16_1 inb_S1x16x32x1536_S1x1x32x128_0_15_0_128 x) ?_
  refine forall_piece _ _ _ _ (fun x => g2_piece 5248 (holds16 c arg1 harg1 arg2 harg2 arg3 harg3 arg10 x0 x1 x2) arg11 0 15 0 rfl inb_S4x512x128_S1x32x128_0_15_0_s_1_16_1 inb_S1x16x32x1536_S1x1x32x128_0_15_0_0 x) ?_
  refine forall_piece _ _ _ _ (fun x => g2_piece 5248 (holds16 c arg1 harg1 arg2 harg2 arg3 harg3 arg10 x0 x1 x2) arg11 3 14 384 rfl inb_S4x512x128_S1x32x128_3_14_0_s_1_16_1 inb_S1x16x32x1536_S1x1x32x128_0_14_0_384 x) ?_
  refine forall_piece _ _ _ _ (fun x => g2_piece 5248 (holds16 c arg1 harg1 arg2 harg2 arg3 harg3 arg10 x0 x1 x2) arg11 2 14 256 rfl inb_S4x512x128_S1x32x128_2_14_0_s_1_16_1 inb_S1x16x32x1536_S1x1x32x128_0_14_0_256 x) ?_
  refine forall_piece _ _ _ _ (fun x => g2_piece 5248 (holds16 c arg1 harg1 arg2 harg2 arg3 harg3 arg10 x0 x1 x2) arg11 1 14 128 rfl inb_S4x512x128_S1x32x128_1_14_0_s_1_16_1 inb_S1x16x32x1536_S1x1x32x128_0_14_0_128 x) ?_
  refine forall_piece _ _ _ _ (fun x => g2_piece 5248 (holds16 c arg1 harg1 arg2 harg2 arg3 harg3 arg10 x0 x1 x2) arg11 0 14 0 rfl inb_S4x512x128_S1x32x128_0_14_0_s_1_16_1 inb_S1x16x32x1536_S1x1x32x128_0_14_0_0 x) ?_
  refine forall_piece _ _ _ _ (fun x => g2_piece 5248 (holds16 c arg1 harg1 arg2 harg2 arg3 harg3 arg10 x0 x1 x2) arg11 3 13 384 rfl inb_S4x512x128_S1x32x128_3_13_0_s_1_16_1 inb_S1x16x32x1536_S1x1x32x128_0_13_0_384 x) ?_
  refine forall_piece _ _ _ _ (fun x => g2_piece 5248 (holds16 c arg1 harg1 arg2 harg2 arg3 harg3 arg10 x0 x1 x2) arg11 2 13 256 rfl inb_S4x512x128_S1x32x128_2_13_0_s_1_16_1 inb_S1x16x32x1536_S1x1x32x128_0_13_0_256 x) ?_
  refine forall_piece _ _ _ _ (fun x => g2_piece 5248 (holds16 c arg1 harg1 arg2 harg2 arg3 harg3 arg10 x0 x1 x2) arg11 1 13 128 rfl inb_S4x512x128_S1x32x128_1_13_0_s_1_16_1 inb_S1x16x32x1536_S1x1x32x128_0_13_0_128 x) ?_
  refine forall_piece _ _ _ _ (fun x => g2_piece 5248 (holds16 c arg1 harg1 arg2 harg2 arg3 harg3 arg10 x0 x1 x2) arg11 0 13 0 rfl inb_S4x512x128_S1x32x128_0_13_0_s_1_16_1 inb_S1x16x32x1536_S1x1x32x128_0_13_0_0 x) ?_
  refine forall_piece _ _ _ _ (fun x => g2_piece 5248 (holds16 c arg1 harg1 arg2 harg2 arg3 harg3 arg10 x0 x1 x2) arg11 3 12 384 rfl inb_S4x512x128_S1x32x128_3_12_0_s_1_16_1 inb_S1x16x32x1536_S1x1x32x128_0_12_0_384 x) ?_
  refine forall_piece _ _ _ _ (fun x => g2_piece 5248 (holds16 c arg1 harg1 arg2 harg2 arg3 harg3 arg10 x0 x1 x2) arg11 2 12 256 rfl inb_S4x512x128_S1x32x128_2_12_0_s_1_16_1 inb_S1x16x32x1536_S1x1x32x128_0_12_0_256 x) ?_
  refine forall_piece _ _ _ _ (fun x => g2_piece 5248 (holds16 c arg1 harg1 arg2 harg2 arg3 harg3 arg10 x0 x1 x2) arg11 1 12 128 rfl inb_S4x512x128_S1x32x128_1_12_0_s_1_16_1 inb_S1x16x32x1536_S1x1x32x128_0_12_0_128 x) ?_
  refine forall_piece _ _ _ _ (fun x => g2_piece 5248 (holds16 c arg1 harg1 arg2 harg2 arg3 harg3 arg10 x0 x1 x2) arg11 0 12 0 rfl inb_S4x512x128_S1x32x128_0_12_0_s_1_16_1 inb_S1x16x32x1536_S1x1x32x128_0_12_0_0 x) ?_
  refine forall_piece _ _ _ _ (fun x => g2_piece 5248 (holds16 c arg1 harg1 arg2 harg2 arg3 harg3 arg10 x0 x1 x2) arg11 3 11 384 rfl inb_S4x512x128_S1x32x128_3_11_0_s_1_16_1 inb_S1x16x32x1536_S1x1x32x128_0_11_0_384 x) ?_
  refine forall_piece _ _ _ _ (fun x => g2_piece 5248 (holds16 c arg1 harg1 arg2 harg2 arg3 harg3 arg10 x0 x1 x2) arg11 2 11 256 rfl inb_S4x512x128_S1x32x128_2_11_0_s_1_16_1 inb_S1x16x32x1536_S1x1x32x128_0_11_0_256 x) ?_
  refine forall_piece _ _ _ _ (fun x => g2_piece 5248 (holds16 c arg1 harg1 arg2 harg2 arg3 harg3 arg10 x0 x1 x2) arg11 1 11 128 rfl inb_S4x512x128_S1x32x128_1_11_0_s_1_16_1 inb_S1x16x32x1536_S1x1x32x128_0_11_0_128 x) ?_
  refine forall_piece _ _ _ _ (fun x => g2_piece 5248 (holds16 c arg1 harg1 arg2 harg2 arg3 harg3 arg10 x0 x1 x2) arg11 0 11 0 rfl inb_S4x512x128_S1x32x128_0_11_0_s_1_16_1 inb_S1x16x32x1536_S1x1x32x128_0_11_0_0 x) ?_
  refine forall_piece _ _ _ _ (fun x => g2_piece 5248 (holds16 c arg1 harg1 arg2 harg2 arg3 harg3 arg10 x0 x1 x2) arg11 3 10 384 rfl inb_S4x512x128_S1x32x128_3_10_0_s_1_16_1 inb_S1x16x32x1536_S1x1x32x128_0_10_0_384 x) ?_
  refine forall_piece _ _ _ _ (fun x => g2_piece 5248 (holds16 c arg1 harg1 arg2 harg2 arg3 harg3 arg10 x0 x1 x2) arg11 2 10 256 rfl inb_S4x512x128_S1x32x128_2_10_0_s_1_16_1 inb_S1x16x32x1536_S1x1x32x128_0_10_0_256 x) ?_
  refine forall_piece _ _ _ _ (fun x => g2_piece 5248 (holds16 c arg1 harg1 arg2 harg2 arg3 harg3 arg10 x0 x1 x2) arg11 1 10 128 rfl inb_S4x512x128_S1x32x128_1_10_0_s_1_16_1 inb_S1x16x32x1536_S1x1x32x128_0_10_0_128 x) ?_
  refine forall_piece _ _ _ _ (fun x => g2_piece 5248 (holds16 c arg1 harg1 arg2 harg2 arg3 harg3 arg10 x0 x1 x2) arg11 0 10 0 rfl inb_S4x512x128_S1x32x128_0_10_0_s_1_16_1 inb_S1x16x32x1536_S1x1x32x128_0_10_0_0 x) ?_
  refine forall_piece _ _ _ _ (fun x => g2_piece 5248 (holds16 c arg1 harg1 arg2 harg2 arg3 harg3 arg10 x0 x1 x2) arg11 3 9 384 rfl inb_S4x512x128_S1x32x128_3_9_0_s_1_16_1 inb_S1x16x32x1536_S1x1x32x128_0_9_0_384 x) ?_
  refine forall_piece _ _ _ _ (fun x => g2_piece 5248 (holds16 c arg1 harg1 arg2 harg2 arg3 harg3 arg10 x0 x1 x2) arg11 2 9 256 rfl inb_S4x512x128_S1x32x128_2_9_0_s_1_16_1 inb_S1x16x32x1536_S1x1x32x128_0_9_0_256 x) ?_
  refine forall_piece _ _ _ _ (fun x => g2_piece 5248 (holds16 c arg1 harg1 arg2 harg2 arg3 harg3 arg10 x0 x1 x2) arg11 1 9 128 rfl inb_S4x512x128_S1x32x128_1_9_0_s_1_16_1 inb_S1x16x32x1536_S1x1x32x128_0_9_0_128 x) ?_
  refine forall_piece _ _ _ _ (fun x => g2_piece 5248 (holds16 c arg1 harg1 arg2 harg2 arg3 harg3 arg10 x0 x1 x2) arg11 0 9 0 rfl inb_S4x512x128_S1x32x128_0_9_0_s_1_16_1 inb_S1x16x32x1536_S1x1x32x128_0_9_0_0 x) ?_
  refine forall_piece _ _ _ _ (fun x => g2_piece 5248 (holds16 c arg1 harg1 arg2 harg2 arg3 harg3 arg10 x0 x1 x2) arg11 3 8 384 rfl inb_S4x512x128_S1x32x128_3_8_0_s_1_16_1 inb_S1x16x32x1536_S1x1x32x128_0_8_0_384 x) ?_
  refine forall_piece _ _ _ _ (fun x => g2_piece 5248 (holds16 c arg1 harg1 arg2 harg2 arg3 harg3 arg10 x0 x1 x2) arg11 2 8 256 rfl inb_S4x512x128_S1x32x128_2_8_0_s_1_16_1 inb_S1x16x32x1536_S1x1x32x128_0_8_0_256 x) ?_
  refine forall_piece _ _ _ _ (fun x => g2_piece 5248 (holds16 c arg1 harg1 arg2 harg2 arg3 harg3 arg10 x0 x1 x2) arg11 1 8 128 rfl inb_S4x512x128_S1x32x128_1_8_0_s_1_16_1 inb_S1x16x32x1536_S1x1x32x128_0_8_0_128 x) ?_
  refine forall_piece _ _ _ _ (fun x => g2_piece 5248 (holds16 c arg1 harg1 arg2 harg2 arg3 harg3 arg10 x0 x1 x2) arg11 0 8 0 rfl inb_S4x512x128_S1x32x128_0_8_0_s_1_16_1 inb_S1x16x32x1536_S1x1x32x128_0_8_0_0 x) ?_
  refine forall_piece _ _ _ _ (fun x => g2_piece 5248 (holds16 c arg1 harg1 arg2 harg2 arg3 harg3 arg10 x0 x1 x2) arg11 3 7 384 rfl inb_S4x512x128_S1x32x128_3_7_0_s_1_16_1 inb_S1x16x32x1536_S1x1x32x128_0_7_0_384 x) ?_
  refine forall_piece _ _ _ _ (fun x => g2_piece 5248 (holds16 c arg1 harg1 arg2 harg2 arg3 harg3 arg10 x0 x1 x2) arg11 2 7 256 rfl inb_S4x512x128_S1x32x128_2_7_0_s_1_16_1 inb_S1x16x32x1536_S1x1x32x128_0_7_0_256 x) ?_
  refine forall_piece _ _ _ _ (fun x => g2_piece 5248 (holds16 c arg1 harg1 arg2 harg2 arg3 harg3 arg10 x0 x1 x2) arg11 1 7 128 rfl inb_S4x512x128_S1x32x128_1_7_0_s_1_16_1 inb_S1x16x32x1536_S1x1x32x128_0_7_0_128 x) ?_
  refine forall_piece _ _ _ _ (fun x => g2_piece 5248 (holds16 c arg1 harg1 arg2 harg2 arg3 harg3 arg10 x0 x1 x2) arg11 0 7 0 rfl inb_S4x512x128_S1x32x128_0_7_0_s_1_16_1 inb_S1x16x32x1536_S1x1x32x128_0_7_0_0 x) ?_
  refine forall_piece _ _ _ _ (fun x => g2_piece 5248 (holds16 c arg1 harg1 arg2 harg2 arg3 harg3 arg10 x0 x1 x2) arg11 3 6 384 rfl inb_S4x512x128_S1x32x128_3_6_0_s_1_16_1 inb_S1x16x32x1536_S1x1x32x128_0_6_0_384 x) ?_
  refine forall_piece _ _ _ _ (fun x => g2_piece 5248 (holds16 c arg1 harg1 arg2 harg2 arg3 harg3 arg10 x0 x1 x2) arg11 2 6 256 rfl inb_S4x512x128_S1x32x128_2_6_0_s_1_16_1 inb_S1x16x32x1536_S1x1x32x128_0_6_0_256 x) ?_
  refine forall_piece _ _ _ _ (fun x => g2_piece 5248 (holds16 c arg1 harg1 arg2 harg2 arg3 harg3 arg10 x0 x1 x2) arg11 1 6 128 rfl inb_S4x512x128_S1x32x128_1_6_0_s_1_16_1 inb_S1x16x32x1536_S1x1x32x128_0_6_0_128 x) ?_
  refine forall_piece _ _ _ _ (fun x => g2_piece 5248 (holds16 c arg1 harg1 arg2 harg2 arg3 harg3 arg10 x0 x1 x2) arg11 0 6 0 rfl inb_S4x512x128_S1x32x128_0_6_0_s_1_16_1 inb_S1x16x32x1536_S1x1x32x128_0_6_0_0 x) ?_
  refine forall_piece _ _ _ _ (fun x => g2_piece 5248 (holds16 c arg1 harg1 arg2 harg2 arg3 harg3 arg10 x0 x1 x2) arg11 3 5 384 rfl inb_S4x512x128_S1x32x128_3_5_0_s_1_16_1 inb_S1x16x32x1536_S1x1x32x128_0_5_0_384 x) ?_
  refine forall_piece _ _ _ _ (fun x => g2_piece 5248 (holds16 c arg1 harg1 arg2 harg2 arg3 harg3 arg10 x0 x1 x2) arg11 2 5 256 rfl inb_S4x512x128_S1x32x128_2_5_0_s_1_16_1 inb_S1x16x32x1536_S1x1x32x128_0_5_0_256 x) ?_
  refine forall_piece _ _ _ _ (fun x => g2_piece 5248 (holds16 c arg1 harg1 arg2 harg2 arg3 harg3 arg10 x0 x1 x2) arg11 1 5 128 rfl inb_S4x512x128_S1x32x128_1_5_0_s_1_16_1 inb_S1x16x32x1536_S1x1x32x128_0_5_0_128 x) ?_
  refine forall_piece _ _ _ _ (fun x => g2_piece 5248 (holds16 c arg1 harg1 arg2 harg2 arg3 harg3 arg10 x0 x1 x2) arg11 0 5 0 rfl inb_S4x512x128_S1x32x128_0_5_0_s_1_16_1 inb_S1x16x32x1536_S1x1x32x128_0_5_0_0 x) ?_
  refine forall_piece _ _ _ _ (fun x => g2_piece 5248 (holds16 c arg1 harg1 arg2 harg2 arg3 harg3 arg10 x0 x1 x2) arg11 3 4 384 rfl inb_S4x512x128_S1x32x128_3_4_0_s_1_16_1 inb_S1x16x32x1536_S1x1x32x128_0_4_0_384 x) ?_
  refine forall_piece _ _ _ _ (fun x => g2_piece 5248 (holds16 c arg1 harg1 arg2 harg2 arg3 harg3 arg10 x0 x1 x2) arg11 2 4 256 rfl inb_S4x512x128_S1x32x128_2_4_0_s_1_16_1 inb_S1x16x32x1536_S1x1x32x128_0_4_0_256 x) ?_
  refine forall_piece _ _ _ _ (fun x => g2_piece 5248 (holds16 c arg1 harg1 arg2 harg2 arg3 harg3 arg10 x0 x1 x2) arg11 1 4 128 rfl inb_S4x512x128_S1x32x128_1_4_0_s_1_16_1 inb_S1x16x32x1536_S1x1x32x128_0_4_0_128 x) ?_
  refine forall_piece _ _ _ _ (fun x => g2_piece 5248 (holds16 c arg1 harg1 arg2 harg2 arg3 harg3 arg10 x0 x1 x2) arg11 0 4 0 rfl inb_S4x512x128_S1x32x128_0_4_0_s_1_16_1 inb_S1x16x32x1536_S1x1x32x128_0_4_0_0 x) ?_
  refine forall_piece _ _ _ _ (fun x => g2_piece 5248 (holds16 c arg1 harg1 arg2 harg2 arg3 harg3 arg10 x0 x1 x2) arg11 3 3 384 rfl inb_S4x512x128_S1x32x128_3_3_0_s_1_16_1 inb_S1x16x32x1536_S1x1x32x128_0_3_0_384 x) ?_
  refine forall_piece _ _ _ _ (fun x => g2_piece 5248 (holds16 c arg1 harg1 arg2 harg2 arg3 harg3 arg10 x0 x1 x2) arg11 2 3 256 rfl inb_S4x512x128_S1x32x128_2_3_0_s_1_16_1 inb_S1x16x32x1536_S1x1x32x128_0_3_0_256 x) ?_
  refine forall_piece _ _ _ _ (fun x => g2_piece 5248 (holds16 c arg1 harg1 arg2 harg2 arg3 harg3 arg10 x0 x1 x2) arg11 1 3 128 rfl inb_S4x512x128_S1x32x128_1_3_0_s_1_16_1 inb_S1x16x32x1536_S1x1x32x128_0_3_0_128 x) ?_
  refine forall_piece _ _ _ _ (fun x => g2_piece 5248 (holds16 c arg1 harg1 arg2 harg2 arg3 harg3 arg10 x0 x1 x2) arg11 0 3 0 rfl inb_S4x512x128_S1x32x128_0_3_0_s_1_16_1 inb_S1x16x32x1536_S1x1x32x128_0_3_0_0 x) ?_
  refine forall_piece _ _ _ _ (fun x => g2_piece 5248 (holds16 c arg1 harg1 arg2 harg2 arg3 harg3 arg10 x0 x1 x2) arg11 3 2 384 rfl inb_S4x512x128_S1x32x128_3_2_0_s_1_16_1 inb_S1x16x32x1536_S1x1x32x128_0_2_0_384 x) ?_
  refine forall_piece _ _ _ _ (fun x => g2_piece 5248 (holds16 c arg1 harg1 arg2 harg2 arg3 harg3 arg10 x0 x1 x2) arg11 2 2 256 rfl inb_S4x512x128_S1x32x128_2_2_0_s_1_16_1 inb_S1x16x32x1536_S1x1x32x128_0_2_0_256 x) ?_
  refine forall_piece _ _ _ _ (fun x => g2_piece 5248 (holds16 c arg1 harg1 arg2 harg2 arg3 harg3 arg10 x0 x1 x2) arg11 1 2 128 rfl inb_S4x512x128_S1x32x128_1_2_0_s_1_16_1 inb_S1x16x32x1536_S1x1x32x128_0_2_0_128 x) ?_
  refine forall_piece _ _ _ _ (fun x => g2_piece 5248 (holds16 c arg1 harg1 arg2 harg2 arg3 harg3 arg10 x0 x1 x2) arg11 0 2 0 rfl inb_S4x512x128_S1x32x128_0_2_0_s_1_16_1 inb_S1x16x32x1536_S1x1x32x128_0_2_0_0 x) ?_
  refine forall_piece _ _ _ _ (fun x => g2_piece 5248 (holds16 c arg1 harg1 arg2 harg2 arg3 harg3 arg10 x0 x1 x2) arg11 3 1 384 rfl inb_S4x512x128_S1x32x128_3_1_0_s_1_16_1 inb_S1x16x32x1536_S1x1x32x128_0_1_0_384 x) ?_
  refine forall_piece _ _ _ _ (fun x => g2_piece 5248 (holds16 c arg1 harg1 arg2 harg2 arg3 harg3 arg10 x0 x1 x2) arg11 2 1 256 rfl inb_S4x512x128_S1x32x128_2_1_0_s_1_16_1 inb_S1x16x32x1536_S1x1x32x128_0_1_0_256 x) ?_
  refine forall_piece _ _ _ _ (fun x => g2_piece 5248 (holds16 c arg1 harg1 arg2 harg2 arg3 harg3 arg10 x0 x1 x2) arg11 1 1 128 rfl inb_S4x512x128_S1x32x128_1_1_0_s_1_16_1 inb_S1x16x32x1536_S1x1x32x128_0_1_0_128 x) ?_
  refine forall_piece _ _ _ _ (fun x => g2_piece 5248 (holds16 c arg1 harg1 arg2 harg2 arg3 harg3 arg10 x0 x1 x2) arg11 0 1 0 rfl inb_S4x512x128_S1x32x128_0_1_0_s_1_16_1 inb_S1x16x32x1536_S1x1x32x128_0_1_0_0 x) ?_
  refine forall_piece _ _ _ _ (fun x => g2_piece 5248 (holds16 c arg1 harg1 arg2 harg2 arg3 harg3 arg10 x0 x1 x2) arg11 3 0 384 rfl inb_S4x512x128_S1x32x128_3_0_0_s_1_16_1 inb_S1x16x32x1536_S1x1x32x128_0_0_0_384 x) ?_
  refine forall_piece _ _ _ _ (fun x => g2_piece 5248 (holds16 c arg1 harg1 arg2 harg2 arg3 harg3 arg10 x0 x1 x2) arg11 2 0 256 rfl inb_S4x512x128_S1x32x128_2_0_0_s_1_16_1 inb_S1x16x32x1536_S1x1x32x128_0_0_0_256 x) ?_
  refine forall_piece _ _ _ _ (fun x => g2_piece 5248 (holds16 c arg1 harg1 arg2 harg2 arg3 harg3 arg10 x0 x1 x2) arg11 1 0 128 rfl inb_S4x512x128_S1x32x128_1_0_0_s_1_16_1 inb_S1x16x32x1536_S1x1x32x128_0_0_0_128 x) ?_
  refine forall_piece _ _ _ _ (fun x => g2_piece 5248 (holds16 c arg1 harg1 arg2 harg2 arg3 harg3 arg10 x0 x1 x2) arg11 0 0 0 rfl inb_S4x512x128_S1x32x128_0_0_0_s_1_16_1 inb_S1x16x32x1536_S1x1x32x128_0_0_0_0 x) ?_
  exact fun p h => absurd h List.not_mem_nil

theorem out7 (y : S1x16x32x1536.Idx) : out0_A_7 (F := Ideal) c i arg1 harg1 arg2 harg2 arg3 harg3 arg4 harg4 arg5 harg5 arg6 harg6 arg7 harg7 arg8 harg8 arg9 harg9 arg10 harg10 arg11 harg11 x0 x1 x2 y = g2Fn (k0_pay2 x0 x1) x2 y := by
  unfold out0_A_7
  exact (View.read_writes_apply_of_pieces _ _ (g2Fn (kernelRun0_A.sl.v20 (F := Ideal) c arg1 harg1 arg2 harg2 arg10 x0 x1) x2) _ (pieces7 c i arg1 harg1 arg2 harg2 arg3 harg3 arg4 harg4 arg5 harg5 arg6 harg6 arg7 harg7 arg8 harg8 arg9 harg9 arg10 harg10 arg11 harg11 x0 x1 x2) y (cover0_A_7 c i arg1 harg1 arg2 harg2 arg3 harg3 arg4 harg4 arg5 harg5 arg6 harg6 arg7 harg7 arg8 harg8 arg9 harg9 arg10 harg10 arg11 harg11 x0 x1 x2 y)).trans
    (congrArg (fun X => g2Fn X x2 y) (xn_eq c arg1 harg1 arg2 harg2 arg10 x0 x1))

theorem pieces8 : ∀ p ∈ (kernelRun0_A (F := Ideal) c i arg1 harg1 arg2 harg2 arg3 harg3 arg4 harg4 arg5 harg5 arg6 harg6 arg7 harg7 arg8 harg8 arg9 harg9 arg10 harg10 arg11 harg11 x0 x1 x2).2.2.2.2.2.1, ∀ x, p.2 x = gateFn (kernelRun0_A.sl.v20 (F := Ideal) c arg1 harg1 arg2 harg2 arg10 x0 x1) x2 (p.1.emb x) := by
  unfold kernelRun0_A
  dsimp only
  refine forall_piece _ _ _ _ (fun x => gate_piece _ x2 arg3 harg3 8320 1536 rfl (by omega) _ (by decide) x) ?_
  refine forall_piece _ _ _ _ (fun x => gate_piece _ x2 arg3 harg3 7808 1024 rfl (by omega) _ (by decide) x) ?_
  refine forall_piece _ _ _ _ (fun x => gate_piece _ x2 arg3 harg3 7296 512 rfl (by omega) _ (by decide) x) ?_
  refine forall_piece _ _ _ _ (fun x => gate_piece _ x2 arg3 harg3 6784 0 rfl (by omega) _ (by decide) x) ?_
  exact fun p h => absurd h List.not_mem_nil

theorem out8 (y : S512x2048.Idx) : out0_A_8 (F := Ideal) c i arg1 harg1 arg2 harg2 arg3 harg3 arg4 harg4 arg5 harg5 arg6 harg6 arg7 harg7 arg8 harg8 arg9 harg9 arg10 harg10 arg11 harg11 x0 x1 x2 y = gateFn (k0_pay2 x0 x1) x2 y := by
  unfold out0_A_8
  exact (View.read_writes_apply_of_pieces _ _ (gateFn (kernelRun0_A.sl.v20 (F := Ideal) c arg1 harg1 arg2 harg2 arg10 x0 x1) x2) _ (pieces8 c i arg1 harg1 arg2 harg2 arg3 harg3 arg4 harg4 arg5 harg5 arg6 harg6 arg7 harg7 arg8 harg8 arg9 harg9 arg10 harg10 arg11 harg11 x0 x1 x2) y (cover0_A_8 c i arg1 harg1 arg2 harg2 arg3 harg3 arg4 harg4 arg5 harg5 arg6 harg6 arg7 harg7 arg8 harg8 arg9 harg9 arg10 harg10 arg11 harg11 x0 x1 x2 y)).trans
    (congrArg (fun X => gateFn X x2 y) (xn_eq c arg1 harg1 arg2 harg2 arg10 x0 x1))

end Run

end Cert.Proj

end
-- ==== Proof.ProjArray.lean ====
module

public import proofs.«01_k».proof.Proof.ProjCat
public import proofs.«01_k».proof.Proof.ProjBlock
public import proofs.«01_k».proof.Proof.Gen.InprojIdeal.Value
public import Idealize.ShloMosaic.Lib.Pipeline.ValueKit.Geometry

/-! The six arrays after the run: block by block, each is the specification's array of the arguments. -/

@[expose] public section

set_option maxRecDepth 16384

noncomputable section

namespace Cert.Proj

open Cert.InprojIdeal Cert.InprojIdeal.Gen Idealize.ShloMosaic Idealize.ShloMosaic.TcCoe

variable (m : (ℓ : Loc nD τ sig) → Buf (Elt Ideal) ℓ)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val / 16, 0, t.val % 16, 0] := (by decide +kernel : ∀ t : Fin grid0.N, _)
theorem at6 : ∀ t : Fin cfg0.N, win0_6.index t = ![t.val / 16, 0, t.val % 16, 0] := (by decide +kernel : ∀ t : Fin grid0.N, _)
theorem at7 : ∀ t : Fin cfg0.N, win0_7.index t = ![t.val / 16, 0, t.val % 16, 0] := (by decide +kernel : ∀ t : Fin grid0.N, _)
theorem at8 : ∀ t : Fin cfg0.N, win0_8.index t = ![t.val, 0] := (by decide +kernel : ∀ t : Fin grid0.N, _)

section Point
variable (c : Dev nD) (t : Fin cfg0.N)

/-- Row `r` of block `t`, at column `j` of the reordered weights. -/
theorem entry_at (r : Fin 512) (j : Fin 8832) :
    entry (k0_pay2 (iblk m c 0 t) (iblk m c 1 t)) (iblk m c 2 t) r j
      = projN (m (c.tc.loc main_arg0)) (m (c.tc.loc main_arg1)) (m (c.tc.loc main_arg2)) (t.val / 16) (t.val % 16 * 512 + r.val) (catCol j) := by
  have ht : t.val < 128 := t.isLt
  refine entry_rows _ _ _ ⟨t.val / 16, by omega⟩ ⟨t.val % 16 * 512 + r.val, by omega⟩ r j (fun k => ?_) (fun k => ?_) (fun k => ?_)
  · blk_simp [iblk]
    rw [found_tokens]
    refine (congrArg _ ?_).trans (tokens_apply _ ⟨t.val / 16, by omega⟩ ⟨t.val % 16 * 512 + r.val, by omega⟩ k ⟨t.val * 512 + r.val, by omega⟩ (by show t.val * 512 + r.val = t.val / 16 * 8192 + (t.val % 16 * 512 + r.val); omega))
    blk_ext [at0]
  · blk_simp [iblk]
    rw [found_gain]
    refine (congrArg _ ?_).trans (gain_apply _ k)
    blk_ext [at1]
  · blk_simp [iblk]
    rw [found_weights]
    refine (congrArg _ ?_).trans (catW_apply _ k j)
    blk_ext [at2]

end Point

theorem entry_at' (c : Dev nD) (t : Fin cfg0.N) (r j : ℕ) (hr : r < 512) (hj : j < 8832) :
    entry (k0_pay2 (iblk m c 0 t) (iblk m c 1 t)) (iblk m c 2 t) r j
      = projN (m (c.tc.loc main_arg0)) (m (c.tc.loc main_arg1)) (m (c.tc.loc main_arg2)) (t.val / 16) (t.val % 16 * 512 + r) (catCol j) :=
  entry_at m c t ⟨r, hr⟩ ⟨j, hj⟩
theorem projN_of_eq (X : FVec Ideal S8x8192x1024 .f32) (N : FVec Ideal S1x1024 .f32) (W : FVec Ideal S1x1024x8720 .f32)
    {b s c b' s' c' : ℕ} (e1 : b = b') (e2 : s = s') (e3 : c = c') : projN X N W b s c = projN X N W b' s' c' := by rw [e1, e2, e3]

theorem final3 (c : Dev nD) : (dats m 0 c).arrAt 3 cfg0.N = dnArr (m (c.tc.loc main_arg0)) (m (c.tc.loc main_arg1)) (m (c.tc.loc main_arg2)) := by
  refine (dats m 0 c).arrAt_eq_of_covers 3 _ (by decide +kernel) fun t hf y => ?_
  blk_simp
  rw [after0_3]
  simp only [outsAt0]
  have h0 : (y 0).val < 512 := (y 0).isLt
  have h1 : (y 1).val < 2048 := (y 1).isLt
  refine (out3 _ _ _ _ _ _ _ _ _ _ _ _ _ _ _ _ _ _ _ _ _ _ _ _ _ _ _ y).trans ?_
  refine (entry_at' m c t (y 0).val ((y 1).val) (by omega) (by omega)).trans (projN_of_eq _ _ _ ?_ ?_ ?_)
  · blk_simp [at3] <;> omega
  · blk_simp [at3] <;> omega
  · unfold catCol; blk_simp [at3] <;> (split_ifs <;> omega)

theorem final4 (c : Dev nD) : (dats m 0 c).arrAt 4 cfg0.N = abArr (m (c.tc.loc main_arg0)) (m (c.tc.loc main_arg1)) (m (c.tc.loc main_arg2)) := by
  refine (dats m 0 c).arrAt_eq_of_covers 4 _ (by decide +kernel) fun t hf y => ?_
  blk_simp
  rw [after0_4]
  simp only [outsAt0]
  have h0 : (y 0).val < 512 := (y 0).isLt
  have h1 : (y 1).val < 128 := (y 1).isLt
  refine (out4 _ _ _ _ _ _ _ _ _ _ _ _ _ _ _ _ _ _ _ _ _ _ _ _ _ _ _ y).trans ?_
  refine (entry_at' m c t (y 0).val (2048 + (y 1).val) (by omega) (by omega)).trans ?_
  unfold abArr
  by_cases h : (y 1).val < 16
  · refine Eq.trans (projN_of_eq _ _ _ ?_ ?_ ?_) (if_pos ?_).symm
    · blk_simp [at4] <;> omega
    · blk_simp [at4] <;> omega
    · unfold catCol; blk_simp [at4] <;> (split_ifs <;> omega)
    · blk_simp [at4] <;> omega
  · refine Eq.trans (dif_neg fun h' => ?_) (if_neg ?_).symm
    · have := h'.2.2
      unfold catCol at this
      simp only at this
      split_ifs at this <;> omega
    · blk_simp [at4] <;> omega

theorem final5 (c : Dev nD) : (dats m 0 c).arrAt 5 cfg0.N = g0Arr (m (c.tc.loc main_arg0)) (m (c.tc.loc main_arg1)) (m (c.tc.loc main_arg2)) := by
  refine (dats m 0 c).arrAt_eq_of_covers 5 _ (by decide +kernel) fun t hf y => ?_
  blk_simp
  rw [after0_5]
  simp only [outsAt0]
  have h0 : (y 0).val < 1 := (y 0).isLt
  have h1 : (y 1).val < 1 := (y 1).isLt
  have h2 : (y 2).val < 512 := (y 2).isLt
  have h3 : (y 3).val < 1536 := (y 3).isLt
  refine (out5 _ _ _ _ _ _ _ _ _ _ _ _ _ _ _ _ _ _ _ _ _ _ _ _ _ _ _ y).trans ?_
  refine (entry_at' m c t (y 2).val (2176 + (y 3).val) (by omega) (by omega)).trans (projN_of_eq _ _ _ ?_ ?_ ?_)
  · blk_simp [at5] <;> omega
  · blk_simp [at5] <;> omega
  · unfold catCol; blk_simp [at5] <;> (split_ifs <;> omega)

theorem final6 (c : Dev nD) : (dats m 0 c).arrAt 6 cfg0.N = g1Arr (m (c.tc.loc main_arg0)) (m (c.tc.loc main_arg1)) (m (c.tc.loc main_arg2)) := by
  refine (dats m 0 c).arrAt_eq_of_covers 6 _ (by decide +kernel) fun t hf y => ?_
  blk_simp
  rw [after0_6]
  simp only [outsAt0]
  have h0 : (y 0).val < 1 := (y 0).isLt
  have h1 : (y 1).val < 4 := (y 1).isLt
  have h2 : (y 2).val < 128 := (y 2).isLt
  have h3 : (y 3).val < 1536 := (y 3).isLt
  refine (out6 _ _ _ _ _ _ _ _ _ _ _ _ _ _ _ _ _ _ _ _ _ _ _ _ _ _ _ y).trans ?_
  refine (entry_at' m c t ((y 2).val * 4 + (y 1).val) (3712 + (y 3).val) (by omega) (by omega)).trans (projN_of_eq _ _ _ ?_ ?_ ?_)
  · blk_simp [at6] <;> omega
  · blk_simp [at6] <;> omega
  · unfold catCol; blk_simp [at6] <;> (split_ifs <;> omega)

theorem final7 (c : Dev nD) : (dats m 0 c).arrAt 7 cfg0.N = g2Arr (m (c.tc.loc main_arg0)) (m (c.tc.loc main_arg1)) (m (c.tc.loc main_arg2)) := by
  refine (dats m 0 c).arrAt_eq_of_covers 7 _ (by decide +kernel) fun t hf y => ?_
  blk_simp
  rw [after0_7]
  simp only [outsAt0]
  have h0 : (y 0).val < 1 := (y 0).isLt
  have h1 : (y 1).val < 16 := (y 1).isLt
  have h2 : (y 2).val < 32 := (y 2).isLt
  have h3 : (y 3).val < 1536 := (y 3).isLt
  refine (out7 _ _ _ _ _ _ _ _ _ _ _ _ _ _ _ _ _ _ _ _ _ _ _ _ _ _ _ y).trans ?_
  refine (entry_at' m c t ((y 2).val * 16 + (y 1).val) (5248 + (y 3).val) (by omega) (by omega)).trans (projN_of_eq _ _ _ ?_ ?_ ?_)
  · blk_simp [at7] <;> omega
  · blk_simp [at7] <;> omega
  · unfold catCol; blk_simp [at7] <;> (split_ifs <;> omega)

theorem final8 (c : Dev nD) : (dats m 0 c).arrAt 8 cfg0.N = gateArr (m (c.tc.loc main_arg0)) (m (c.tc.loc main_arg1)) (m (c.tc.loc main_arg2)) := by
  refine (dats m 0 c).arrAt_eq_of_covers 8 _ (by decide +kernel) fun t hf y => ?_
  blk_simp
  rw [after0_8]
  simp only [outsAt0]
  have h0 : (y 0).val < 512 := (y 0).isLt
  have h1 : (y 1).val < 2048 := (y 1).isLt
  refine (out8 _ _ _ _ _ _ _ _ _ _ _ _ _ _ _ _ _ _ _ _ _ _ _ _ _ _ _ y).trans ?_
  refine congrArg logistic ((entry_at' m c t (y 0).val (6784 + (y 1).val) (by omega) (by omega)).trans (projN_of_eq _ _ _ ?_ ?_ ?_))
  · blk_simp [at8] <;> omega
  · blk_simp [at8] <;> omega
  · unfold catCol; blk_simp [at8] <;> (split_ifs <;> omega)

end Cert.Proj

end
-- ==== Proof.MergeSpec.lean ====
/-
  THE MERGE OF THE BRANCHES, ONE TOKEN AT A TIME: what the layer computes for one token from that token's values and the
  weights, on the extended reals. The kernel's blocks and the reference's arrays are both read against these functions.
-/
module

public import Idealize.ShloMosaic.Lib.Pointwise

@[expose] public section

noncomputable section

namespace Cert.Merg

open Idealize.ShloMosaic

/-- One token's values: the residual stream, the recurrence's output and its output gate per head, the two branch gates,
    and each attention group's output and log-sum-exp per head. -/
structure Tok where
  x : Fin 1024 → EReal
  o : Fin 4 → Fin 128 → EReal
  z : Fin 4 → Fin 128 → EReal
  g : Fin 2048 → EReal
  og : Fin 3 → Fin 4 → Fin 128 → EReal
  lg : Fin 3 → Fin 4 → EReal

/-- The weights. -/
structure Wts where
  gain : Fin 128 → EReal
  wdn : Fin 512 → Fin 1024 → EReal
  wda : Fin 512 → Fin 1024 → EReal
  wo : Fin 1024 → Fin 1024 → EReal
  nffn : Fin 1024 → EReal
  wq : Fin 1024 → Fin 2048 → EReal

/-- The logistic function, with the program's own constant one. -/
def sigm (x : EReal) : EReal :=
  Ideal.div (Ideal.ofBits .f32 0x3F800000#32) (Ideal.ofBits .f32 0x3F800000#32 + Ideal.exp (-x))

variable (R : Tok) (W : Wts)

/-- The recurrence's branch: each head normalised by its root mean square, scaled and gated. -/
def dn (h : Fin 4) (d : Fin 128) : EReal :=
  R.o h d * Ideal.rsqrt (Ideal.div (∑ k : Fin 128, R.o h k * R.o h k) (Ideal.ofBits .f32 0x43000000#32)
    + Ideal.ofBits .f32 0x358637BD#32) * W.gain d * (R.z h d * sigm (R.z h d))

/-- The weight of group `g` before it is divided by the sum of the three. -/
def wgt (h : Fin 4) (g : Fin 3) : EReal := Ideal.exp (R.lg g h - max (max (R.lg 0 h) (R.lg 1 h)) (R.lg 2 h))

/-- The attention branch: the three groups' outputs weighted, and the sum scaled by one over the sum of the weights. -/
def da (h : Fin 4) (d : Fin 128) : EReal :=
  (wgt R h 0 * R.og 0 h d + wgt R h 1 * R.og 1 h d + wgt R h 2 * R.og 2 h d)
    * Ideal.div (Ideal.ofBits .f32 0x3F800000#32) (wgt R h 0 + wgt R h 1 + wgt R h 2)

/-- A value per head and lane, as a row of 512. -/
def flat (f : Fin 4 → Fin 128 → EReal) (k : Fin 512) : EReal :=
  f ⟨k.val / 128, by omega⟩ ⟨k.val % 128, by omega⟩

theorem flat_of (f : Fin 4 → Fin 128 → EReal) (k : Fin 512) (h : Fin 4) (d : Fin 128) (e : k.val = h.val * 128 + d.val) :
    f h d = flat f k := by
  have h0 : h = ⟨k.val / 128, by omega⟩ := Fin.ext (by show h.val = k.val / 128; omega)
  have d0 : d = ⟨k.val % 128, by omega⟩ := Fin.ext (by show d.val = k.val % 128; omega)
  unfold flat
  rw [← h0, ← d0]

/-- The two branches, each through its matrix, gated and added. -/
def mix (a b : Fin 512 → EReal) (j : Fin 1024) : EReal :=
  R.g ⟨j.val, by omega⟩ * (∑ k : Fin 512, a k * W.wdn k j) + R.g ⟨1024 + j.val, by omega⟩ * (∑ k : Fin 512, b k * W.wda k j)

/-- The residual stream after the output matrix. -/
def hid (u : Fin 1024 → EReal) (j : Fin 1024) : EReal := R.x j + ∑ k : Fin 1024, u k * W.wo k j

/-- The row normalised by its root mean square and scaled. -/
def rms (u : Fin 1024 → EReal) (j : Fin 1024) : EReal :=
  u j * Ideal.rsqrt (Ideal.div (∑ k : Fin 1024, u k * u k) (Ideal.ofBits .f32 0x44800000#32)
    + Ideal.ofBits .f32 0x358637BD#32) * W.nffn j

/-- The row's product with the query matrix. -/
def qry (u : Fin 1024 → EReal) (j : Fin 2048) : EReal := ∑ k : Fin 1024, u k * W.wq k j

/-- The three results for one token. -/
def hidOf : Fin 1024 → EReal := hid R W (mix R W (flat (dn R W)) (flat (da R)))
def rmsOf : Fin 1024 → EReal := rms W (hidOf R W)
def qryOf : Fin 2048 → EReal := qry W (rmsOf R W)

end Cert.Merg

end
-- ==== Proof.MergeArr.lean ====
/-
  THE MERGE'S ARRAYS: where one token's values lie in the call's arguments, and the three results as arrays.
-/
module

public import proofs.«01_k».proof.Proof.MergeSpec
public import proofs.«01_k».proof.Proof.Gen.MergeIdeal.Skeleton

@[expose] public section

noncomputable section

namespace Cert.Merg

open Cert.MergeIdeal Idealize.ShloMosaic

/-- The call's arguments. -/
structure Arrs where
  x : FVec Ideal S65536x1024 .f32
  oF : FVec Ideal S65536x512 .f32
  oB : FVec Ideal S65536x512 .f32
  dn : FVec Ideal S65536x2048 .bf16
  gt : FVec Ideal S65536x2048 .bf16
  o0 : FVec Ideal S8x1x8192x512 .bf16
  l0 : FVec Ideal S8x1x8192x128 .f32
  o1 : FVec Ideal S8x4x2048x512 .bf16
  l1 : FVec Ideal S8x4x2048x128 .f32
  o2 : FVec Ideal S8x16x512x512 .bf16
  l2 : FVec Ideal S8x16x512x128 .f32
  gain : FVec Ideal S128 .f32
  wdn : FVec Ideal S512x1024 .f32
  wda : FVec Ideal S512x1024 .f32
  wo : FVec Ideal S1024x1024 .f32
  nffn : FVec Ideal S1024 .f32
  wq : FVec Ideal S1024x2048 .f32

/-- Token `s` of sequence `b`: its attention outputs lie at residue `s % dil` and position `s / dil` of each group. -/
def tok (A : Arrs) (b : Fin 8) (s : Fin 8192) : Tok where
  x j := A.x (ix2 ⟨b.val * 8192 + s.val, by omega⟩ j)
  o h d := A.oF (ix2 ⟨b.val * 8192 + s.val, by omega⟩ ⟨h.val * 128 + d.val, by omega⟩)
    + A.oB (ix2 ⟨b.val * 8192 + s.val, by omega⟩ ⟨h.val * 128 + d.val, by omega⟩)
  z h d := A.dn (ix2 ⟨b.val * 8192 + s.val, by omega⟩ ⟨1536 + h.val * 128 + d.val, by omega⟩)
  g j := A.gt (ix2 ⟨b.val * 8192 + s.val, by omega⟩ j)
  og g h d := match g with
    | ⟨0, _⟩ => A.o0 (ix4 b 0 s ⟨h.val * 128 + d.val, by omega⟩)
    | ⟨1, _⟩ => A.o1 (ix4 b ⟨s.val % 4, by omega⟩ ⟨s.val / 4, by omega⟩ ⟨h.val * 128 + d.val, by omega⟩)
    | ⟨2, _⟩ => A.o2 (ix4 b ⟨s.val % 16, by omega⟩ ⟨s.val / 16, by omega⟩ ⟨h.val * 128 + d.val, by omega⟩)
  lg g h := match g with
    | ⟨0, _⟩ => A.l0 (ix4 b 0 s ⟨h.val, by omega⟩)
    | ⟨1, _⟩ => A.l1 (ix4 b ⟨s.val % 4, by omega⟩ ⟨s.val / 4, by omega⟩ ⟨h.val, by omega⟩)
    | ⟨2, _⟩ => A.l2 (ix4 b ⟨s.val % 16, by omega⟩ ⟨s.val / 16, by omega⟩ ⟨h.val, by omega⟩)

def wts (A : Arrs) : Wts where
  gain d := A.gain (ix1 d)
  wdn k j := A.wdn (ix2 k j)
  wda k j := A.wda (ix2 k j)
  wo k j := A.wo (ix2 k j)
  nffn j := A.nffn (ix1 j)
  wq k j := A.wq (ix2 k j)

/-- The token in row `n` of the arrays with one row per token. -/
def rowTok (A : Arrs) (n : ℕ) (h : n < 65536) : Tok := tok A ⟨n / 8192, by omega⟩ ⟨n % 8192, by omega⟩

/-- The residual stream, one row per token. -/
def hidArr (A : Arrs) (y : S65536x1024.Idx) : EReal := hidOf (rowTok A (y 0).val (y 0).isLt) (wts A) (y 1)
/-- The normalised rows, in blocks of 512 tokens, transposed. -/
def rmsArr (A : Arrs) (y : S128x1024x512.Idx) : EReal :=
  rmsOf (rowTok A ((y 0).val * 512 + (y 2).val) (by
    have h0 : (y 0).val < 128 := (y 0).isLt
    have h2 : (y 2).val < 512 := (y 2).isLt
    omega)) (wts A) (y 1)
/-- The queries, one row per token. -/
def qryArr (A : Arrs) (y : S65536x2048.Idx) : EReal := qryOf (rowTok A (y 0).val (y 0).isLt) (wts A) (y 1)

end Cert.Merg

end
-- ==== Proof.MergeTile.lean ====
/-
  THE MERGE, ONE BLOCK OF 512 TOKENS: the stages of the kernel's body, each read at an index.
-/
module

public import proofs.«01_k».proof.Proof.MergeSpec
public import proofs.«01_k».proof.Proof.Gen.MergeIdeal.Skeleton

@[expose] public section

set_option maxRecDepth 16384

noncomputable section

namespace Cert.Merg

open Cert.MergeIdeal Cert.MergeIdeal.Gen Idealize.ShloMosaic Idealize.SL.Sem

/-- One head of the recurrence's branch. -/
def dnTile (a b : FVec Ideal S512x128 .f32) (g : FVec Ideal S1x128 .f32) (z : FVec Ideal S512x128 .bf16) :
    FVec Ideal S512x128 .bf16 := k0_pay2 a b g z

theorem dnTile_apply (a b : FVec Ideal S512x128 .f32) (g : FVec Ideal S1x128 .f32) (z : FVec Ideal S512x128 .bf16)
    (R : Tok) (W : Wts) (h : Fin 4) (r : Fin 512) (d : Fin 128)
    (ho : ∀ k : Fin 128, a (ix2 r k) + b (ix2 r k) = R.o h k) (hg : g (ix2 0 d) = W.gain d)
    (hz : (show EReal from z (ix2 r d)) = R.z h d) :
    (show EReal from dnTile a b g z (ix2 r d)) = dn R W h d := by
  unfold dn sigm
  simp only [← ho, ← hg, ← hz]
  pointwise [dnTile, k0_pay2]
  simp

/-- The four heads side by side. -/
def cat4 {φ : FTy} (a b c d : FVec Ideal S512x128 φ) : FVec Ideal S512x512 φ :=
  concatenate S512x512 1 [⟨S512x128, a⟩, ⟨S512x128, b⟩, ⟨S512x128, c⟩, ⟨S512x128, d⟩]
    concatenates_S512x128_S512x128_S512x128_S512x128_S512x512_d1

theorem cat4_apply {φ : FTy} (a b c d : FVec Ideal S512x128 φ) (f : Fin 4 → Fin 128 → EReal) (r : Fin 512)
    (h0 : ∀ j, (show EReal from a (ix2 r j)) = f 0 j) (h1 : ∀ j, (show EReal from b (ix2 r j)) = f 1 j)
    (h2 : ∀ j, (show EReal from c (ix2 r j)) = f 2 j) (h3 : ∀ j, (show EReal from d (ix2 r j)) = f 3 j)
    (k : Fin 512) : (show EReal from cat4 a b c d (ix2 r k)) = flat f k := by
  pointwise [cat4]
  split_ifs <;> first
    | exact (h0 _).trans (flat_of f k 0 _ (by show k.val = 0 * 128 + k.val; omega))
    | exact (h1 _).trans (flat_of f k 1 _ (by show k.val = 1 * 128 + (k.val - 128); omega))
    | exact (h2 _).trans (flat_of f k 2 _ (by show k.val = 2 * 128 + (k.val - 128 - 128); omega))
    | exact (h3 _).trans (flat_of f k 3 _ (by show k.val = 3 * 128 + (k.val - 128 - 128 - 128); omega))

variable (l0 l1 l2 : FVec Ideal S1x512x128 .f32)

theorem wTile0_apply (R : Tok) (h : Fin 4) (r : Fin 512) (c : Fin 128) (e0 : l0 (ix3 0 r c) = R.lg 0 h)
    (e1 : l1 (ix3 0 r c) = R.lg 1 h) (e2 : l2 (ix3 0 r c) = R.lg 2 h) :
    k0_pay134 (F := Ideal) l0 l1 l2 (ix2 r c) = wgt R h 0 := by
  unfold wgt
  rw [← e0, ← e1, ← e2]
  pointwise [k0_pay134, k0_pay133, k0_pay132, k0_pay131, k0_pay130]

theorem wTile1_apply (R : Tok) (h : Fin 4) (r : Fin 512) (c : Fin 128) (e0 : l0 (ix3 0 r c) = R.lg 0 h)
    (e1 : l1 (ix3 0 r c) = R.lg 1 h) (e2 : l2 (ix3 0 r c) = R.lg 2 h) :
    k0_pay135 (F := Ideal) l0 l1 l2 (ix2 r c) = wgt R h 1 := by
  unfold wgt
  rw [← e0, ← e1, ← e2]
  pointwise [k0_pay135, k0_pay133, k0_pay132, k0_pay131, k0_pay130]

theorem wTile2_apply (R : Tok) (h : Fin 4) (r : Fin 512) (c : Fin 128) (e0 : l0 (ix3 0 r c) = R.lg 0 h)
    (e1 : l1 (ix3 0 r c) = R.lg 1 h) (e2 : l2 (ix3 0 r c) = R.lg 2 h) :
    k0_pay136 (F := Ideal) l0 l1 l2 (ix2 r c) = wgt R h 2 := by
  unfold wgt
  rw [← e0, ← e1, ← e2]
  pointwise [k0_pay136, k0_pay133, k0_pay132, k0_pay131, k0_pay130]

theorem invTile_apply (r : Fin 512) (c : Fin 128) :
    k0_pay137 (F := Ideal) l0 l1 l2 (ix2 r c) = Ideal.div (Ideal.ofBits .f32 0x3F800000#32)
      (k0_pay134 (F := Ideal) l0 l1 l2 (ix2 r c) + k0_pay135 (F := Ideal) l0 l1 l2 (ix2 r c) + k0_pay136 (F := Ideal) l0 l1 l2 (ix2 r c)) := by
  pointwise [k0_pay137]

/-- One column of a tile, spread over the lanes. -/
def spread (o : ℕ) (h : S512x128.Slices ![0, o] S512x1) (w : FVec Ideal S512x128 .f32) : FVec Ideal S512x128 .f32 :=
  broadcastTo S512x128 (extractStridedSlice S512x1 ![0, o] w h) broadcasts_S512x1_S512x128

theorem spread_apply (o : Fin 128) (h : S512x128.Slices ![0, o.val] S512x1) (w : FVec Ideal S512x128 .f32) (r : Fin 512)
    (d : Fin 128) : spread o.val h w (ix2 r d) = w (ix2 r o) := by
  pointwise [spread]

/-- One head of the attention branch. -/
def daTile (o : ℕ) (h : S512x128.Slices ![0, o] S512x1) (w0 w1 w2 v : FVec Ideal S512x128 .f32)
    (o0 o1 o2 : FVec Ideal S1x1x512x128 .f32) : FVec Ideal S512x128 .bf16 :=
  truncf .bf16 (mulf (addf (addf (addf (broadcast S512x128 (Scalar.ofBits .f32 0x00000000#32))
      (mulf (spread o h w0) (shapeCast S512x128 o0 shapeCasts_S1x1x512x128_S512x128)))
      (mulf (spread o h w1) (shapeCast S512x128 o1 shapeCasts_S1x1x512x128_S512x128)))
      (mulf (spread o h w2) (shapeCast S512x128 o2 shapeCasts_S1x1x512x128_S512x128))) (spread o h v)) bitsLt_bf16_f32

theorem daTile_apply (o : Fin 128) (h : S512x128.Slices ![0, o.val] S512x1) (w0 w1 w2 v : FVec Ideal S512x128 .f32)
    (o0 o1 o2 : FVec Ideal S1x1x512x128 .f32) (r : Fin 512) (d : Fin 128) :
    (show EReal from daTile o.val h w0 w1 w2 v o0 o1 o2 (ix2 r d)) =
      (w0 (ix2 r o) * o0 (ix4 0 0 r d) + w1 (ix2 r o) * o1 (ix4 0 0 r d) + w2 (ix2 r o) * o2 (ix4 0 0 r d)) * v (ix2 r o) := by
  rw [← spread_apply o h w0 r d, ← spread_apply o h w1 r d, ← spread_apply o h w2 r d, ← spread_apply o h v r d]
  pointwise [daTile]

theorem daTile_eq (o : Fin 128) (hs : S512x128.Slices ![0, o.val] S512x1) (o0 o1 o2 : FVec Ideal S1x1x512x128 .f32)
    (R : Tok) (h : Fin 4) (r : Fin 512) (d : Fin 128) (e0 : l0 (ix3 0 r o) = R.lg 0 h) (e1 : l1 (ix3 0 r o) = R.lg 1 h)
    (e2 : l2 (ix3 0 r o) = R.lg 2 h) (f0 : o0 (ix4 0 0 r d) = R.og 0 h d) (f1 : o1 (ix4 0 0 r d) = R.og 1 h d)
    (f2 : o2 (ix4 0 0 r d) = R.og 2 h d) :
    (show EReal from daTile o.val hs (k0_pay134 l0 l1 l2) (k0_pay135 l0 l1 l2) (k0_pay136 l0 l1 l2) (k0_pay137 l0 l1 l2)
      o0 o1 o2 (ix2 r d)) = da R h d := by
  rw [daTile_apply, invTile_apply, wTile0_apply l0 l1 l2 R h r o e0 e1 e2, wTile1_apply l0 l1 l2 R h r o e0 e1 e2,
    wTile2_apply l0 l1 l2 R h r o e0 e1 e2, f0, f1, f2]
  rfl

/-- The gated sum of the two branches. -/
def mixTile (a b : FVec Ideal S512x512 .bf16) (g : FVec Ideal S512x1024 .bf16) (wd : FVec Ideal S512x1024 .bf16)
    (g' : FVec Ideal S512x1024 .bf16) (wa : FVec Ideal S512x1024 .bf16) : FVec Ideal S512x1024 .f32 :=
  addf (mulf (extf .f32 g bitsLt_bf16_f32) (matmul dot_S512x512_S512x1024_S512x1024_1_0_0_1_n_n none a
      (shapeCast S512x1024 wd shapeCasts_S512x1024_S512x1024) (constant S512x1024 .f32 0x00000000#32)))
    (mulf (extf .f32 g' bitsLt_bf16_f32) (matmul dot_S512x512_S512x1024_S512x1024_1_0_0_1_n_n none b
      (shapeCast S512x1024 wa shapeCasts_S512x1024_S512x1024) (constant S512x1024 .f32 0x00000000#32)))

theorem mixTile_apply (a b : FVec Ideal S512x512 .bf16) (g wd g' wa : FVec Ideal S512x1024 .bf16) (r : Fin 512)
    (j : Fin 1024) :
    mixTile a b g wd g' wa (ix2 r j) =
      (show EReal from g (ix2 r j)) * (∑ k : Fin 512, (show EReal from a (ix2 r k)) * (show EReal from wd (ix2 k j)))
        + (show EReal from g' (ix2 r j)) * (∑ k : Fin 512, (show EReal from b (ix2 r k)) * (show EReal from wa (ix2 k j))) := by
  pointwise [mixTile]

/-- The residual stream after the output matrix. -/
def hidTile (u : FVec Ideal S512x1024 .f32) (x : FVec Ideal S512x1024 .f32) (wo : FVec Ideal S1024x1024 .bf16) :
    FVec Ideal S512x1024 .f32 :=
  addf x (matmul dot_S512x1024_S1024x1024_S512x1024_1_0_0_1_n_n none (truncf .bf16 u bitsLt_bf16_f32)
    (shapeCast S1024x1024 wo shapeCasts_S1024x1024_S1024x1024) (constant S512x1024 .f32 0x00000000#32))

theorem hidTile_apply (u x : FVec Ideal S512x1024 .f32) (wo : FVec Ideal S1024x1024 .bf16) (r : Fin 512) (j : Fin 1024) :
    hidTile u x wo (ix2 r j) = x (ix2 r j) + ∑ k : Fin 1024, u (ix2 r k) * (show EReal from wo (ix2 k j)) := by
  pointwise [hidTile]

/-- The normalised row. -/
def rmsTile (u : FVec Ideal S512x1024 .f32) (n : FVec Ideal S1x1024 .f32) : FVec Ideal S512x1024 .f32 :=
  k0_pay149 u (mulf u u) n

theorem rmsTile_apply (u : FVec Ideal S512x1024 .f32) (n : FVec Ideal S1x1024 .f32) (r : Fin 512) (j : Fin 1024) :
    rmsTile u n (ix2 r j) = u (ix2 r j) * Ideal.rsqrt (Ideal.div (∑ k : Fin 1024, u (ix2 r k) * u (ix2 r k))
      (Ideal.ofBits .f32 0x44800000#32) + Ideal.ofBits .f32 0x358637BD#32) * n (ix2 0 j) := by
  pointwise [rmsTile, k0_pay149]

/-- The same transposed, as the second result's block holds it. -/
theorem rmsT_apply (u : FVec Ideal S512x1024 .f32) (n : FVec Ideal S1x1024 .f32) (r : Fin 512) (j : Fin 1024) :
    (show EReal from k0_pay150 u (mulf u u) n (ix3 0 j r)) = rmsTile u n (ix2 r j) := by
  pointwise [k0_pay150, rmsTile]

/-- The product with the query matrix. -/
theorem qryTile_apply (u : FVec Ideal S512x1024 .bf16) (wq : FVec Ideal S1024x2048 .bf16) (r : Fin 512) (j : Fin 2048) :
    (show EReal from k0_pay1 u wq (ix2 r j)) = ∑ k : Fin 1024, (show EReal from u (ix2 r k)) * (show EReal from wq (ix2 k j)) := by
  pointwise [k0_pay1]

end Cert.Merg

end
-- ==== Proof.MergePiece.lean ====
/-
  THE MERGE, ONE BLOCK OF 512 TOKENS: the two scratch buffers, which hold the three groups' outputs and log-sum-exps with
  one token per row, as one function of the blocks they are copied from.
-/
module

public import proofs.«01_k».proof.Proof.MergeTile
public import proofs.«01_k».proof.Proof.Gen.MergeIdeal.Frame
public import Idealize.ShloMosaic.Lib.WholeRead
public import Idealize.ShloMosaic.Lib.Pipeline.ValueKit.Basic

@[expose] public section

set_option maxRecDepth 16384

noncomputable section

namespace Cert.Merg

open Cert.MergeIdeal Cert.MergeIdeal.Gen Idealize.ShloMosaic Idealize.ShloMosaic.TcCoe Idealize.SL.Sem

/-- A block of residue rows, read at residue `r`, row `l`, column `c`. -/
def at4 {R L C : ℕ} (x : Shape.Idx ⟨4, ![1, R, L, C]⟩ → EReal) (r l c : ℕ) : EReal :=
  if h : r < R ∧ l < L ∧ c < C then x (ix4 0 ⟨r, h.1⟩ ⟨l, h.2.1⟩ ⟨c, h.2.2⟩) else 0

theorem at4_eq {R L C : ℕ} (x : Shape.Idx ⟨4, ![1, R, L, C]⟩ → EReal) (r l c : ℕ) (hr : r < R) (hl : l < L) (hc : c < C) :
    x (ix4 0 ⟨r, hr⟩ ⟨l, hl⟩ ⟨c, hc⟩) = at4 x r l c := by
  have h : r < R ∧ l < L ∧ c < C := ⟨hr, hl, hc⟩
  unfold at4
  rw [dif_pos h]

/-- Group `g`, token row `n`, column `c` of three such blocks: the groups of one, four and sixteen residues. -/
def pick3 {C : ℕ} (a : Shape.Idx ⟨4, ![1, 1, 512, C]⟩ → EReal) (b : Shape.Idx ⟨4, ![1, 4, 128, C]⟩ → EReal)
    (e : Shape.Idx ⟨4, ![1, 16, 32, C]⟩ → EReal) (g n c : ℕ) : EReal :=
  if g = 0 then at4 a 0 n c else if g = 1 then at4 b (n % 4) (n / 4) c else at4 e (n % 16) (n / 16) c

/-- A load of one residue's rows, columns `q` on. -/
theorem load4 {R L C n m : ℕ} {e : EltTy} (arg : Memref sig .tc .vmem ⟨4, ![1, R, L, C]⟩ e) (harg : arg.IsWhole)
    (x : Vec Ideal ⟨4, ![1, R, L, C]⟩ e) (r q : ℕ) (inb) (hr : r < R) (hn : n ≤ L) (hq : q + m ≤ C) (i : Fin n) (j : Fin m) :
    View.readAt (Elt Ideal) arg.view (Rect.unit (s := ⟨4, ![1, R, L, C]⟩) ![0, r, 0, q] ![1, 1, n, m] inb).toLoadRect
      (harg.unread x) (ix4 0 0 i j) = x (ix4 0 ⟨r, hr⟩ ⟨i.val, by omega⟩ ⟨q + j.val, by omega⟩) := by
  rw [harg.readAt_unread]
  exact congrArg x (funext fun a => Fin.ext (by
    match a with
    | ⟨0, _⟩ => rfl
    | ⟨1, _⟩ => show r + 1 * 0 = r; omega
    | ⟨2, _⟩ => show 0 + 1 * i.val = i.val; omega
    | ⟨3, _⟩ => show q + 1 * j.val = q + j.val; omega))

/-- A position of a tile with two unit axes in front. -/
theorem ix4_unit {n m : ℕ} (x : Shape.Idx ⟨4, ![1, 1, n, m]⟩) : x = ix4 0 0 (x 2) (x 3) := funext fun a => by
  match a with
  | ⟨0, _⟩ => exact Subsingleton.elim (α := Fin 1) _ _
  | ⟨1, _⟩ => exact Subsingleton.elim (α := Fin 1) _ _
  | ⟨2, _⟩ => rfl
  | ⟨3, _⟩ => rfl

/-! ### The copied tiles -/

def oTile0 (v : Vec Ideal S1x1x512x128 .bf16) : FVec Ideal S1x1x512x128 .f32 :=
  shapeCast S1x1x512x128 (extf (F := Ideal) .f32 (shapeCast S512x128 v shapeCasts_S1x1x512x128_S512x128) bitsLt_bf16_f32)
    shapeCasts_S512x128_S1x1x512x128

def oTile1 (v : Vec Ideal S1x1x128x128 .bf16) : FVec Ideal S1x1x128x128 .f32 :=
  shapeCast S1x1x128x128 (extf (F := Ideal) .f32 (shapeCast S128x128 v shapeCasts_S1x1x128x128_S128x128) bitsLt_bf16_f32)
    shapeCasts_S128x128_S1x1x128x128

def oTile2 (v : Vec Ideal S1x1x32x128 .bf16) : FVec Ideal S1x1x32x128 .f32 :=
  shapeCast S1x1x32x128 (extf (F := Ideal) .f32 (shapeCast S32x128 v shapeCasts_S1x1x32x128_S32x128) bitsLt_bf16_f32)
    shapeCasts_S32x128_S1x1x32x128

def lTile0 (v : Vec Ideal S1x1x512x128 .f32) : FVec Ideal S1x512x128 .f32 :=
  shapeCast S1x512x128 (shapeCast S512x128 v shapeCasts_S1x1x512x128_S512x128) shapeCasts_S512x128_S1x512x128

def lTile1 (v : Vec Ideal S1x1x128x128 .f32) : FVec Ideal S1x128x128 .f32 :=
  shapeCast S1x128x128 (shapeCast S128x128 v shapeCasts_S1x1x128x128_S128x128) shapeCasts_S128x128_S1x128x128

def lTile2 (v : Vec Ideal S1x1x32x128 .f32) : FVec Ideal S1x32x128 .f32 :=
  shapeCast S1x32x128 (shapeCast S32x128 v shapeCasts_S1x1x32x128_S32x128) shapeCasts_S32x128_S1x32x128

theorem oTile0_apply (v) (x : S1x1x512x128.Idx) : oTile0 v x = v (ix4 0 0 (x 2) (x 3)) := by
  pointwise [oTile0]
  exact congrArg v (ix4_unit x)
theorem oTile1_apply (v) (x : S1x1x128x128.Idx) : oTile1 v x = v (ix4 0 0 (x 2) (x 3)) := by
  pointwise [oTile1]
  exact congrArg v (ix4_unit x)
theorem oTile2_apply (v) (x : S1x1x32x128.Idx) : oTile2 v x = v (ix4 0 0 (x 2) (x 3)) := by
  pointwise [oTile2]
  exact congrArg v (ix4_unit x)
theorem lTile0_apply (v) (x : S1x512x128.Idx) : lTile0 v x = v (ix4 0 0 (x 1) (x 2)) := by pointwise [lTile0]
theorem lTile1_apply (v) (x : S1x128x128.Idx) : lTile1 v x = v (ix4 0 0 (x 1) (x 2)) := by pointwise [lTile1]
theorem lTile2_apply (v) (x : S1x32x128.Idx) : lTile2 v x = v (ix4 0 0 (x 1) (x 2)) := by pointwise [lTile2]

/-! ### Lists of stores -/

/-- A list of stores writes tiles of `G` when its first does and the others do. -/
theorem all_pieces {s : Shape} {e : EltTy} {G : s.Idx → Elt Ideal e} {r : Rect s} {v : r.shape.Idx → Elt Ideal e}
    {l : List (View.Piece (Elt Ideal) s e)} (h : ∀ x, v x = G (r.emb x)) (t : ∀ p ∈ l, ∀ x, p.2 x = G (p.1.emb x)) :
    ∀ p ∈ (⟨r, v⟩ :: l : List (View.Piece (Elt Ideal) s e)), ∀ x, p.2 x = G (p.1.emb x) :=
  List.forall_mem_cons.2 ⟨h, t⟩

/-- Some store covers `y`: the first when `P`, another when `Q`. -/
theorem some_piece {s : Shape} {e : EltTy} {y : s.Idx} {P Q : Prop} {r : Rect s} {v : r.shape.Idx → Elt Ideal e}
    {l : List (View.Piece (Elt Ideal) s e)} (h : P → y ∈ r.set) (t : Q → ∃ p ∈ l, y ∈ p.1.set) :
    P ∨ Q → ∃ p ∈ (⟨r, v⟩ :: l : List (View.Piece (Elt Ideal) s e)), y ∈ p.1.set := by
  rintro (hp | hq)
  · exact ⟨_, List.mem_cons_self, h hp⟩
  · obtain ⟨p, hm, hy⟩ := t hq
    exact ⟨p, List.mem_cons_of_mem _ hm, hy⟩

/-! ### The outputs' buffer: group, head, token, lane -/

section O
variable (x5 : Vec Ideal S1x1x512x512 .bf16) (x7 : Vec Ideal S1x4x128x512 .bf16) (x9 : Vec Ideal S1x16x32x512 .bf16)

def oFn (y : S3x4x512x128.Idx) : Elt Ideal .f32 := pick3 x5 x7 x9 (y 0).val (y 2).val ((y 1).val * 128 + (y 3).val)

theorem o0_piece (arg : Memref sig .tc .vmem S1x1x512x512 .bf16) (harg : arg.IsWhole) (h q : ℕ) (inb) (inb') (hq : q = h * 128) (hh : h < 4)
    (x : S1x1x512x128.Idx) :
    oTile0 (View.readAt (Elt Ideal) arg.view (Rect.unit (s := S1x1x512x512) ![0, 0, 0, q] S1x1x512x128.size inb).toLoadRect (harg.unread x5)) x
      = oFn x5 x7 x9 ((Rect.unit (s := S3x4x512x128) ![0, h, 0, 0] S1x1x512x128.size inb').emb x) := by
  have h0 : (x 0).val < 1 := (x 0).isLt
  have h1 : (x 1).val < 1 := (x 1).isLt
  refine (oTile0_apply _ x).trans ((load4 arg harg x5 0 q inb (by omega) (by omega) (by omega) (x 2) (x 3)).trans ((at4_eq _ _ _ _ _ _ _).trans ?_))
  show _ = pick3 x5 x7 x9 (0 + 1 * (x 0).val) (0 + 1 * (x 2).val) ((h + 1 * (x 1).val) * 128 + (0 + 1 * (x 3).val))
  unfold pick3
  rw [if_pos (by omega)]
  congr 1 <;> omega

theorem o1_piece (arg : Memref sig .tc .vmem S1x4x128x512 .bf16) (harg : arg.IsWhole) (h r q : ℕ) (inb) (inb') (sp) (hq : q = h * 128) (hh : h < 4)
    (hr : r < 4) (x : S1x1x128x128.Idx) :
    oTile1 (View.readAt (Elt Ideal) arg.view (Rect.unit (s := S1x4x128x512) ![0, r, 0, q] S1x1x128x128.size inb).toLoadRect (harg.unread x7)) x
      = oFn x5 x7 x9 (({ off := ![1, h, r, 0], size := S1x1x128x128.size, stride := ![1, 1, 4, 1], inb := inb', stride_pos := sp } :
          Rect S3x4x512x128).emb x) := by
  have h0 : (x 0).val < 1 := (x 0).isLt
  have h1 : (x 1).val < 1 := (x 1).isLt
  refine (oTile1_apply _ x).trans ((load4 arg harg x7 r q inb (by omega) (by omega) (by omega) (x 2) (x 3)).trans ((at4_eq _ _ _ _ _ _ _).trans ?_))
  show _ = pick3 x5 x7 x9 (1 + 1 * (x 0).val) (r + 4 * (x 2).val) ((h + 1 * (x 1).val) * 128 + (0 + 1 * (x 3).val))
  unfold pick3
  rw [if_neg (by omega), if_pos (by omega)]
  congr 1 <;> omega

theorem o2_piece (arg : Memref sig .tc .vmem S1x16x32x512 .bf16) (harg : arg.IsWhole) (h r q : ℕ) (inb) (inb') (sp) (hq : q = h * 128) (hh : h < 4)
    (hr : r < 16) (x : S1x1x32x128.Idx) :
    oTile2 (View.readAt (Elt Ideal) arg.view (Rect.unit (s := S1x16x32x512) ![0, r, 0, q] S1x1x32x128.size inb).toLoadRect (harg.unread x9)) x
      = oFn x5 x7 x9 (({ off := ![2, h, r, 0], size := S1x1x32x128.size, stride := ![1, 1, 16, 1], inb := inb', stride_pos := sp } :
          Rect S3x4x512x128).emb x) := by
  have h0 : (x 0).val < 1 := (x 0).isLt
  have h1 : (x 1).val < 1 := (x 1).isLt
  refine (oTile2_apply _ x).trans ((load4 arg harg x9 r q inb (by omega) (by omega) (by omega) (x 2) (x 3)).trans ((at4_eq _ _ _ _ _ _ _).trans ?_))
  show _ = pick3 x5 x7 x9 (2 + 1 * (x 0).val) (r + 16 * (x 2).val) ((h + 1 * (x 1).val) * 128 + (0 + 1 * (x 3).val))
  unfold pick3
  rw [if_neg (by omega), if_neg (by omega)]
  congr 1 <;> omega

theorem o0_mem (y : S3x4x512x128.Idx) (h : ℕ) (inb) (e : (y 0).val = 0 ∧ (y 1).val = h) :
    y ∈ (Rect.unit (s := S3x4x512x128) ![0, h, 0, 0] S1x1x512x128.size inb).set := by
  refine Rect.mem_set_unit.2 fun a => ?_
  have h2 : (y 2).val < 512 := (y 2).isLt
  have h3 : (y 3).val < 128 := (y 3).isLt
  match a with
  | ⟨0, _⟩ => show 0 ≤ (y 0).val ∧ (y 0).val < 0 + 1; omega
  | ⟨1, _⟩ => show h ≤ (y 1).val ∧ (y 1).val < h + 1; omega
  | ⟨2, _⟩ => show 0 ≤ (y 2).val ∧ (y 2).val < 0 + 512; omega
  | ⟨3, _⟩ => show 0 ≤ (y 3).val ∧ (y 3).val < 0 + 128; omega

theorem o1_mem (y : S3x4x512x128.Idx) (h r : ℕ) (inb) (sp) (e : (y 0).val = 1 ∧ (y 1).val = h ∧ (y 2).val % 16 % 4 = r) :
    y ∈ ({ off := ![1, h, r, 0], size := S1x1x128x128.size, stride := ![1, 1, 4, 1], inb := inb, stride_pos := sp } : Rect S3x4x512x128).set := by
  refine (LoadRect.mem_set _).2 fun a => ?_
  have h2 : (y 2).val < 512 := (y 2).isLt
  match a with
  | ⟨0, _⟩ => exact ⟨0, Nat.one_pos, show (y 0).val = 1 + 1 * 0 by omega⟩
  | ⟨1, _⟩ => exact ⟨0, Nat.one_pos, show (y 1).val = h + 1 * 0 by omega⟩
  | ⟨2, _⟩ => exact ⟨(y 2).val / 4, show (y 2).val / 4 < 128 by omega, show (y 2).val = r + 4 * ((y 2).val / 4) by omega⟩
  | ⟨3, _⟩ => exact ⟨(y 3).val, (y 3).isLt, show (y 3).val = 0 + 1 * (y 3).val by omega⟩

theorem o2_mem (y : S3x4x512x128.Idx) (h r : ℕ) (inb) (sp) (e : (y 0).val = 2 ∧ (y 1).val = h ∧ (y 2).val % 16 = r) :
    y ∈ ({ off := ![2, h, r, 0], size := S1x1x32x128.size, stride := ![1, 1, 16, 1], inb := inb, stride_pos := sp } : Rect S3x4x512x128).set := by
  refine (LoadRect.mem_set _).2 fun a => ?_
  have h2 : (y 2).val < 512 := (y 2).isLt
  match a with
  | ⟨0, _⟩ => exact ⟨0, Nat.one_pos, show (y 0).val = 2 + 1 * 0 by omega⟩
  | ⟨1, _⟩ => exact ⟨0, Nat.one_pos, show (y 1).val = h + 1 * 0 by omega⟩
  | ⟨2, _⟩ => exact ⟨(y 2).val / 16, show (y 2).val / 16 < 32 by omega, show (y 2).val = r + 16 * ((y 2).val / 16) by omega⟩
  | ⟨3, _⟩ => exact ⟨(y 3).val, (y 3).isLt, show (y 3).val = 0 + 1 * (y 3).val by omega⟩

end O

/-! ### The log-sum-exps' buffer: group, token, lane -/

section L
variable (x6 : Vec Ideal S1x1x512x128 .f32) (x8 : Vec Ideal S1x4x128x128 .f32) (x10 : Vec Ideal S1x16x32x128 .f32)

def lFn (y : S3x512x128.Idx) : Elt Ideal .f32 := pick3 x6 x8 x10 (y 0).val (y 1).val (y 2).val

theorem l0_piece (arg : Memref sig .tc .vmem S1x1x512x128 .f32) (harg : arg.IsWhole) (inb) (inb') (x : S1x512x128.Idx) :
    lTile0 (View.readAt (Elt Ideal) arg.view (Rect.unit (s := S1x1x512x128) ![0, 0, 0, 0] S1x1x512x128.size inb).toLoadRect (harg.unread x6)) x
      = lFn x6 x8 x10 ((Rect.unit (s := S3x512x128) ![0, 0, 0] S1x512x128.size inb').emb x) := by
  have h0 : (x 0).val < 1 := (x 0).isLt
  refine (lTile0_apply _ x).trans ((load4 arg harg x6 0 0 inb (by omega) (by omega) (by omega) (x 1) (x 2)).trans ((at4_eq _ _ _ _ _ _ _).trans ?_))
  show _ = pick3 x6 x8 x10 (0 + 1 * (x 0).val) (0 + 1 * (x 1).val) (0 + 1 * (x 2).val)
  unfold pick3
  rw [if_pos (by omega)]
  congr 1 <;> omega

theorem l1_piece (arg : Memref sig .tc .vmem S1x4x128x128 .f32) (harg : arg.IsWhole) (r : ℕ) (inb) (inb') (sp) (hr : r < 4) (x : S1x128x128.Idx) :
    lTile1 (View.readAt (Elt Ideal) arg.view (Rect.unit (s := S1x4x128x128) ![0, r, 0, 0] S1x1x128x128.size inb).toLoadRect (harg.unread x8)) x
      = lFn x6 x8 x10 (({ off := ![1, r, 0], size := S1x128x128.size, stride := ![1, 4, 1], inb := inb', stride_pos := sp } :
          Rect S3x512x128).emb x) := by
  have h0 : (x 0).val < 1 := (x 0).isLt
  refine (lTile1_apply _ x).trans ((load4 arg harg x8 r 0 inb (by omega) (by omega) (by omega) (x 1) (x 2)).trans ((at4_eq _ _ _ _ _ _ _).trans ?_))
  show _ = pick3 x6 x8 x10 (1 + 1 * (x 0).val) (r + 4 * (x 1).val) (0 + 1 * (x 2).val)
  unfold pick3
  rw [if_neg (by omega), if_pos (by omega)]
  congr 1 <;> omega

theorem l2_piece (arg : Memref sig .tc .vmem S1x16x32x128 .f32) (harg : arg.IsWhole) (r : ℕ) (inb) (inb') (sp) (hr : r < 16) (x : S1x32x128.Idx) :
    lTile2 (View.readAt (Elt Ideal) arg.view (Rect.unit (s := S1x16x32x128) ![0, r, 0, 0] S1x1x32x128.size inb).toLoadRect (harg.unread x10)) x
      = lFn x6 x8 x10 (({ off := ![2, r, 0], size := S1x32x128.size, stride := ![1, 16, 1], inb := inb', stride_pos := sp } :
          Rect S3x512x128).emb x) := by
  have h0 : (x 0).val < 1 := (x 0).isLt
  refine (lTile2_apply _ x).trans ((load4 arg harg x10 r 0 inb (by omega) (by omega) (by omega) (x 1) (x 2)).trans ((at4_eq _ _ _ _ _ _ _).trans ?_))
  show _ = pick3 x6 x8 x10 (2 + 1 * (x 0).val) (r + 16 * (x 1).val) (0 + 1 * (x 2).val)
  unfold pick3
  rw [if_neg (by omega), if_neg (by omega)]
  congr 1 <;> omega

theorem l0_mem (y : S3x512x128.Idx) (inb) (e : (y 0).val = 0) :
    y ∈ (Rect.unit (s := S3x512x128) ![0, 0, 0] S1x512x128.size inb).set := by
  refine Rect.mem_set_unit.2 fun a => ?_
  have h1 : (y 1).val < 512 := (y 1).isLt
  have h2 : (y 2).val < 128 := (y 2).isLt
  match a with
  | ⟨0, _⟩ => show 0 ≤ (y 0).val ∧ (y 0).val < 0 + 1; omega
  | ⟨1, _⟩ => show 0 ≤ (y 1).val ∧ (y 1).val < 0 + 512; omega
  | ⟨2, _⟩ => show 0 ≤ (y 2).val ∧ (y 2).val < 0 + 128; omega

theorem l1_mem (y : S3x512x128.Idx) (r : ℕ) (inb) (sp) (e : (y 0).val = 1 ∧ (y 1).val % 16 % 4 = r) :
    y ∈ ({ off := ![1, r, 0], size := S1x128x128.size, stride := ![1, 4, 1], inb := inb, stride_pos := sp } : Rect S3x512x128).set := by
  refine (LoadRect.mem_set _).2 fun a => ?_
  have h1 : (y 1).val < 512 := (y 1).isLt
  match a with
  | ⟨0, _⟩ => exact ⟨0, Nat.one_pos, show (y 0).val = 1 + 1 * 0 by omega⟩
  | ⟨1, _⟩ => exact ⟨(y 1).val / 4, show (y 1).val / 4 < 128 by omega, show (y 1).val = r + 4 * ((y 1).val / 4) by omega⟩
  | ⟨2, _⟩ => exact ⟨(y 2).val, (y 2).isLt, show (y 2).val = 0 + 1 * (y 2).val by omega⟩

theorem l2_mem (y : S3x512x128.Idx) (r : ℕ) (inb) (sp) (e : (y 0).val = 2 ∧ (y 1).val % 16 = r) :
    y ∈ ({ off := ![2, r, 0], size := S1x32x128.size, stride := ![1, 16, 1], inb := inb, stride_pos := sp } : Rect S3x512x128).set := by
  refine (LoadRect.mem_set _).2 fun a => ?_
  have h1 : (y 1).val < 512 := (y 1).isLt
  match a with
  | ⟨0, _⟩ => exact ⟨0, Nat.one_pos, show (y 0).val = 2 + 1 * 0 by omega⟩
  | ⟨1, _⟩ => exact ⟨(y 1).val / 16, show (y 1).val / 16 < 32 by omega, show (y 1).val = r + 16 * ((y 1).val / 16) by omega⟩
  | ⟨2, _⟩ => exact ⟨(y 2).val, (y 2).isLt, show (y 2).val = 0 + 1 * (y 2).val by omega⟩

end L

end Cert.Merg
-- ==== Proof.MergeHeld.lean ====
/-
  THE MERGE, ONE BLOCK OF 512 TOKENS: what the two scratch buffers hold once the three groups are copied.
-/
module

public import proofs.«01_k».proof.Proof.MergePiece

@[expose] public section

set_option maxRecDepth 16384
set_option synthInstance.maxSize 4096
set_option synthInstance.maxHeartbeats 1000000

noncomputable section

namespace Cert.Merg

open Cert.MergeIdeal Cert.MergeIdeal.Gen Idealize.ShloMosaic Idealize.ShloMosaic.TcCoe Idealize.SL.Sem

/-- What some case implies holds when the case does. -/
theorem of_cases {P Q : Prop} (f : P → Q) (p : P) : Q := f p

section O
variable (c : Dev nD) (arg6 : Memref sig .tc .vmem S1x1x512x512 .bf16) (harg6 : arg6.IsWhole)
  (arg8 : Memref sig .tc .vmem S1x4x128x512 .bf16) (harg8 : arg8.IsWhole)
  (arg10 : Memref sig .tc .vmem S1x16x32x512 .bf16) (harg10 : arg10.IsWhole)
  (x5 : Vec Ideal S1x1x512x512 .bf16) (x7 : Vec Ideal S1x4x128x512 .bf16) (x9 : Vec Ideal S1x16x32x512 .bf16)

theorem o_pieces : ∀ p ∈ kernelRun0_A.sl.HS0_84 (F := Ideal) c arg6 harg6 arg8 harg8 arg10 harg10 x5 x7 x9,
    ∀ x, p.2 x = oFn x5 x7 x9 (p.1.emb x) := by
  unfold kernelRun0_A.sl.HS0_84 kernelRun0_A.sl.HS0_72 kernelRun0_A.sl.HS0_13
  repeat refine all_pieces (fun x => o2_piece x5 x7 x9 arg10 harg10 _ _ _ _ _ _ (by decide) (by decide) (by decide) x) ?_
  repeat refine all_pieces (fun x => o1_piece x5 x7 x9 arg8 harg8 _ _ _ _ _ _ (by decide) (by decide) (by decide) x) ?_
  repeat refine all_pieces (fun x => o0_piece x5 x7 x9 arg6 harg6 _ _ _ _ (by decide) (by decide) x) ?_
  exact fun p h => absurd h List.not_mem_nil

theorem o_cover (y : S3x4x512x128.Idx) : ∃ p ∈ kernelRun0_A.sl.HS0_84 (F := Ideal) c arg6 harg6 arg8 harg8 arg10 harg10 x5 x7 x9, y ∈ p.1.set := by
  unfold kernelRun0_A.sl.HS0_84 kernelRun0_A.sl.HS0_72 kernelRun0_A.sl.HS0_13
  apply of_cases
  · repeat apply some_piece (o2_mem y _ _ _ _)
    repeat apply some_piece (o1_mem y _ _ _ _)
    repeat apply some_piece (o0_mem y _ _)
    exact False.elim
  · obtain ⟨g, e0⟩ : ∃ k : Fin 3, k.val = (y 0).val := ⟨⟨_, (y 0).isLt⟩, rfl⟩
    obtain ⟨h, e1⟩ : ∃ k : Fin 4, k.val = (y 1).val := ⟨⟨_, (y 1).isLt⟩, rfl⟩
    obtain ⟨r, e2⟩ : ∃ k : Fin 16, k.val = (y 2).val % 16 := ⟨⟨_, Nat.mod_lt _ (by decide)⟩, rfl⟩
    rw [← e0, ← e1, ← e2]
    clear e0 e1 e2
    revert g h r
    decide +kernel

/-- The outputs' buffer, read anywhere. -/
theorem o_held (w : Memref sig .tc .vmem S3x4x512x128 .f32) (y : S3x4x512x128.Idx) :
    w.view.read (Elt Ideal) (w.view.writes (Elt Ideal) w.view.junk (kernelRun0_A.sl.HS0_84 (F := Ideal) c arg6 harg6 arg8 harg8 arg10 harg10 x5 x7 x9)) y
      = oFn x5 x7 x9 y :=
  View.read_writes_apply_of_pieces _ _ _ _ (o_pieces c arg6 harg6 arg8 harg8 arg10 harg10 x5 x7 x9) y
    (o_cover c arg6 harg6 arg8 harg8 arg10 harg10 x5 x7 x9 y)

end O

section L
variable (c : Dev nD) (arg7 : Memref sig .tc .vmem S1x1x512x128 .f32) (harg7 : arg7.IsWhole)
  (arg9 : Memref sig .tc .vmem S1x4x128x128 .f32) (harg9 : arg9.IsWhole)
  (arg11 : Memref sig .tc .vmem S1x16x32x128 .f32) (harg11 : arg11.IsWhole)
  (x6 : Vec Ideal S1x1x512x128 .f32) (x8 : Vec Ideal S1x4x128x128 .f32) (x10 : Vec Ideal S1x16x32x128 .f32)

theorem l_pieces : ∀ p ∈ kernelRun0_A.sl.HS1_21 (F := Ideal) c arg7 harg7 arg9 harg9 arg11 harg11 x6 x8 x10,
    ∀ x, p.2 x = lFn x6 x8 x10 (p.1.emb x) := by
  unfold kernelRun0_A.sl.HS1_21
  repeat refine all_pieces (fun x => l2_piece x6 x8 x10 arg11 harg11 _ _ _ _ (by decide) x) ?_
  repeat refine all_pieces (fun x => l1_piece x6 x8 x10 arg9 harg9 _ _ _ _ (by decide) x) ?_
  refine all_pieces (fun x => l0_piece x6 x8 x10 arg7 harg7 _ _ x) ?_
  exact fun p h => absurd h List.not_mem_nil

theorem l_cover (y : S3x512x128.Idx) : ∃ p ∈ kernelRun0_A.sl.HS1_21 (F := Ideal) c arg7 harg7 arg9 harg9 arg11 harg11 x6 x8 x10, y ∈ p.1.set := by
  unfold kernelRun0_A.sl.HS1_21
  apply of_cases
  · repeat apply some_piece (l2_mem y _ _ _)
    repeat apply some_piece (l1_mem y _ _ _)
    apply some_piece (l0_mem y _)
    exact False.elim
  · obtain ⟨g, e0⟩ : ∃ k : Fin 3, k.val = (y 0).val := ⟨⟨_, (y 0).isLt⟩, rfl⟩
    obtain ⟨r, e1⟩ : ∃ k : Fin 16, k.val = (y 1).val % 16 := ⟨⟨_, Nat.mod_lt _ (by decide)⟩, rfl⟩
    rw [← e0, ← e1]
    clear e0 e1
    revert g r
    decide +kernel

/-- The log-sum-exps' buffer, read anywhere. -/
theorem l_held (w : Memref sig .tc .vmem S3x512x128 .f32) (y : S3x512x128.Idx) :
    w.view.read (Elt Ideal) (w.view.writes (Elt Ideal) w.view.junk (kernelRun0_A.sl.HS1_21 (F := Ideal) c arg7 harg7 arg9 harg9 arg11 harg11 x6 x8 x10)) y
      = lFn x6 x8 x10 y :=
  View.read_writes_apply_of_pieces _ _ _ _ (l_pieces c arg7 harg7 arg9 harg9 arg11 harg11 x6 x8 x10) y
    (l_cover c arg7 harg7 arg9 harg9 arg11 harg11 x6 x8 x10 y)

end L

end Cert.Merg
-- ==== Proof.MergeBlock.lean ====
/-
  THE MERGE, ONE BLOCK OF 512 TOKENS: each result's buffer after the body, as one function of the block's tokens.
-/
module

public import proofs.«01_k».proof.Proof.MergeHeld

@[expose] public section

set_option maxRecDepth 16384

noncomputable section

namespace Cert.Merg

open Cert.MergeIdeal Cert.MergeIdeal.Gen Idealize.ShloMosaic Idealize.ShloMosaic.TcCoe Idealize.SL.Sem

/-- A load of whole rows, columns `q` on. -/
theorem load2 {R C n : ℕ} {e : EltTy} (arg : Memref sig .tc .vmem ⟨2, ![R, C]⟩ e) (harg : arg.IsWhole)
    (x : Vec Ideal ⟨2, ![R, C]⟩ e) (q : ℕ) (inb) (hq : q + n ≤ C) (i : Fin R) (j : Fin n) :
    View.readAt (Elt Ideal) arg.view (Rect.unit (s := ⟨2, ![R, C]⟩) ![0, q] ![R, n] inb).toLoadRect
      (harg.unread x) (ix2 i j) = x (ix2 i ⟨q + j.val, by omega⟩) := by
  rw [harg.readAt_unread]
  exact congrArg x (funext fun a => Fin.ext (by
    match a with
    | ⟨0, _⟩ => show 0 + 1 * i.val = i.val; omega
    | ⟨1, _⟩ => show q + 1 * j.val = q + j.val; omega))

/-- A load of the whole. -/
theorem load2_all {R C : ℕ} {e : EltTy} (arg : Memref sig .tc .vmem ⟨2, ![R, C]⟩ e) (harg : arg.IsWhole)
    (x : Vec Ideal ⟨2, ![R, C]⟩ e) (inb) (i : Fin R) (j : Fin C) :
    View.readAt (Elt Ideal) arg.view (Rect.unit (s := ⟨2, ![R, C]⟩) ![0, 0] ![R, C] inb).toLoadRect
      (harg.unread x) (ix2 i j) = x (ix2 i j) := by
  rw [harg.readAt_unread]
  exact congrArg x (funext fun a => Fin.ext (by
    match a with
    | ⟨0, _⟩ => show 0 + 1 * i.val = i.val; omega
    | ⟨1, _⟩ => show 0 + 1 * j.val = j.val; omega))

/-- A position of a buffer, in a rectangle that is the whole buffer. -/
theorem emb_all2 {R C : ℕ} (inb) (x : Shape.Idx ⟨2, ![R, C]⟩) : (Rect.unit (s := ⟨2, ![R, C]⟩) ![0, 0] ![R, C] inb).emb x = x :=
  funext fun a => Fin.ext (by
    match a with
    | ⟨0, _⟩ => show 0 + 1 * (x 0).val = (x 0).val; omega
    | ⟨1, _⟩ => show 0 + 1 * (x 1).val = (x 1).val; omega)

theorem emb_all3 {R C : ℕ} (inb) (x : Shape.Idx ⟨3, ![1, R, C]⟩) : (Rect.unit (s := ⟨3, ![1, R, C]⟩) ![0, 0, 0] ![1, R, C] inb).emb x = x :=
  funext fun a => Fin.ext (by
    match a with
    | ⟨0, _⟩ => show 0 + 1 * (x 0).val = (x 0).val; omega
    | ⟨1, _⟩ => show 0 + 1 * (x 1).val = (x 1).val; omega
    | ⟨2, _⟩ => show 0 + 1 * (x 2).val = (x 2).val; omega)

theorem ix2_eq {R C : ℕ} (x : Shape.Idx ⟨2, ![R, C]⟩) : x = ix2 (x 0) (x 1) := funext fun a => by
  match a with
  | ⟨0, _⟩ => rfl
  | ⟨1, _⟩ => rfl

theorem ix3_eq {R C : ℕ} (x : Shape.Idx ⟨3, ![1, R, C]⟩) : x = ix3 0 (x 1) (x 2) := funext fun a => by
  match a with
  | ⟨0, _⟩ => exact Subsingleton.elim (α := Fin 1) _ _
  | ⟨1, _⟩ => rfl
  | ⟨2, _⟩ => rfl

section Blk
variable (x0 : Vec Ideal S512x1024 .f32) (x1 x2 : Vec Ideal S512x512 .f32) (x3 : Vec Ideal S512x512 .bf16) (x4 : Vec Ideal S512x2048 .bf16)
  (x5 : Vec Ideal S1x1x512x512 .bf16) (x6 : Vec Ideal S1x1x512x128 .f32) (x7 : Vec Ideal S1x4x128x512 .bf16)
  (x8 : Vec Ideal S1x4x128x128 .f32) (x9 : Vec Ideal S1x16x32x512 .bf16) (x10 : Vec Ideal S1x16x32x128 .f32)
  (x11 : Vec Ideal S1x128 .f32) (x12 x13 : Vec Ideal S512x1024 .bf16) (x14 : Vec Ideal S1024x1024 .bf16)
  (x15 : Vec Ideal S1x1024 .f32) (x16 : Vec Ideal S1024x2048 .bf16)

/-- Token `r` of the block. -/
def blkTok (r : Fin 512) : Tok where
  x j := x0 (ix2 r j)
  o h d := x1 (ix2 r ⟨h.val * 128 + d.val, by omega⟩) + x2 (ix2 r ⟨h.val * 128 + d.val, by omega⟩)
  z h d := x3 (ix2 r ⟨h.val * 128 + d.val, by omega⟩)
  g j := x4 (ix2 r j)
  og g h d := pick3 x5 x7 x9 g.val r.val (h.val * 128 + d.val)
  lg g h := pick3 x6 x8 x10 g.val r.val h.val

/-- The block's weights. -/
def blkWts : Wts where
  gain d := x11 (ix2 0 d)
  wdn k j := x12 (ix2 k j)
  wda k j := x13 (ix2 k j)
  wo k j := x14 (ix2 k j)
  nffn j := x15 (ix2 0 j)
  wq k j := x16 (ix2 k j)

end Blk

section Run
variable (c : Dev nD) (i : grid0.Coords) (R : Tok) (W : Wts)
  (arg1 : Memref sig .tc .vmem S512x1024 .f32) (harg1 : arg1.IsWhole) (arg2 : Memref sig .tc .vmem S512x512 .f32) (harg2 : arg2.IsWhole)
  (arg3 : Memref sig .tc .vmem S512x512 .f32) (harg3 : arg3.IsWhole) (arg4 : Memref sig .tc .vmem S512x512 .bf16) (harg4 : arg4.IsWhole)
  (arg5 : Memref sig .tc .vmem S512x2048 .bf16) (harg5 : arg5.IsWhole) (arg6 : Memref sig .tc .vmem S1x1x512x512 .bf16) (harg6 : arg6.IsWhole)
  (arg7 : Memref sig .tc .vmem S1x1x512x128 .f32) (harg7 : arg7.IsWhole) (arg8 : Memref sig .tc .vmem S1x4x128x512 .bf16) (harg8 : arg8.IsWhole)
  (arg9 : Memref sig .tc .vmem S1x4x128x128 .f32) (harg9 : arg9.IsWhole) (arg10 : Memref sig .tc .vmem S1x16x32x512 .bf16) (harg10 : arg10.IsWhole)
  (arg11 : Memref sig .tc .vmem S1x16x32x128 .f32) (harg11 : arg11.IsWhole) (arg12 : Memref sig .tc .vmem S1x128 .f32) (harg12 : arg12.IsWhole)
  (arg13 : Memref sig .tc .vmem S512x1024 .bf16) (harg13 : arg13.IsWhole) (arg14 : Memref sig .tc .vmem S512x1024 .bf16) (harg14 : arg14.IsWhole)
  (arg15 : Memref sig .tc .vmem S1024x1024 .bf16) (harg15 : arg15.IsWhole) (arg16 : Memref sig .tc .vmem S1x1024 .f32) (harg16 : arg16.IsWhole)
  (arg17 : Memref sig .tc .vmem S1024x2048 .bf16) (harg17 : arg17.IsWhole) (arg18 : Memref sig .tc .vmem S512x1024 .f32) (harg18 : arg18.IsWhole)
  (arg19 : Memref sig .tc .vmem S1x1024x512 .bf16) (harg19 : arg19.IsWhole) (arg20 : Memref sig .tc .vmem S512x2048 .bf16) (harg20 : arg20.IsWhole)
  (arg21 : Memref sig .tc .vmem S3x4x512x128 .f32) (harg21 : arg21.IsWhole) (arg22 : Memref sig .tc .vmem S3x512x128 .f32) (harg22 : arg22.IsWhole)
  (x0 : Vec Ideal S512x1024 .f32) (x1 x2 : Vec Ideal S512x512 .f32) (x3 : Vec Ideal S512x512 .bf16) (x4 : Vec Ideal S512x2048 .bf16)
  (x5 : Vec Ideal S1x1x512x512 .bf16) (x6 : Vec Ideal S1x1x512x128 .f32) (x7 : Vec Ideal S1x4x128x512 .bf16)
  (x8 : Vec Ideal S1x4x128x128 .f32) (x9 : Vec Ideal S1x16x32x512 .bf16) (x10 : Vec Ideal S1x16x32x128 .f32)
  (x11 : Vec Ideal S1x128 .f32) (x12 x13 : Vec Ideal S512x1024 .bf16) (x14 : Vec Ideal S1024x1024 .bf16)
  (x15 : Vec Ideal S1x1024 .f32) (x16 : Vec Ideal S1024x2048 .bf16)

/-- One head of the recurrence's branch, from the loads at its columns. -/
theorem dn_head (h : Fin 4) (q : ℕ) (i2 i3 i4 i12) (hq : q = h.val * 128) (r : Fin 512) (d : Fin 128) :
    (show EReal from dnTile
      (View.readAt (Elt Ideal) arg2.view (Rect.unit (s := S512x512) ![0, q] S512x128.size i2).toLoadRect (harg2.unread x1))
      (View.readAt (Elt Ideal) arg3.view (Rect.unit (s := S512x512) ![0, q] S512x128.size i3).toLoadRect (harg3.unread x2))
      (View.readAt (Elt Ideal) arg12.view (Rect.unit (s := S1x128) ![0, 0] S1x128.size i12).toLoadRect (harg12.unread x11))
      (View.readAt (Elt Ideal) arg4.view (Rect.unit (s := S512x512) ![0, q] S512x128.size i4).toLoadRect (harg4.unread x3))
      (ix2 r d)) = dn (blkTok x0 x1 x2 x3 x4 x5 x6 x7 x8 x9 x10 r) (blkWts x11 x12 x13 x14 x15 x16) h d := by
  subst hq
  refine dnTile_apply _ _ _ _ _ _ h r d (fun k => ?_) ?_ ?_
  · exact congrArg₂ (· + ·) (load2 arg2 harg2 x1 _ i2 (by omega) r k) (load2 arg3 harg3 x2 _ i3 (by omega) r k)
  · exact load2_all arg12 harg12 x11 i12 0 d
  · exact load2 arg4 harg4 x3 _ i4 (by omega) r d

theorem dn_row (r : Fin 512) (k : Fin 512) :
    (show EReal from kernelRun0_A.sl.r_7 (F := Ideal) c arg2 harg2 arg3 harg3 arg4 harg4 arg12 harg12 x1 x2 x3 x11 (ix2 r k))
      = flat (dn (blkTok x0 x1 x2 x3 x4 x5 x6 x7 x8 x9 x10 r) (blkWts x11 x12 x13 x14 x15 x16)) k :=
  cat4_apply _ _ _ _ _ r
    (dn_head arg2 harg2 arg3 harg3 arg4 harg4 arg12 harg12 x0 x1 x2 x3 x4 x5 x6 x7 x8 x9 x10 x11 x12 x13 x14 x15 x16 0 0 _ _ _ _ rfl r)
    (dn_head arg2 harg2 arg3 harg3 arg4 harg4 arg12 harg12 x0 x1 x2 x3 x4 x5 x6 x7 x8 x9 x10 x11 x12 x13 x14 x15 x16 1 128 _ _ _ _ rfl r)
    (dn_head arg2 harg2 arg3 harg3 arg4 harg4 arg12 harg12 x0 x1 x2 x3 x4 x5 x6 x7 x8 x9 x10 x11 x12 x13 x14 x15 x16 2 256 _ _ _ _ rfl r)
    (dn_head arg2 harg2 arg3 harg3 arg4 harg4 arg12 harg12 x0 x1 x2 x3 x4 x5 x6 x7 x8 x9 x10 x11 x12 x13 x14 x15 x16 3 384 _ _ _ _ rfl r) k

/-- A load of one group's log-sum-exps. -/
theorem l_load (g : ℕ) (inb) (r : Fin 512) (k : Fin 128) :
    arg22.view.readCov (kernelRun0_A.sl.HS1_21 (F := Ideal) c arg7 harg7 arg9 harg9 arg11 harg11 x6 x8 x10) (Rect.unit (s := S3x512x128) ![g, 0, 0] S1x512x128.size inb).toLoadRect (ix3 0 r k)
      = pick3 x6 x8 x10 g r.val k.val := by
  refine (l_held c arg7 harg7 arg9 harg9 arg11 harg11 x6 x8 x10 arg22 _).trans ?_
  show pick3 x6 x8 x10 (g + 1 * 0) (0 + 1 * r.val) (0 + 1 * k.val) = _
  congr 1 <;> omega

/-- A load of one group's outputs of one head. -/
theorem o_load (g h : ℕ) (inb) (r : Fin 512) (d : Fin 128) :
    arg21.view.readCov (kernelRun0_A.sl.HS0_84 (F := Ideal) c arg6 harg6 arg8 harg8 arg10 harg10 x5 x7 x9) (Rect.unit (s := S3x4x512x128) ![g, h, 0, 0] S1x1x512x128.size inb).toLoadRect (ix4 0 0 r d)
      = pick3 x5 x7 x9 g r.val (h * 128 + d.val) := by
  refine (o_held c arg6 harg6 arg8 harg8 arg10 harg10 x5 x7 x9 arg21 _).trans ?_
  show pick3 x5 x7 x9 (g + 1 * 0) (0 + 1 * r.val) ((h + 1 * 0) * 128 + (0 + 1 * d.val)) = _
  congr 1 <;> omega

/-- One head of the attention branch. -/
theorem da_head (h : Fin 4) (o : ℕ) (ho : o = h.val) (hs) (i0 i1 i2) (r : Fin 512) (d : Fin 128) :
    (show EReal from daTile o hs
      (kernelRun0_A.sl.r_26 (F := Ideal) c arg7 harg7 arg9 harg9 arg11 harg11 arg22 x6 x8 x10) (kernelRun0_A.sl.r_27 (F := Ideal) c arg7 harg7 arg9 harg9 arg11 harg11 arg22 x6 x8 x10)
      (kernelRun0_A.sl.r_28 (F := Ideal) c arg7 harg7 arg9 harg9 arg11 harg11 arg22 x6 x8 x10) (kernelRun0_A.sl.r_29 (F := Ideal) c arg7 harg7 arg9 harg9 arg11 harg11 arg22 x6 x8 x10)
      (arg21.view.readCov (kernelRun0_A.sl.HS0_84 (F := Ideal) c arg6 harg6 arg8 harg8 arg10 harg10 x5 x7 x9) (Rect.unit (s := S3x4x512x128) ![0, o, 0, 0] S1x1x512x128.size i0).toLoadRect)
      (arg21.view.readCov (kernelRun0_A.sl.HS0_84 (F := Ideal) c arg6 harg6 arg8 harg8 arg10 harg10 x5 x7 x9) (Rect.unit (s := S3x4x512x128) ![1, o, 0, 0] S1x1x512x128.size i1).toLoadRect)
      (arg21.view.readCov (kernelRun0_A.sl.HS0_84 (F := Ideal) c arg6 harg6 arg8 harg8 arg10 harg10 x5 x7 x9) (Rect.unit (s := S3x4x512x128) ![2, o, 0, 0] S1x1x512x128.size i2).toLoadRect)
      (ix2 r d)) = da (blkTok x0 x1 x2 x3 x4 x5 x6 x7 x8 x9 x10 r) h d := by
  subst ho
  exact daTile_eq _ _ _ (⟨h.val, by omega⟩ : Fin 128) hs _ _ _ _ h r d (l_load c arg7 harg7 arg9 harg9 arg11 harg11 arg22 x6 x8 x10 0 _ r _)
    (l_load c arg7 harg7 arg9 harg9 arg11 harg11 arg22 x6 x8 x10 1 _ r _) (l_load c arg7 harg7 arg9 harg9 arg11 harg11 arg22 x6 x8 x10 2 _ r _)
    (o_load c arg6 harg6 arg8 harg8 arg10 harg10 arg21 x5 x7 x9 0 h.val i0 r d) (o_load c arg6 harg6 arg8 harg8 arg10 harg10 arg21 x5 x7 x9 1 h.val i1 r d)
    (o_load c arg6 harg6 arg8 harg8 arg10 harg10 arg21 x5 x7 x9 2 h.val i2 r d)

theorem hid_row (r : Fin 512) (j : Fin 1024) :
    kernelRun0_A.sl.r_39 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14 (ix2 r j)
      = hidOf (blkTok x0 x1 x2 x3 x4 x5 x6 x7 x8 x9 x10 r) (blkWts x11 x12 x13 x14 x15 x16) j := by
  unfold kernelRun0_A.sl.r_39 k0_pay147
  dsimp only
  refine (hidTile_apply (mixTile _ (cat4 _ _ _ _) _ _ _ _) _ _ r j).trans ?_
  unfold hidOf hid
  refine congrArg₂ (· + ·) (load2_all arg1 harg1 x0 _ r j) (Finset.sum_congr rfl fun k _ => congrArg₂ (· * ·) ?_ ?_)
  · refine (mixTile_apply _ _ _ _ _ _ r k).trans (congrArg₂ (· + ·) ?_ ?_)
    · refine congrArg₂ (· * ·) ?_ (Finset.sum_congr rfl fun n _ => congrArg₂ (· * ·) ?_ ?_)
      · exact (load2 arg5 harg5 x4 0 _ (by omega) r k).trans (congrArg x4 (congrArg (ix2 r) (Fin.ext (Nat.zero_add _))))
      · exact dn_row c arg2 harg2 arg3 harg3 arg4 harg4 arg12 harg12 x0 x1 x2 x3 x4 x5 x6 x7 x8 x9 x10 x11 x12 x13 x14 x15 x16 r n
      · exact load2_all arg13 harg13 x12 _ n k
    · refine congrArg₂ (· * ·) ?_ (Finset.sum_congr rfl fun n _ => congrArg₂ (· * ·) ?_ ?_)
      · exact load2 arg5 harg5 x4 1024 _ (by omega) r k
      · exact cat4_apply _ _ _ _ _ r
          (da_head c arg6 harg6 arg7 harg7 arg8 harg8 arg9 harg9 arg10 harg10 arg11 harg11 arg21 arg22 x0 x1 x2 x3 x4 x5 x6 x7 x8 x9 x10 0 0 rfl _ _ _ _ r)
          (da_head c arg6 harg6 arg7 harg7 arg8 harg8 arg9 harg9 arg10 harg10 arg11 harg11 arg21 arg22 x0 x1 x2 x3 x4 x5 x6 x7 x8 x9 x10 1 1 rfl _ _ _ _ r)
          (da_head c arg6 harg6 arg7 harg7 arg8 harg8 arg9 harg9 arg10 harg10 arg11 harg11 arg21 arg22 x0 x1 x2 x3 x4 x5 x6 x7 x8 x9 x10 2 2 rfl _ _ _ _ r)
          (da_head c arg6 harg6 arg7 harg7 arg8 harg8 arg9 harg9 arg10 harg10 arg11 harg11 arg21 arg22 x0 x1 x2 x3 x4 x5 x6 x7 x8 x9 x10 3 3 rfl _ _ _ _ r) n
      · exact load2_all arg14 harg14 x13 _ n k
  · exact load2_all arg15 harg15 x14 _ k j

theorem rms_row (r : Fin 512) (inb) (j : Fin 1024) :
    rmsTile (kernelRun0_A.sl.r_39 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14)
      (View.readAt (Elt Ideal) arg16.view (Rect.unit (s := S1x1024) ![0, 0] S1x1024.size inb).toLoadRect (harg16.unread x15)) (ix2 r j)
      = rmsOf (blkTok x0 x1 x2 x3 x4 x5 x6 x7 x8 x9 x10 r) (blkWts x11 x12 x13 x14 x15 x16) j := by
  have e := hid_row c arg1 harg1 arg2 harg2 arg3 harg3 arg4 harg4 arg5 harg5 arg6 harg6 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14 x15 x16 r
  refine (rmsTile_apply _ _ r j).trans ?_
  unfold rmsOf rms
  simp only [e]
  exact congrArg _ (load2_all arg16 harg16 x15 inb 0 j)

theorem qry_row (r : Fin 512) (inb) (inb') (j : Fin 2048) :
    (show EReal from k0_pay1 (F := Ideal) (truncf .bf16 (rmsTile (kernelRun0_A.sl.r_39 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14)
      (View.readAt (Elt Ideal) arg16.view (Rect.unit (s := S1x1024) ![0, 0] S1x1024.size inb).toLoadRect (harg16.unread x15))) bitsLt_bf16_f32)
      (View.readAt (Elt Ideal) arg17.view (Rect.unit (s := S1024x2048) ![0, 0] S1024x2048.size inb').toLoadRect (harg17.unread x16)) (ix2 r j))
      = qryOf (blkTok x0 x1 x2 x3 x4 x5 x6 x7 x8 x9 x10 r) (blkWts x11 x12 x13 x14 x15 x16) j := by
  refine (qryTile_apply _ _ r j).trans ?_
  unfold qryOf qry
  refine Finset.sum_congr rfl fun k _ => congrArg₂ (· * ·) ?_ ?_
  · exact rms_row c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg21 arg22 x0 x1 x2 x3 x4 x5 x6 x7 x8 x9 x10 x11 x12 x13 x14 x15 x16 r inb k
  · exact load2_all arg17 harg17 x16 inb' k j

/-! ### The three results' buffers -/

def hidFn (y : S512x1024.Idx) : Elt Ideal .f32 := hidOf (blkTok x0 x1 x2 x3 x4 x5 x6 x7 x8 x9 x10 (y 0)) (blkWts x11 x12 x13 x14 x15 x16) (y 1)
def rmsFn (y : S1x1024x512.Idx) : Elt Ideal .bf16 := rmsOf (blkTok x0 x1 x2 x3 x4 x5 x6 x7 x8 x9 x10 (y 2)) (blkWts x11 x12 x13 x14 x15 x16) (y 1)
def qryFn (y : S512x2048.Idx) : Elt Ideal .bf16 := qryOf (blkTok x0 x1 x2 x3 x4 x5 x6 x7 x8 x9 x10 (y 0)) (blkWts x11 x12 x13 x14 x15 x16) (y 1)

theorem pieces17 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16).1, ∀ x, p.2 x = hidFn x0 x1 x2 x3 x4 x5 x6 x7 x8 x9 x10 x11 x12 x13 x14 x15 x16 (p.1.emb x) := by
  unfold kernelRun0_A
  dsimp only
  refine all_pieces (fun x => ?_) (fun p h => absurd h List.not_mem_nil)
  rw [emb_all2 (R := 512) (C := 1024) _ x]
  refine (congrArg (kernelRun0_A.sl.r_39 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14) (ix2_eq x)).trans ?_
  exact hid_row c arg1 harg1 arg2 harg2 arg3 harg3 arg4 harg4 arg5 harg5 arg6 harg6 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14 x15 x16 (x 0) (x 1)

theorem pieces18 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16).2.1, ∀ x, p.2 x = rmsFn x0 x1 x2 x3 x4 x5 x6 x7 x8 x9 x10 x11 x12 x13 x14 x15 x16 (p.1.emb x) := by
  unfold kernelRun0_A
  dsimp only
  refine all_pieces (fun x => ?_) (fun p h => absurd h List.not_mem_nil)
  rw [emb_all3 (R := 1024) (C := 512) _ x]
  refine (congrArg (k0_pay150 (F := Ideal) (kernelRun0_A.sl.r_39 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14) (kernelRun0_A.sl.r_40 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14) _) (ix3_eq x)).trans ?_
  refine (rmsT_apply (kernelRun0_A.sl.r_39 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14) _ (x 2) (x 1)).trans ?_
  exact rms_row c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg21 arg22 x0 x1 x2 x3 x4 x5 x6 x7 x8 x9 x10 x11 x12 x13 x14 x15 x16 (x 2) _ (x 1)

theorem pieces19 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16).2.2.1, ∀ x, p.2 x = qryFn x0 x1 x2 x3 x4 x5 x6 x7 x8 x9 x10 x11 x12 x13 x14 x15 x16 (p.1.emb x) := by
  unfold kernelRun0_A
  dsimp only
  refine all_pieces (fun x => ?_) (fun p h => absurd h List.not_mem_nil)
  rw [emb_all2 (R := 512) (C := 2048) _ x]
  refine (congrArg (k0_pay1 (F := Ideal) _ _) (ix2_eq x)).trans ?_
  exact qry_row c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg21 arg22 x0 x1 x2 x3 x4 x5 x6 x7 x8 x9 x10 x11 x12 x13 x14 x15 x16 (x 0) _ _ (x 1)

theorem out17 (y : S512x1024.Idx) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 y = hidFn x0 x1 x2 x3 x4 x5 x6 x7 x8 x9 x10 x11 x12 x13 x14 x15 x16 y := by
  unfold out0_A_17
  exact View.read_writes_apply_of_pieces _ _ (hidFn x0 x1 x2 x3 x4 x5 x6 x7 x8 x9 x10 x11 x12 x13 x14 x15 x16) _ (pieces17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16) y
    (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 y)

theorem out18 (y : S1x1024x512.Idx) : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 y = rmsFn x0 x1 x2 x3 x4 x5 x6 x7 x8 x9 x10 x11 x12 x13 x14 x15 x16 y := by
  unfold out0_A_18
  exact View.read_writes_apply_of_pieces _ _ (rmsFn x0 x1 x2 x3 x4 x5 x6 x7 x8 x9 x10 x11 x12 x13 x14 x15 x16) _ (pieces18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16) y
    (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 y)

theorem out19 (y : S512x2048.Idx) : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 y = qryFn x0 x1 x2 x3 x4 x5 x6 x7 x8 x9 x10 x11 x12 x13 x14 x15 x16 y := by
  unfold out0_A_19
  exact View.read_writes_apply_of_pieces _ _ (qryFn x0 x1 x2 x3 x4 x5 x6 x7 x8 x9 x10 x11 x12 x13 x14 x15 x16) _ (pieces19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16) y
    (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 y)

end Run

end Cert.Merg
-- ==== Proof.MergeArray.lean ====
module

public import proofs.«01_k».proof.Proof.MergeArr
public import proofs.«01_k».proof.Proof.MergeBlock
public import proofs.«01_k».proof.Proof.Gen.MergeIdeal.Value
public import Idealize.ShloMosaic.Lib.Pointwise
public import Idealize.ShloMosaic.Lib.KernelVsHost
public import Idealize.ShloMosaic.Lib.StableHlo.RunRead
public import Idealize.ShloMosaic.Lib.Pipeline.ValueKit.Geometry

/-! The three arrays after the run: block by block, each is the specification's array of the arguments. -/

@[expose] public section

set_option maxRecDepth 16384

noncomputable section

namespace Cert.Merg

open Cert.MergeIdeal Cert.MergeIdeal.Gen Idealize.ShloMosaic Idealize.ShloMosaic.TcCoe

variable (m : (ℓ : Loc nD τ sig) → Buf (Elt Ideal) ℓ)

theorem tile0 : ∀ t : Fin cfg0.N, win0_0.index t = ![t.val, 0] := (by decide +kernel : ∀ t : Fin grid0.N, _)
theorem tile1 : ∀ t : Fin cfg0.N, win0_1.index t = ![t.val, 0] := (by decide +kernel : ∀ t : Fin grid0.N, _)
theorem tile2 : ∀ t : Fin cfg0.N, win0_2.index t = ![t.val, 0] := (by decide +kernel : ∀ t : Fin grid0.N, _)
theorem tile3 : ∀ t : Fin cfg0.N, win0_3.index t = ![t.val, 3] := (by decide +kernel : ∀ t : Fin grid0.N, _)
theorem tile4 : ∀ t : Fin cfg0.N, win0_4.index t = ![t.val, 0] := (by decide +kernel : ∀ t : Fin grid0.N, _)
theorem tile5 : ∀ t : Fin cfg0.N, win0_5.index t = ![t.val / 16, 0, t.val % 16, 0] := (by decide +kernel : ∀ t : Fin grid0.N, _)
theorem tile6 : ∀ t : Fin cfg0.N, win0_6.index t = ![t.val / 16, 0, t.val % 16, 0] := (by decide +kernel : ∀ t : Fin grid0.N, _)
theorem tile7 : ∀ t : Fin cfg0.N, win0_7.index t = ![t.val / 16, 0, t.val % 16, 0] := (by decide +kernel : ∀ t : Fin grid0.N, _)
theorem tile8 : ∀ t : Fin cfg0.N, win0_8.index t = ![t.val / 16, 0, t.val % 16, 0] := (by decide +kernel : ∀ t : Fin grid0.N, _)
theorem tile9 : ∀ t : Fin cfg0.N, win0_9.index t = ![t.val / 16, 0, t.val % 16, 0] := (by decide +kernel : ∀ t : Fin grid0.N, _)
theorem tile10 : ∀ t : Fin cfg0.N, win0_10.index t = ![t.val / 16, 0, t.val % 16, 0] := (by decide +kernel : ∀ t : Fin grid0.N, _)
theorem tile11 : ∀ t : Fin cfg0.N, win0_11.index t = ![0, 0] := (by decide +kernel : ∀ t : Fin grid0.N, _)
theorem tile12 : ∀ t : Fin cfg0.N, win0_12.index t = ![0, 0] := (by decide +kernel : ∀ t : Fin grid0.N, _)
theorem tile13 : ∀ t : Fin cfg0.N, win0_13.index t = ![0, 0] := (by decide +kernel : ∀ t : Fin grid0.N, _)
theorem tile14 : ∀ t : Fin cfg0.N, win0_14.index t = ![0, 0] := (by decide +kernel : ∀ t : Fin grid0.N, _)
theorem tile15 : ∀ t : Fin cfg0.N, win0_15.index t = ![0, 0] := (by decide +kernel : ∀ t : Fin grid0.N, _)
theorem tile16 : ∀ t : Fin cfg0.N, win0_16.index t = ![0, 0] := (by decide +kernel : ∀ t : Fin grid0.N, _)
theorem tile17 : ∀ t : Fin cfg0.N, win0_17.index t = ![t.val, 0] := (by decide +kernel : ∀ t : Fin grid0.N, _)
theorem tile18 : ∀ t : Fin cfg0.N, win0_18.index t = ![t.val, 0, 0] := (by decide +kernel : ∀ t : Fin grid0.N, _)
theorem tile19 : ∀ t : Fin cfg0.N, win0_19.index t = ![t.val, 0] := (by decide +kernel : ∀ t : Fin grid0.N, _)

/-- The call's arguments in memory `m`. -/
def arrs (c : Dev nD) : Arrs := ⟨m (c.tc.loc main_arg0), m (c.tc.loc main_arg1), m (c.tc.loc main_arg2), m (c.tc.loc main_arg3), m (c.tc.loc main_arg4), m (c.tc.loc main_arg5), m (c.tc.loc main_arg6), m (c.tc.loc main_arg7), m (c.tc.loc main_arg8), m (c.tc.loc main_arg9), m (c.tc.loc main_arg10), m (c.tc.loc main_arg11), m (c.tc.loc main_arg12), m (c.tc.loc main_arg13), m (c.tc.loc main_arg14), m (c.tc.loc main_arg15), m (c.tc.loc main_arg16)⟩

/-- The lines of `main` before the call change no argument. -/
theorem found_args (c : Dev nD) :
    V m c main_arg0 = m (c.tc.loc main_arg0)
      ∧ V m c main_arg1 = m (c.tc.loc main_arg1)
      ∧ V m c main_arg2 = m (c.tc.loc main_arg2)
      ∧ V m c main_arg3 = m (c.tc.loc main_arg3)
      ∧ V m c main_arg4 = m (c.tc.loc main_arg4)
      ∧ V m c main_arg5 = m (c.tc.loc main_arg5)
      ∧ V m c main_arg6 = m (c.tc.loc main_arg6)
      ∧ V m c main_arg7 = m (c.tc.loc main_arg7)
      ∧ V m c main_arg8 = m (c.tc.loc main_arg8)
      ∧ V m c main_arg9 = m (c.tc.loc main_arg9)
      ∧ V m c main_arg10 = m (c.tc.loc main_arg10) := by
  refine ⟨?_, ?_, ?_, ?_, ?_, ?_, ?_, ?_, ?_, ?_, ?_⟩ <;>
  · unfold V
    after_reads_simp
    try rfl

/-- The weights as the kernel is handed them: the two norms' gains as one row each, the matrices in the short format. -/
theorem found_weights (c : Dev nD) :
    V m c main_v0 = shapeCast S1x128 (m (c.tc.loc main_arg11)) shapeCasts_S128_S1x128
      ∧ V m c main_v1 = truncf (F := Ideal) (φ := .f32) .bf16 (m (c.tc.loc main_arg12)) bitsLt_bf16_f32
      ∧ V m c main_v2 = truncf (F := Ideal) (φ := .f32) .bf16 (m (c.tc.loc main_arg13)) bitsLt_bf16_f32
      ∧ V m c main_v3 = truncf (F := Ideal) (φ := .f32) .bf16 (m (c.tc.loc main_arg14)) bitsLt_bf16_f32
      ∧ V m c main_v4 = shapeCast S1x1024 (m (c.tc.loc main_arg15)) shapeCasts_S1024_S1x1024
      ∧ V m c main_v5 = truncf (F := Ideal) (φ := .f32) .bf16 (m (c.tc.loc main_arg16)) bitsLt_bf16_f32 := by
  refine ⟨?_, ?_, ?_, ?_, ?_, ?_⟩ <;>
  · unfold V
    after_reads_simp
    try rfl

theorem tok_ext {R S : Tok} (hx : ∀ j, R.x j = S.x j) (ho : ∀ h d, R.o h d = S.o h d) (hz : ∀ h d, R.z h d = S.z h d)
    (hg : ∀ j, R.g j = S.g j) (hog : ∀ g h d, R.og g h d = S.og g h d) (hlg : ∀ g h, R.lg g h = S.lg g h) : R = S := by
  cases R; cases S
  obtain rfl := funext hx
  obtain rfl := funext fun h => funext (ho h)
  obtain rfl := funext fun h => funext (hz h)
  obtain rfl := funext hg
  obtain rfl := funext fun g => funext fun h => funext (hog g h)
  obtain rfl := funext fun g => funext (hlg g)
  rfl

theorem wts_ext {R S : Wts} (h1 : ∀ j, R.gain j = S.gain j) (h2 : ∀ k j, R.wdn k j = S.wdn k j) (h3 : ∀ k j, R.wda k j = S.wda k j)
    (h4 : ∀ k j, R.wo k j = S.wo k j) (h5 : ∀ j, R.nffn j = S.nffn j) (h6 : ∀ k j, R.wq k j = S.wq k j) : R = S := by
  cases R; cases S
  obtain rfl := funext h1
  obtain rfl := funext fun k => funext (h2 k)
  obtain rfl := funext fun k => funext (h3 k)
  obtain rfl := funext fun k => funext (h4 k)
  obtain rfl := funext h5
  obtain rfl := funext fun k => funext (h6 k)
  rfl

theorem ix2_congr {A B : ℕ} {a a' : Fin A} {b b' : Fin B} (h1 : a.val = a'.val) (h2 : b.val = b'.val) : ix2 a b = ix2 a' b' := by
  obtain rfl := Fin.ext h1
  obtain rfl := Fin.ext h2
  rfl

theorem ix4_congr {A B C D : ℕ} {a a' : Fin A} {b b' : Fin B} {c c' : Fin C} {d d' : Fin D} (h1 : a.val = a'.val) (h2 : b.val = b'.val)
    (h3 : c.val = c'.val) (h4 : d.val = d'.val) : ix4 a b c d = ix4 a' b' c' d' := by
  obtain rfl := Fin.ext h1
  obtain rfl := Fin.ext h2
  obtain rfl := Fin.ext h3
  obtain rfl := Fin.ext h4
  rfl

section Point
variable (c : Dev nD) (t : Fin cfg0.N)

theorem lt128 : t.val < 128 := t.isLt

theorem in0 (r : Fin 512) (j : Fin 1024) : iblk m c 0 t (ix2 r j) = m (c.tc.loc main_arg0) (ix2 ⟨t.val * 512 + r.val, by have := lt128 t; omega⟩ j) := by
  blk_simp [iblk]
  rw [(found_args m c).1]
  refine congrArg _ ?_
  blk_ext [tile0]

theorem in1 (r : Fin 512) (j : Fin 512) : iblk m c 1 t (ix2 r j) = m (c.tc.loc main_arg1) (ix2 ⟨t.val * 512 + r.val, by have := lt128 t; omega⟩ j) := by
  blk_simp [iblk]
  rw [(found_args m c).2.1]
  refine congrArg _ ?_
  blk_ext [tile1]

theorem in2 (r : Fin 512) (j : Fin 512) : iblk m c 2 t (ix2 r j) = m (c.tc.loc main_arg2) (ix2 ⟨t.val * 512 + r.val, by have := lt128 t; omega⟩ j) := by
  blk_simp [iblk]
  rw [(found_args m c).2.2.1]
  refine congrArg _ ?_
  blk_ext [tile2]

theorem in4 (r : Fin 512) (j : Fin 2048) : iblk m c 4 t (ix2 r j) = m (c.tc.loc main_arg4) (ix2 ⟨t.val * 512 + r.val, by have := lt128 t; omega⟩ j) := by
  blk_simp [iblk]
  rw [(found_args m c).2.2.2.2.1]
  refine congrArg _ ?_
  blk_ext [tile4]

theorem in3 (r : Fin 512) (j : Fin 512) : iblk m c 3 t (ix2 r j) = m (c.tc.loc main_arg3) (ix2 ⟨t.val * 512 + r.val, by have := lt128 t; omega⟩ ⟨1536 + j.val, by omega⟩) := by
  blk_simp [iblk]
  rw [(found_args m c).2.2.2.1]
  refine congrArg _ ?_
  blk_ext [tile3]

theorem in5 (q : Fin 1) (l : Fin 512) (j : Fin 512) : iblk m c 5 t (ix4 0 q l j)
    = m (c.tc.loc main_arg5) (ix4 ⟨t.val / 16, by have := lt128 t; omega⟩ q ⟨t.val % 16 * 512 + l.val, by omega⟩ j) := by
  blk_simp [iblk]
  rw [(found_args m c).2.2.2.2.2.1]
  refine congrArg _ ?_
  blk_ext [tile5]

theorem in6 (q : Fin 1) (l : Fin 512) (j : Fin 128) : iblk m c 6 t (ix4 0 q l j)
    = m (c.tc.loc main_arg6) (ix4 ⟨t.val / 16, by have := lt128 t; omega⟩ q ⟨t.val % 16 * 512 + l.val, by omega⟩ j) := by
  blk_simp [iblk]
  rw [(found_args m c).2.2.2.2.2.2.1]
  refine congrArg _ ?_
  blk_ext [tile6]

theorem in7 (q : Fin 4) (l : Fin 128) (j : Fin 512) : iblk m c 7 t (ix4 0 q l j)
    = m (c.tc.loc main_arg7) (ix4 ⟨t.val / 16, by have := lt128 t; omega⟩ q ⟨t.val % 16 * 128 + l.val, by omega⟩ j) := by
  blk_simp [iblk]
  rw [(found_args m c).2.2.2.2.2.2.2.1]
  refine congrArg _ ?_
  blk_ext [tile7]

theorem in8 (q : Fin 4) (l : Fin 128) (j : Fin 128) : iblk m c 8 t (ix4 0 q l j)
    = m (c.tc.loc main_arg8) (ix4 ⟨t.val / 16, by have := lt128 t; omega⟩ q ⟨t.val % 16 * 128 + l.val, by omega⟩ j) := by
  blk_simp [iblk]
  rw [(found_args m c).2.2.2.2.2.2.2.2.1]
  refine congrArg _ ?_
  blk_ext [tile8]

theorem in9 (q : Fin 16) (l : Fin 32) (j : Fin 512) : iblk m c 9 t (ix4 0 q l j)
    = m (c.tc.loc main_arg9) (ix4 ⟨t.val / 16, by have := lt128 t; omega⟩ q ⟨t.val % 16 * 32 + l.val, by omega⟩ j) := by
  blk_simp [iblk]
  rw [(found_args m c).2.2.2.2.2.2.2.2.2.1]
  refine congrArg _ ?_
  blk_ext [tile9]

theorem in10 (q : Fin 16) (l : Fin 32) (j : Fin 128) : iblk m c 10 t (ix4 0 q l j)
    = m (c.tc.loc main_arg10) (ix4 ⟨t.val / 16, by have := lt128 t; omega⟩ q ⟨t.val % 16 * 32 + l.val, by omega⟩ j) := by
  blk_simp [iblk]
  rw [(found_args m c).2.2.2.2.2.2.2.2.2.2]
  refine congrArg _ ?_
  blk_ext [tile10]

theorem in11 (d : Fin 128) : iblk m c 11 t (ix2 0 d) = m (c.tc.loc main_arg11) (ix1 d) := by
  blk_simp [iblk]
  rw [(found_weights m c).1]
  refine (congrArg _ (show _ = ix2 0 d from ?_)).trans (by pointwise [])
  blk_ext [tile11]

theorem in15 (d : Fin 1024) : iblk m c 15 t (ix2 0 d) = m (c.tc.loc main_arg15) (ix1 d) := by
  blk_simp [iblk]
  rw [(found_weights m c).2.2.2.2.1]
  refine (congrArg _ (show _ = ix2 0 d from ?_)).trans (by pointwise [])
  blk_ext [tile15]

theorem in12 (k : Fin 512) (j : Fin 1024) : iblk m c 12 t (ix2 k j) = m (c.tc.loc main_arg12) (ix2 k j) := by
  blk_simp [iblk]
  rw [(found_weights m c).2.1]
  refine (congrArg _ (show _ = ix2 k j from ?_)).trans rfl
  blk_ext [tile12]

theorem in13 (k : Fin 512) (j : Fin 1024) : iblk m c 13 t (ix2 k j) = m (c.tc.loc main_arg13) (ix2 k j) := by
  blk_simp [iblk]
  rw [(found_weights m c).2.2.1]
  refine (congrArg _ (show _ = ix2 k j from ?_)).trans rfl
  blk_ext [tile13]

theorem in14 (k : Fin 1024) (j : Fin 1024) : iblk m c 14 t (ix2 k j) = m (c.tc.loc main_arg14) (ix2 k j) := by
  blk_simp [iblk]
  rw [(found_weights m c).2.2.2.1]
  refine (congrArg _ (show _ = ix2 k j from ?_)).trans rfl
  blk_ext [tile14]

theorem in16 (k : Fin 1024) (j : Fin 2048) : iblk m c 16 t (ix2 k j) = m (c.tc.loc main_arg16) (ix2 k j) := by
  blk_simp [iblk]
  rw [(found_weights m c).2.2.2.2.2]
  refine (congrArg _ (show _ = ix2 k j from ?_)).trans rfl
  blk_ext [tile16]

/-- Token `r` of block `t` is the token in row `t * 512 + r`. -/
theorem tok_at (r : Fin 512) : blkTok (iblk m c 0 t) (iblk m c 1 t) (iblk m c 2 t) (iblk m c 3 t) (iblk m c 4 t) (iblk m c 5 t) (iblk m c 6 t) (iblk m c 7 t) (iblk m c 8 t) (iblk m c 9 t) (iblk m c 10 t) r = rowTok (arrs m c) (t.val * 512 + r.val) (by have := lt128 t; omega) := by
  have ht := lt128 t
  refine tok_ext (fun j => ?_) (fun h d => ?_) (fun h d => ?_) (fun j => ?_) (fun g h d => ?_) (fun g h => ?_)
  · exact (in0 m c t r j).trans (congrArg (arrs m c).x (ix2_congr (by show t.val * 512 + r.val = _ / 8192 * 8192 + _ % 8192; omega) rfl))
  · exact congrArg₂ (· + ·)
      ((in1 m c t r _).trans (congrArg (arrs m c).oF (ix2_congr (by show t.val * 512 + r.val = _ / 8192 * 8192 + _ % 8192; omega) rfl)))
      ((in2 m c t r _).trans (congrArg (arrs m c).oB (ix2_congr (by show t.val * 512 + r.val = _ / 8192 * 8192 + _ % 8192; omega) rfl)))
  · exact (in3 m c t r _).trans (congrArg (arrs m c).dn (ix2_congr (by show t.val * 512 + r.val = _ / 8192 * 8192 + _ % 8192; omega)
      (by show 1536 + (h.val * 128 + d.val) = 1536 + h.val * 128 + d.val; omega)))
  · exact (in4 m c t r j).trans (congrArg (arrs m c).gt (ix2_congr (by show t.val * 512 + r.val = _ / 8192 * 8192 + _ % 8192; omega) rfl))
  · match g with
    | ⟨0, _⟩ =>
      refine (at4_eq (iblk m c 5 t) 0 r.val (h.val * 128 + d.val) (by omega) (by omega) (by omega)).symm.trans ((in5 m c t _ _ _).trans ?_)
      refine congrArg (arrs m c).o0 (ix4_congr ?_ rfl ?_ rfl)
      · show t.val / 16 = (t.val * 512 + r.val) / 8192; omega
      · show t.val % 16 * 512 + r.val = (t.val * 512 + r.val) % 8192; omega
    | ⟨1, _⟩ =>
      refine (at4_eq (iblk m c 7 t) (r.val % 4) (r.val / 4) (h.val * 128 + d.val) (by omega) (by omega) (by omega)).symm.trans ((in7 m c t _ _ _).trans ?_)
      refine congrArg (arrs m c).o1 (ix4_congr ?_ ?_ ?_ rfl)
      · show t.val / 16 = (t.val * 512 + r.val) / 8192; omega
      · show r.val % 4 = (t.val * 512 + r.val) % 8192 % 4; omega
      · show t.val % 16 * 128 + r.val / 4 = (t.val * 512 + r.val) % 8192 / 4; omega
    | ⟨2, _⟩ =>
      refine (at4_eq (iblk m c 9 t) (r.val % 16) (r.val / 16) (h.val * 128 + d.val) (by omega) (by omega) (by omega)).symm.trans ((in9 m c t _ _ _).trans ?_)
      refine congrArg (arrs m c).o2 (ix4_congr ?_ ?_ ?_ rfl)
      · show t.val / 16 = (t.val * 512 + r.val) / 8192; omega
      · show r.val % 16 = (t.val * 512 + r.val) % 8192 % 16; omega
      · show t.val % 16 * 32 + r.val / 16 = (t.val * 512 + r.val) % 8192 / 16; omega
  · match g with
    | ⟨0, _⟩ =>
      refine (at4_eq (iblk m c 6 t) 0 r.val h.val (by omega) (by omega) (by omega)).symm.trans ((in6 m c t _ _ _).trans ?_)
      refine congrArg (arrs m c).l0 (ix4_congr ?_ rfl ?_ rfl)
      · show t.val / 16 = (t.val * 512 + r.val) / 8192; omega
      · show t.val % 16 * 512 + r.val = (t.val * 512 + r.val) % 8192; omega
    | ⟨1, _⟩ =>
      refine (at4_eq (iblk m c 8 t) (r.val % 4) (r.val / 4) h.val (by omega) (by omega) (by omega)).symm.trans ((in8 m c t _ _ _).trans ?_)
      refine congrArg (arrs m c).l1 (ix4_congr ?_ ?_ ?_ rfl)
      · show t.val / 16 = (t.val * 512 + r.val) / 8192; omega
      · show r.val % 4 = (t.val * 512 + r.val) % 8192 % 4; omega
      · show t.val % 16 * 128 + r.val / 4 = (t.val * 512 + r.val) % 8192 / 4; omega
    | ⟨2, _⟩ =>
      refine (at4_eq (iblk m c 10 t) (r.val % 16) (r.val / 16) h.val (by omega) (by omega) (by omega)).symm.trans ((in10 m c t _ _ _).trans ?_)
      refine congrArg (arrs m c).l2 (ix4_congr ?_ ?_ ?_ rfl)
      · show t.val / 16 = (t.val * 512 + r.val) / 8192; omega
      · show r.val % 16 = (t.val * 512 + r.val) % 8192 % 16; omega
      · show t.val % 16 * 32 + r.val / 16 = (t.val * 512 + r.val) % 8192 / 16; omega

/-- Every block is handed the same weights. -/
theorem wts_at : blkWts (iblk m c 11 t) (iblk m c 12 t) (iblk m c 13 t) (iblk m c 14 t) (iblk m c 15 t) (iblk m c 16 t) = wts (arrs m c) :=
  wts_ext (in11 m c t) (in12 m c t) (in13 m c t) (in14 m c t) (in15 m c t) (in16 m c t)

end Point

theorem row_congr {E : Type} (f : Tok → E) (A : Arrs) {n n' : ℕ} {h : n < 65536} {h' : n' < 65536} (e : n = n') :
    f (rowTok A n h) = f (rowTok A n' h') := by
  subst e
  rfl

theorem final17 (c : Dev nD) : (dats m 0 c).arrAt 17 cfg0.N = hidArr (arrs m c) := by
  refine (dats m 0 c).arrAt_eq_of_covers 17 _ (by decide +kernel) fun t hf y => ?_
  blk_simp
  rw [after0_17]
  simp only [outsAt0]
  have h0 : (y 0).val < 512 := (y 0).isLt
  have h1 : (y 1).val < 1024 := (y 1).isLt
  refine (out17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y).trans ?_
  refine (congrArg₂ (fun R W => hidOf R W (y 1)) (tok_at m c t (y 0)) (wts_at m c t)).trans ?_
  refine Eq.trans (row_congr (fun R => hidOf R (wts (arrs m c)) (y 1)) (arrs m c) ?_) (congrArg (hidOf _ (wts (arrs m c))) (Fin.ext ?_))
  · blk_simp [tile17] <;> omega
  · blk_simp [tile17] <;> omega

theorem final18 (c : Dev nD) : (dats m 0 c).arrAt 18 cfg0.N = rmsArr (arrs m c) := by
  refine (dats m 0 c).arrAt_eq_of_covers 18 _ (by decide +kernel) fun t hf y => ?_
  blk_simp
  rw [after0_18]
  simp only [outsAt0]
  have h0 : (y 0).val < 1 := (y 0).isLt
  have h1 : (y 1).val < 1024 := (y 1).isLt
  have h2 : (y 2).val < 512 := (y 2).isLt
  refine (out18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y).trans ?_
  refine (congrArg₂ (fun R W => rmsOf R W (y 1)) (tok_at m c t (y 2)) (wts_at m c t)).trans ?_
  refine Eq.trans (row_congr (fun R => rmsOf R (wts (arrs m c)) (y 1)) (arrs m c) ?_) (congrArg (rmsOf _ (wts (arrs m c))) (Fin.ext ?_))
  · blk_simp [tile18] <;> omega
  · blk_simp [tile18] <;> omega

theorem final19 (c : Dev nD) : (dats m 0 c).arrAt 19 cfg0.N = qryArr (arrs m c) := by
  refine (dats m 0 c).arrAt_eq_of_covers 19 _ (by decide +kernel) fun t hf y => ?_
  blk_simp
  rw [after0_19]
  simp only [outsAt0]
  have h0 : (y 0).val < 512 := (y 0).isLt
  have h1 : (y 1).val < 2048 := (y 1).isLt
  refine (out19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y).trans ?_
  refine (congrArg₂ (fun R W => qryOf R W (y 1)) (tok_at m c t (y 0)) (wts_at m c t)).trans ?_
  refine Eq.trans (row_congr (fun R => qryOf R (wts (arrs m c)) (y 1)) (arrs m c) ?_) (congrArg (qryOf _ (wts (arrs m c))) (Fin.ext ?_))
  · blk_simp [tile19] <;> omega
  · blk_simp [tile19] <;> omega

end Cert.Merg

end
-- ==== Proof.MergeAlg.lean ====
/-
  THE WEIGHTS OF THE THREE GROUPS: dividing each weight by their sum and adding, and adding and then scaling by one over
  the sum, are the same when the log-sum-exps are finite.
-/
module

public import proofs.«01_k».proof.Proof.MergeSpec
public import Idealize.ShloMosaic.Lib.IdealHost

@[expose] public section

noncomputable section

namespace Cert.Merg

open Idealize.ShloMosaic

/-- Real positive weights distribute over any extended reals. -/
theorem combine (a b c : ℝ) (ha : 0 < a) (hb : 0 < b) (hc : 0 < c) (x y z : EReal) :
    ((a : EReal) * x + (b : EReal) * y + (c : EReal) * z) * Ideal.div 1 ((a : EReal) + (b : EReal) + (c : EReal))
      = Ideal.div (a : EReal) ((a : EReal) + (b : EReal) + (c : EReal)) * x
        + Ideal.div (b : EReal) ((a : EReal) + (b : EReal) + (c : EReal)) * y
        + Ideal.div (c : EReal) ((a : EReal) + (b : EReal) + (c : EReal)) * z := by
  have hs : 0 < a + b + c := by positivity
  have e : (a : EReal) + (b : EReal) + (c : EReal) = ((a + b + c : ℝ) : EReal) := by push_cast; rfl
  have hn : ((a + b + c : ℝ) : EReal) ≠ 0 := by exact_mod_cast hs.ne'
  rw [e]
  unfold Ideal.div
  simp only [if_neg hn, one_mul]
  have hi : ((a + b + c : ℝ) : EReal)⁻¹ = (((a + b + c)⁻¹ : ℝ) : EReal) := (EReal.coe_inv _).symm
  rw [hi]
  have h0 : (0 : EReal) ≤ (((a + b + c)⁻¹ : ℝ) : EReal) := by exact_mod_cast (inv_pos.mpr hs).le
  have ht : (((a + b + c)⁻¹ : ℝ) : EReal) ≠ ⊤ := EReal.coe_ne_top _
  rw [EReal.right_distrib_of_nonneg_of_ne_top h0 ht, EReal.right_distrib_of_nonneg_of_ne_top h0 ht]
  congr 1
  · congr 1 <;> ac_rfl
  · ac_rfl

/-- The attention branch with each weight divided by the sum. -/
theorem da_eq (R : Tok) (h : Fin 4) (d : Fin 128) (hl : ∀ g, ⊥ < R.lg g h ∧ R.lg g h < ⊤) :
    da R h d = Ideal.div (wgt R h 0) (wgt R h 0 + wgt R h 1 + wgt R h 2) * R.og 0 h d
      + Ideal.div (wgt R h 1) (wgt R h 0 + wgt R h 1 + wgt R h 2) * R.og 1 h d
      + Ideal.div (wgt R h 2) (wgt R h 0 + wgt R h 1 + wgt R h 2) * R.og 2 h d := by
  have hr : ∀ g, ∃ r : ℝ, R.lg g h = (r : EReal) := fun g =>
    ⟨(R.lg g h).toReal, (EReal.coe_toReal (hl g).2.ne (hl g).1.ne').symm⟩
  obtain ⟨l0, e0⟩ := hr 0
  obtain ⟨l1, e1⟩ := hr 1
  obtain ⟨l2, e2⟩ := hr 2
  have hm : max (max (R.lg 0 h) (R.lg 1 h)) (R.lg 2 h) = ((max (max l0 l1) l2 : ℝ) : EReal) := by
    rw [e0, e1, e2]
    simp only [EReal.coe_strictMono.monotone.map_max]
  have hw : ∀ g (l : ℝ), R.lg g h = (l : EReal) → wgt R h g = ((Real.exp (l - max (max l0 l1) l2) : ℝ) : EReal) := by
    intro g l e
    unfold wgt
    rw [hm, e, ← EReal.coe_sub]
    rfl
  unfold da
  rw [hw 0 l0 e0, hw 1 l1 e1, hw 2 l2 e2, Ideal.ofBits_one_f32]
  exact combine _ _ _ (Real.exp_pos _) (Real.exp_pos _) (Real.exp_pos _) _ _ _

end Cert.Merg

end
-- ==== Proof.MergeRef.lean ====
/-
  THE MERGE'S REFERENCE, READ AT AN INDEX: each of its stages is the function of `MergeSpec` at the token's values.
-/
module

public import proofs.«01_k».proof.Proof.MergeArr
public import proofs.«01_k».proof.Proof.MergeAlg
public import proofs.«01_k».proof.Proof.Gen.MergeRefIdeal.Read
public import Idealize.ShloMosaic.Lib.KernelVsHost

@[expose] public section

set_option maxRecDepth 16384

noncomputable section

namespace Cert.Merg

open Cert.MergeRefIdeal Cert.MergeRefIdeal.Read Idealize.ShloMosaic

variable (A : Arrs) (b : Fin 8) (s : Fin 8192) (h : Fin 4) (d : Fin 128)

/-! ## The recurrence's branch -/

theorem idx_o : idx_main_v1 (ix4 b s h d) = ix2 ⟨b.val * 8192 + s.val, by omega⟩ ⟨h.val * 128 + d.val, by omega⟩ := by
  have hb := b.isLt
  have hs := s.isLt
  have hh := h.isLt
  have hd := d.isLt
  funext a
  match a with
  | ⟨0, _⟩ => exact Fin.ext (show (((b.val * 8192 + s.val) * 4 + h.val) * 128 + d.val) / 512 = b.val * 8192 + s.val by omega)
  | ⟨1, _⟩ => exact Fin.ext (show (((b.val * 8192 + s.val) * 4 + h.val) * 128 + d.val) % 512 = h.val * 128 + d.val by omega)

theorem ref_o : (show EReal from val_main_v1 (F := Ideal) A.oF A.oB (ix4 b s h d)) = (tok A b s).o h d := by
  rw [val_main_v1_apply, val_main_v0_apply, idx_o]
  rfl

theorem idx_z : idx_main_v2 (idx_main_v16 (ix4 b s h d))
    = ix2 ⟨b.val * 8192 + s.val, by omega⟩ ⟨1536 + h.val * 128 + d.val, by omega⟩ := by
  have hb := b.isLt
  have hs := s.isLt
  have hh := h.isLt
  have hd := d.isLt
  funext a
  match a with
  | ⟨0, _⟩ => exact Fin.ext (show (((b.val * 8192 + s.val) * 4 + h.val) * 128 + d.val) / 512 = b.val * 8192 + s.val by omega)
  | ⟨1, _⟩ => exact Fin.ext (show 1536 + (((b.val * 8192 + s.val) * 4 + h.val) * 128 + d.val) % 512 = 1536 + h.val * 128 + d.val by omega)

theorem ref_z : (show EReal from val_main_v17 (F := Ideal) A.dn (ix4 b s h d)) = (tok A b s).z h d := by
  rw [val_main_v17_apply, Ideal.extf_def, val_main_v16_apply, val_main_v2_apply, idx_z]
  rfl

theorem ref_dn : (show EReal from val_main_v19 (F := Ideal) A.oF A.oB A.dn A.gain (ix4 b s h d)) = dn (tok A b s) (wts A) h d := by
  unfold dn sigm
  simp only [← ref_o, ← ref_z, wts]
  pointwise [val_main_v19, val_main_v18, val_main_call0_v5, val_main_call0_v4, val_main_call0_v3, val_main_call0_v2,
    val_main_call0_v1, val_main_call0_v0, val_main_call0_cst, val_main_call0_cst_0, val_main_v15, val_main_v14, val_main_v13,
    val_main_v12, val_main_v11, val_main_v10, val_main_v9, val_main_v8, val_main_v7, val_main_v6, val_main_v5, val_main_v4,
    val_main_v3, val_main_cst, val_main_cst_0, val_main_cst_1]

theorem idx_dn (k : Fin 512) : idx_main_v20 (ix3 b s k) = ix4 b s ⟨k.val / 128, by omega⟩ ⟨k.val % 128, by omega⟩ := by
  have hb := b.isLt
  have hs := s.isLt
  have hk := k.isLt
  funext a
  match a with
  | ⟨0, _⟩ => exact Fin.ext (show ((b.val * 8192 + s.val) * 512 + k.val) / 4194304 = b.val by omega)
  | ⟨1, _⟩ => exact Fin.ext (show ((b.val * 8192 + s.val) * 512 + k.val) / 512 % 8192 = s.val by omega)
  | ⟨2, _⟩ => exact Fin.ext (show ((b.val * 8192 + s.val) * 512 + k.val) / 128 % 4 = k.val / 128 by omega)
  | ⟨3, _⟩ => exact Fin.ext (show ((b.val * 8192 + s.val) * 512 + k.val) % 128 = k.val % 128 by omega)

theorem ref_dnRow (k : Fin 512) : (show EReal from val_main_v20 (F := Ideal) A.oF A.oB A.dn A.gain (ix3 b s k))
    = flat (dn (tok A b s) (wts A)) k := by
  rw [val_main_v20_apply, idx_dn]
  exact ref_dn A b s _ _

/-! ## The attention groups' outputs and log-sum-exps, in the order of the tokens -/

theorem idx_o0 : idx_main_v22 (idx_main_v23 (idx_main_v24 (ix4 b h s d))) = ix4 b 0 s ⟨h.val * 128 + d.val, by omega⟩ := by
  have hb := b.isLt
  have hs := s.isLt
  have hh := h.isLt
  have hd := d.isLt
  have e : idx_main_v24 (ix4 b h s d) = ix5 b h s 0 d := by
    funext a
    match a with
    | ⟨0, _⟩ => exact Fin.ext (show (((b.val * 4 + h.val) * 8192 + s.val) * 128 + d.val) / 4194304 = b.val by omega)
    | ⟨1, _⟩ => exact Fin.ext (show (((b.val * 4 + h.val) * 8192 + s.val) * 128 + d.val) / 1048576 % 4 = h.val by omega)
    | ⟨2, _⟩ => exact Fin.ext (show (((b.val * 4 + h.val) * 8192 + s.val) * 128 + d.val) / 128 % 8192 = s.val by omega)
    | ⟨3, _⟩ => rfl
    | ⟨4, _⟩ => exact Fin.ext (show (((b.val * 4 + h.val) * 8192 + s.val) * 128 + d.val) % 128 = d.val by omega)
  rw [e]
  funext a
  match a with
  | ⟨0, _⟩ => exact Fin.ext (show ((((b.val * 1 + 0) * 8192 + s.val) * 4 + h.val) * 128 + d.val) / 4194304 = b.val by omega)
  | ⟨1, _⟩ => rfl
  | ⟨2, _⟩ => exact Fin.ext (show ((((b.val * 1 + 0) * 8192 + s.val) * 4 + h.val) * 128 + d.val) / 512 % 8192 = s.val by omega)
  | ⟨3, _⟩ => exact Fin.ext (show ((((b.val * 1 + 0) * 8192 + s.val) * 4 + h.val) * 128 + d.val) % 512 = h.val * 128 + d.val by omega)

theorem ref_o0 : (show EReal from val_main_v24 (F := Ideal) A.o0 (ix4 b h s d)) = (tok A b s).og 0 h d := by
  rw [val_main_v24_apply, val_main_v23_apply, val_main_v22_apply, val_main_v21_apply, Ideal.extf_def, idx_o0]
  rfl

theorem idx_in1 (p : Fin 4) (q : Fin 2048) :
    idx_main_v29 (idx_main_v30 (ix5 b h q p d)) = ix4 b p q ⟨h.val * 128 + d.val, by omega⟩ := by
  have hb := b.isLt
  have hh := h.isLt
  have hd := d.isLt
  have hp := p.isLt
  have hq := q.isLt
  funext a
  match a with
  | ⟨0, _⟩ => exact Fin.ext (show ((((b.val * 4 + p.val) * 2048 + q.val) * 4 + h.val) * 128 + d.val) / 4194304 = b.val by omega)
  | ⟨1, _⟩ => exact Fin.ext (show ((((b.val * 4 + p.val) * 2048 + q.val) * 4 + h.val) * 128 + d.val) / 1048576 % 4 = p.val by omega)
  | ⟨2, _⟩ => exact Fin.ext (show ((((b.val * 4 + p.val) * 2048 + q.val) * 4 + h.val) * 128 + d.val) / 512 % 2048 = q.val by omega)
  | ⟨3, _⟩ => exact Fin.ext (show ((((b.val * 4 + p.val) * 2048 + q.val) * 4 + h.val) * 128 + d.val) % 512 = h.val * 128 + d.val by omega)

theorem idx_o1 : idx_main_v29 (idx_main_v30 (idx_main_v31 (ix4 b h s d)))
    = ix4 b ⟨s.val % 4, by omega⟩ ⟨s.val / 4, by omega⟩ ⟨h.val * 128 + d.val, by omega⟩ := by
  have hb := b.isLt
  have hs := s.isLt
  have hh := h.isLt
  have hd := d.isLt
  have e : idx_main_v31 (ix4 b h s d) = ix5 b h ⟨s.val / 4, by omega⟩ ⟨s.val % 4, by omega⟩ d := by
    funext a
    match a with
    | ⟨0, _⟩ => exact Fin.ext (show (((b.val * 4 + h.val) * 8192 + s.val) * 128 + d.val) / 4194304 = b.val by omega)
    | ⟨1, _⟩ => exact Fin.ext (show (((b.val * 4 + h.val) * 8192 + s.val) * 128 + d.val) / 1048576 % 4 = h.val by omega)
    | ⟨2, _⟩ => exact Fin.ext (show (((b.val * 4 + h.val) * 8192 + s.val) * 128 + d.val) / 512 % 2048 = s.val / 4 by omega)
    | ⟨3, _⟩ => exact Fin.ext (show (((b.val * 4 + h.val) * 8192 + s.val) * 128 + d.val) / 128 % 4 = s.val % 4 by omega)
    | ⟨4, _⟩ => exact Fin.ext (show (((b.val * 4 + h.val) * 8192 + s.val) * 128 + d.val) % 128 = d.val by omega)
  rw [e]
  exact idx_in1 b h d _ _

theorem ref_o1 : (show EReal from val_main_v31 (F := Ideal) A.o1 (ix4 b h s d)) = (tok A b s).og 1 h d := by
  rw [val_main_v31_apply, val_main_v30_apply, val_main_v29_apply, val_main_v28_apply, Ideal.extf_def, idx_o1]
  rfl

theorem idx_in2 (p : Fin 16) (q : Fin 512) :
    idx_main_v36 (idx_main_v37 (ix5 b h q p d)) = ix4 b p q ⟨h.val * 128 + d.val, by omega⟩ := by
  have hb := b.isLt
  have hh := h.isLt
  have hd := d.isLt
  have hp := p.isLt
  have hq := q.isLt
  funext a
  match a with
  | ⟨0, _⟩ => exact Fin.ext (show ((((b.val * 16 + p.val) * 512 + q.val) * 4 + h.val) * 128 + d.val) / 4194304 = b.val by omega)
  | ⟨1, _⟩ => exact Fin.ext (show ((((b.val * 16 + p.val) * 512 + q.val) * 4 + h.val) * 128 + d.val) / 262144 % 16 = p.val by omega)
  | ⟨2, _⟩ => exact Fin.ext (show ((((b.val * 16 + p.val) * 512 + q.val) * 4 + h.val) * 128 + d.val) / 512 % 512 = q.val by omega)
  | ⟨3, _⟩ => exact Fin.ext (show ((((b.val * 16 + p.val) * 512 + q.val) * 4 + h.val) * 128 + d.val) % 512 = h.val * 128 + d.val by omega)

theorem idx_o2 : idx_main_v36 (idx_main_v37 (idx_main_v38 (ix4 b h s d)))
    = ix4 b ⟨s.val % 16, by omega⟩ ⟨s.val / 16, by omega⟩ ⟨h.val * 128 + d.val, by omega⟩ := by
  have hb := b.isLt
  have hs := s.isLt
  have hh := h.isLt
  have hd := d.isLt
  have e : idx_main_v38 (ix4 b h s d) = ix5 b h ⟨s.val / 16, by omega⟩ ⟨s.val % 16, by omega⟩ d := by
    funext a
    match a with
    | ⟨0, _⟩ => exact Fin.ext (show (((b.val * 4 + h.val) * 8192 + s.val) * 128 + d.val) / 4194304 = b.val by omega)
    | ⟨1, _⟩ => exact Fin.ext (show (((b.val * 4 + h.val) * 8192 + s.val) * 128 + d.val) / 1048576 % 4 = h.val by omega)
    | ⟨2, _⟩ => exact Fin.ext (show (((b.val * 4 + h.val) * 8192 + s.val) * 128 + d.val) / 2048 % 512 = s.val / 16 by omega)
    | ⟨3, _⟩ => exact Fin.ext (show (((b.val * 4 + h.val) * 8192 + s.val) * 128 + d.val) / 128 % 16 = s.val % 16 by omega)
    | ⟨4, _⟩ => exact Fin.ext (show (((b.val * 4 + h.val) * 8192 + s.val) * 128 + d.val) % 128 = d.val by omega)
  rw [e]
  exact idx_in2 b h d _ _

theorem ref_o2 : (show EReal from val_main_v38 (F := Ideal) A.o2 (ix4 b h s d)) = (tok A b s).og 2 h d := by
  rw [val_main_v38_apply, val_main_v37_apply, val_main_v36_apply, val_main_v35_apply, Ideal.extf_def, idx_o2]
  rfl

/-! ### The log-sum-exps -/

theorem ref_l0 : val_main_v27 (F := Ideal) A.l0 (ix3 b h s) = (tok A b s).lg 0 h := by
  have hb := b.isLt
  have hs := s.isLt
  have hh := h.isLt
  have e : idx_main_v27 (ix3 b h s) = ix4 b h s 0 := by
    funext a
    match a with
    | ⟨0, _⟩ => exact Fin.ext (show ((b.val * 4 + h.val) * 8192 + s.val) / 32768 = b.val by omega)
    | ⟨1, _⟩ => exact Fin.ext (show ((b.val * 4 + h.val) * 8192 + s.val) / 8192 % 4 = h.val by omega)
    | ⟨2, _⟩ => exact Fin.ext (show ((b.val * 4 + h.val) * 8192 + s.val) / 1 % 8192 = s.val by omega)
    | ⟨3, _⟩ => exact Subsingleton.elim (α := Fin 1) _ _
  rw [val_main_v27_apply, val_main_v26_apply, val_main_v25_apply, e]
  refine congrArg A.l0 (funext fun a => ?_)
  match a with
  | ⟨0, _⟩ => exact Fin.ext (by show _ = b.val; first | rfl | exact Nat.zero_add _)
  | ⟨1, _⟩ => exact Subsingleton.elim (α := Fin 1) _ _
  | ⟨2, _⟩ => exact Fin.ext (by show _ = s.val; first | rfl | exact Nat.zero_add _)
  | ⟨3, _⟩ => exact Fin.ext (by show _ = h.val; first | rfl | exact Nat.zero_add _)

theorem ref_l1 : val_main_v34 (F := Ideal) A.l1 (ix3 b h s) = (tok A b s).lg 1 h := by
  have hb := b.isLt
  have hs := s.isLt
  have hh := h.isLt
  have e : idx_main_v34 (ix3 b h s) = ix4 b h ⟨s.val / 4, by omega⟩ ⟨s.val % 4, by omega⟩ := by
    funext a
    match a with
    | ⟨0, _⟩ => exact Fin.ext (show ((b.val * 4 + h.val) * 8192 + s.val) / 32768 = b.val by omega)
    | ⟨1, _⟩ => exact Fin.ext (show ((b.val * 4 + h.val) * 8192 + s.val) / 8192 % 4 = h.val by omega)
    | ⟨2, _⟩ => exact Fin.ext (show ((b.val * 4 + h.val) * 8192 + s.val) / 4 % 2048 = s.val / 4 by omega)
    | ⟨3, _⟩ => exact Fin.ext (show ((b.val * 4 + h.val) * 8192 + s.val) % 4 = s.val % 4 by omega)
  rw [val_main_v34_apply, val_main_v33_apply, val_main_v32_apply, e]
  refine congrArg A.l1 (funext fun a => ?_)
  match a with
  | ⟨0, _⟩ => exact Fin.ext (by show _ = b.val; first | rfl | exact Nat.zero_add _)
  | ⟨1, _⟩ => exact Fin.ext (by show _ = s.val % 4; first | rfl | exact Nat.zero_add _)
  | ⟨2, _⟩ => exact Fin.ext (by show _ = s.val / 4; first | rfl | exact Nat.zero_add _)
  | ⟨3, _⟩ => exact Fin.ext (by show _ = h.val; first | rfl | exact Nat.zero_add _)

theorem ref_l2 : val_main_v41 (F := Ideal) A.l2 (ix3 b h s) = (tok A b s).lg 2 h := by
  have hb := b.isLt
  have hs := s.isLt
  have hh := h.isLt
  have e : idx_main_v41 (ix3 b h s) = ix4 b h ⟨s.val / 16, by omega⟩ ⟨s.val % 16, by omega⟩ := by
    funext a
    match a with
    | ⟨0, _⟩ => exact Fin.ext (show ((b.val * 4 + h.val) * 8192 + s.val) / 32768 = b.val by omega)
    | ⟨1, _⟩ => exact Fin.ext (show ((b.val * 4 + h.val) * 8192 + s.val) / 8192 % 4 = h.val by omega)
    | ⟨2, _⟩ => exact Fin.ext (show ((b.val * 4 + h.val) * 8192 + s.val) / 16 % 512 = s.val / 16 by omega)
    | ⟨3, _⟩ => exact Fin.ext (show ((b.val * 4 + h.val) * 8192 + s.val) % 16 = s.val % 16 by omega)
  rw [val_main_v41_apply, val_main_v40_apply, val_main_v39_apply, e]
  refine congrArg A.l2 (funext fun a => ?_)
  match a with
  | ⟨0, _⟩ => exact Fin.ext (by show _ = b.val; first | rfl | exact Nat.zero_add _)
  | ⟨1, _⟩ => exact Fin.ext (by show _ = s.val % 16; first | rfl | exact Nat.zero_add _)
  | ⟨2, _⟩ => exact Fin.ext (by show _ = s.val / 16; first | rfl | exact Nat.zero_add _)
  | ⟨3, _⟩ => exact Fin.ext (by show _ = h.val; first | rfl | exact Nat.zero_add _)

/-! ### The weights and the weighted sum -/

theorem stack_l (g : Fin 3) : val_main_v45 (F := Ideal) A.l0 A.l1 A.l2 (ix4 g b h s) = (tok A b s).lg g h := by
  have a0 := ref_l0 A b s h
  have a1 := ref_l1 A b s h
  have a2 := ref_l2 A b s h
  match g with
  | ⟨0, _⟩ => refine Eq.trans ?_ a0; pointwise [val_main_v45, val_main_v42]
  | ⟨1, _⟩ => refine Eq.trans ?_ a1; pointwise [val_main_v45, val_main_v43]
  | ⟨2, _⟩ => refine Eq.trans ?_ a2; pointwise [val_main_v45, val_main_v44]

theorem stack_o (g : Fin 3) : val_main_v60 (F := Ideal) A.o0 A.o1 A.o2 (ix5 g b h s d) = (tok A b s).og g h d := by
  have a0 := ref_o0 A b s h d
  have a1 := ref_o1 A b s h d
  have a2 := ref_o2 A b s h d
  match g with
  | ⟨0, _⟩ => refine Eq.trans ?_ a0; pointwise [val_main_v60, val_main_v57]
  | ⟨1, _⟩ => refine Eq.trans ?_ a1; pointwise [val_main_v60, val_main_v58]
  | ⟨2, _⟩ => refine Eq.trans ?_ a2; pointwise [val_main_v60, val_main_v59]

theorem fold_max3 (f : Fin 3 → EReal) : Finset.fold max ⊥ f Finset.univ = max (max (f 0) (f 1)) (f 2) := by
  rw [show (Finset.univ : Finset (Fin 3)) = {0, 1, 2} from rfl, Finset.fold_insert (by decide), Finset.fold_insert (by decide),
    Finset.fold_singleton, max_bot_right, max_assoc]

theorem neg_inf : Ideal.ofBits .f32 0xFF800000#32 = ⊥ := by simp [Ideal.ofBits, Ideal.ieee]

theorem ref_max : val_main_v46 (F := Ideal) A.l0 A.l1 A.l2 (ix3 b h s)
    = max (max ((tok A b s).lg 0 h) ((tok A b s).lg 1 h)) ((tok A b s).lg 2 h) := by
  rw [← stack_l A b s h 0, ← stack_l A b s h 1, ← stack_l A b s h 2]
  refine Eq.trans ?_ (fold_max3 fun g => val_main_v45 (F := Ideal) A.l0 A.l1 A.l2 (ix4 g b h s))
  rw [← neg_inf]
  pointwise [val_main_v46]
  rfl

theorem ref_wgt (g : Fin 3) : val_main_v52 (F := Ideal) A.l0 A.l1 A.l2 (ix4 g b h s) = wgt (tok A b s) h g := by
  have e : val_main_v48 (F := Ideal) A.l0 A.l1 A.l2 (ix3 b h s)
      = max (max ((tok A b s).lg 0 h) ((tok A b s).lg 1 h)) ((tok A b s).lg 2 h) := by
    rw [val_main_v48_apply, ref_max]
    refine (congrArg (max · _) (show _ = (⊥ : EReal) from neg_inf)).trans (max_bot_left _)
  have e' : val_main_v50 (F := Ideal) A.l0 A.l1 A.l2 (ix4 g b h s) = val_main_v48 (F := Ideal) A.l0 A.l1 A.l2 (ix3 b h s) := by
    pointwise [val_main_v50, val_main_v49]
  rw [val_main_v52_apply, val_main_v51_apply, e', e, stack_l]
  rfl

theorem ref_soft (g : Fin 3) : val_main_v56 (F := Ideal) A.l0 A.l1 A.l2 (ix4 g b h s)
    = Ideal.div (wgt (tok A b s) h g) (wgt (tok A b s) h 0 + wgt (tok A b s) h 1 + wgt (tok A b s) h 2) := by
  have e : val_main_v55 (F := Ideal) A.l0 A.l1 A.l2 (ix4 g b h s)
      = ∑ k : Fin 3, val_main_v52 (F := Ideal) A.l0 A.l1 A.l2 (ix4 k b h s) := by
    pointwise [val_main_v55, val_main_v54, val_main_v53, val_main_cst_4]
  rw [val_main_v56_apply, e, Fin.sum_univ_three, ref_wgt, ref_wgt, ref_wgt, ref_wgt]
  rfl

theorem ref_da (hl : ∀ g, ⊥ < (tok A b s).lg g h ∧ (tok A b s).lg g h < ⊤) :
    val_main_v61 (F := Ideal) A.o0 A.l0 A.o1 A.l1 A.o2 A.l2 (ix4 b h s d) = da (tok A b s) h d := by
  have e : val_main_v61 (F := Ideal) A.o0 A.l0 A.o1 A.l1 A.o2 A.l2 (ix4 b h s d)
      = ∑ g : Fin 3, val_main_v56 (F := Ideal) A.l0 A.l1 A.l2 (ix4 g b h s) * val_main_v60 (F := Ideal) A.o0 A.o1 A.o2 (ix5 g b h s d) := by
    pointwise [val_main_v61]
  rw [da_eq _ h d hl, e, Fin.sum_univ_three, ref_soft, ref_soft, ref_soft, stack_o, stack_o, stack_o]

/-! ### The rows -/

theorem ref_daRow (hl : ∀ g h, ⊥ < (tok A b s).lg g h ∧ (tok A b s).lg g h < ⊤) (k : Fin 512) :
    val_main_v63 (F := Ideal) A.o0 A.l0 A.o1 A.l1 A.o2 A.l2 (ix3 b s k) = flat (da (tok A b s)) k := by
  have hb := b.isLt
  have hs := s.isLt
  have hk := k.isLt
  have e : idx_main_v62 (idx_main_v63 (ix3 b s k)) = ix4 b ⟨k.val / 128, by omega⟩ s ⟨k.val % 128, by omega⟩ := by
    funext a
    match a with
    | ⟨0, _⟩ => exact Fin.ext (show ((b.val * 8192 + s.val) * 512 + k.val) / 4194304 = b.val by omega)
    | ⟨1, _⟩ => exact Fin.ext (show ((b.val * 8192 + s.val) * 512 + k.val) / 128 % 4 = k.val / 128 by omega)
    | ⟨2, _⟩ => exact Fin.ext (show ((b.val * 8192 + s.val) * 512 + k.val) / 512 % 8192 = s.val by omega)
    | ⟨3, _⟩ => exact Fin.ext (show ((b.val * 8192 + s.val) * 512 + k.val) % 128 = k.val % 128 by omega)
  rw [val_main_v63_apply, val_main_v62_apply, e, ref_da A b s _ _ (fun g => hl g _)]
  rfl

theorem ref_gate (j : Fin 2048) : val_main_v66 (F := Ideal) A.gt (ix3 b s j) = (tok A b s).g j := by
  have hb := b.isLt
  have hs := s.isLt
  have hj := j.isLt
  have e : idx_main_v65 (ix3 b s j) = ix2 ⟨b.val * 8192 + s.val, by omega⟩ j := by
    funext a
    match a with
    | ⟨0, _⟩ => exact Fin.ext (show ((b.val * 8192 + s.val) * 2048 + j.val) / 2048 = b.val * 8192 + s.val by omega)
    | ⟨1, _⟩ => exact Fin.ext (show ((b.val * 8192 + s.val) * 2048 + j.val) % 2048 = j.val by omega)
  rw [val_main_v66_apply, val_main_v65_apply, Ideal.extf_def, e]
  rfl

theorem ref_x (j : Fin 1024) : val_main_v64 (F := Ideal) A.x (ix3 b s j) = (tok A b s).x j := by
  have hb := b.isLt
  have hs := s.isLt
  have hj := j.isLt
  have e : idx_main_v64 (ix3 b s j) = ix2 ⟨b.val * 8192 + s.val, by omega⟩ j := by
    funext a
    match a with
    | ⟨0, _⟩ => exact Fin.ext (show ((b.val * 8192 + s.val) * 1024 + j.val) / 1024 = b.val * 8192 + s.val by omega)
    | ⟨1, _⟩ => exact Fin.ext (show ((b.val * 8192 + s.val) * 1024 + j.val) % 1024 = j.val by omega)
  rw [val_main_v64_apply, e]
  rfl

section Rows
variable (hl : ∀ g h, ⊥ < (tok A b s).lg g h ∧ (tok A b s).lg g h < ⊤)
include hl

theorem ref_mix (j : Fin 1024) :
    val_main_v73 (F := Ideal) A.oF A.oB A.dn A.gt A.o0 A.l0 A.o1 A.l1 A.o2 A.l2 A.gain A.wdn A.wda (ix3 b s j)
      = mix (tok A b s) (wts A) (flat (dn (tok A b s) (wts A))) (flat (da (tok A b s))) j := by
  have e1 : val_main_v69 (F := Ideal) A.oF A.oB A.dn A.gain A.wdn (ix3 b s j)
      = ∑ k : Fin 512, val_main_v20 (F := Ideal) A.oF A.oB A.dn A.gain (ix3 b s k) * A.wdn (ix2 k j) := by
    pointwise [val_main_v69]
  have e2 : val_main_v71 (F := Ideal) A.o0 A.l0 A.o1 A.l1 A.o2 A.l2 A.wda (ix3 b s j)
      = ∑ k : Fin 512, val_main_v63 (F := Ideal) A.o0 A.l0 A.o1 A.l1 A.o2 A.l2 (ix3 b s k) * A.wda (ix2 k j) := by
    pointwise [val_main_v71]
  have g1 : val_main_v67 (F := Ideal) A.gt (ix3 b s j) = (tok A b s).g ⟨j.val, by omega⟩ := by
    rw [← ref_gate]
    pointwise [val_main_v67]
  have g2 : val_main_v68 (F := Ideal) A.gt (ix3 b s j) = (tok A b s).g ⟨1024 + j.val, by omega⟩ := by
    rw [← ref_gate]
    pointwise [val_main_v68]
  rw [val_main_v73_apply, val_main_v70_apply, val_main_v72_apply, e1, e2, g1, g2]
  refine congrArg₂ (· + ·) (congrArg _ (Finset.sum_congr rfl fun k _ => congrArg (· * _) ?_))
    (congrArg _ (Finset.sum_congr rfl fun k _ => congrArg (· * _) ?_))
  · exact ref_dnRow A b s k
  · exact ref_daRow A b s hl k

theorem ref_hid (j : Fin 1024) :
    val_main_v75 (F := Ideal) A.x A.oF A.oB A.dn A.gt A.o0 A.l0 A.o1 A.l1 A.o2 A.l2 A.gain A.wdn A.wda A.wo (ix3 b s j)
      = hidOf (tok A b s) (wts A) j := by
  have e : val_main_v74 (F := Ideal) A.oF A.oB A.dn A.gt A.o0 A.l0 A.o1 A.l1 A.o2 A.l2 A.gain A.wdn A.wda A.wo (ix3 b s j)
      = ∑ k : Fin 1024, val_main_v73 (F := Ideal) A.oF A.oB A.dn A.gt A.o0 A.l0 A.o1 A.l1 A.o2 A.l2 A.gain A.wdn A.wda (ix3 b s k) * A.wo (ix2 k j) := by
    pointwise [val_main_v74]
  rw [val_main_v75_apply, e, ref_x]
  simp only [ref_mix A b s hl]
  rfl

theorem ref_rms (j : Fin 1024) :
    val_main_v88 (F := Ideal) A.x A.oF A.oB A.dn A.gt A.o0 A.l0 A.o1 A.l1 A.o2 A.l2 A.gain A.wdn A.wda A.wo A.nffn (ix3 b s j)
      = rmsOf (tok A b s) (wts A) j := by
  have en : (wts A).nffn j = A.nffn (ix1 j) := rfl
  unfold rmsOf rms
  rw [en]
  simp only [← ref_hid A b s hl]
  pointwise [val_main_v88, val_main_v87, val_main_v86, val_main_v85, val_main_v84, val_main_v83, val_main_v82, val_main_v81,
    val_main_v80, val_main_v79, val_main_v78, val_main_v77, val_main_v76, val_main_cst_5, val_main_cst_6, val_main_cst_7]

end Rows

/-! ### The three results -/

section Results
variable (hf : ∀ b s g h, ⊥ < (tok A b s).lg g h ∧ (tok A b s).lg g h < ⊤)
include hf

theorem ref_rmsRow (n : Fin 65536) (j : Fin 1024) :
    val_main_v89 (F := Ideal) A.x A.oF A.oB A.dn A.gt A.o0 A.l0 A.o1 A.l1 A.o2 A.l2 A.gain A.wdn A.wda A.wo A.nffn (ix2 n j) = rmsOf (rowTok A n.val n.isLt) (wts A) j := by
  have hn := n.isLt
  have hj := j.isLt
  have e : idx_main_v89 (ix2 n j) = ix3 ⟨n.val / 8192, by omega⟩ ⟨n.val % 8192, by omega⟩ j := by
    funext a
    match a with
    | ⟨0, _⟩ => exact Fin.ext (show (n.val * 1024 + j.val) / 8388608 = n.val / 8192 by omega)
    | ⟨1, _⟩ => exact Fin.ext (show (n.val * 1024 + j.val) / 1024 % 8192 = n.val % 8192 by omega)
    | ⟨2, _⟩ => exact Fin.ext (show (n.val * 1024 + j.val) % 1024 = j.val by omega)
  rw [val_main_v89_apply, e]
  exact ref_rms A _ _ (hf _ _) j

theorem ref_hidArr (y : S65536x1024.Idx) : val_main_v93 (F := Ideal) A.x A.oF A.oB A.dn A.gt A.o0 A.l0 A.o1 A.l1 A.o2 A.l2 A.gain A.wdn A.wda A.wo y = hidArr A y := by
  have hn : (y 0).val < 65536 := (y 0).isLt
  have hj : (y 1).val < 1024 := (y 1).isLt
  have e : idx_main_v93 y = ix3 ⟨(y 0).val / 8192, by omega⟩ ⟨(y 0).val % 8192, by omega⟩ (y 1) := by
    funext a
    match a with
    | ⟨0, _⟩ => exact Fin.ext (show ((y 0).val * 1024 + (y 1).val) / 8388608 = (y 0).val / 8192 by omega)
    | ⟨1, _⟩ => exact Fin.ext (show ((y 0).val * 1024 + (y 1).val) / 1024 % 8192 = (y 0).val % 8192 by omega)
    | ⟨2, _⟩ => exact Fin.ext (show ((y 0).val * 1024 + (y 1).val) % 1024 = (y 1).val by omega)
  rw [val_main_v93_apply, e]
  exact ref_hid A _ _ (hf _ _) (y 1)

theorem ref_rmsArr (y : S128x1024x512.Idx) : (show EReal from val_main_v94 (F := Ideal) A.x A.oF A.oB A.dn A.gt A.o0 A.l0 A.o1 A.l1 A.o2 A.l2 A.gain A.wdn A.wda A.wo A.nffn y) = rmsArr A y := by
  have h0 : (y 0).val < 128 := (y 0).isLt
  have h1 : (y 1).val < 1024 := (y 1).isLt
  have h2 : (y 2).val < 512 := (y 2).isLt
  have e : idx_main_v91 (idx_main_v92 y) = ix2 ⟨(y 0).val * 512 + (y 2).val, by omega⟩ (y 1) := by
    funext a
    match a with
    | ⟨0, _⟩ => exact Fin.ext (show (((y 0).val * 512 + (y 2).val) * 1024 + (y 1).val) / 1024 = (y 0).val * 512 + (y 2).val by omega)
    | ⟨1, _⟩ => exact Fin.ext (show (((y 0).val * 512 + (y 2).val) * 1024 + (y 1).val) % 1024 = (y 1).val by omega)
  rw [val_main_v94_apply, val_main_v92_apply, val_main_v91_apply, e]
  exact ref_rmsRow A hf _ (y 1)

theorem ref_qryArr (y : S65536x2048.Idx) : (show EReal from val_main_v95 (F := Ideal) A.x A.oF A.oB A.dn A.gt A.o0 A.l0 A.o1 A.l1 A.o2 A.l2 A.gain A.wdn A.wda A.wo A.nffn A.wq y) = qryArr A y := by
  have e : val_main_v90 (F := Ideal) A.x A.oF A.oB A.dn A.gt A.o0 A.l0 A.o1 A.l1 A.o2 A.l2 A.gain A.wdn A.wda A.wo A.nffn A.wq (ix2 (y 0) (y 1))
      = ∑ k : Fin 1024, val_main_v89 (F := Ideal) A.x A.oF A.oB A.dn A.gt A.o0 A.l0 A.o1 A.l1 A.o2 A.l2 A.gain A.wdn A.wda A.wo A.nffn (ix2 (y 0) k) * A.wq (ix2 k (y 1)) := by
    generalize y 0 = n
    generalize y 1 = j
    pointwise [val_main_v90]
  have ey : y = ix2 (y 0) (y 1) := funext fun a => by
    match a with
    | ⟨0, _⟩ => rfl
    | ⟨1, _⟩ => rfl
  rw [val_main_v95_apply]
  refine (congrArg (val_main_v90 (F := Ideal) A.x A.oF A.oB A.dn A.gt A.o0 A.l0 A.o1 A.l1 A.o2 A.l2 A.gain A.wdn A.wda A.wo A.nffn A.wq) ey).trans (e.trans ?_)
  exact Finset.sum_congr rfl fun k _ => congrArg (· * A.wq (ix2 k (y 1))) (ref_rmsRow A hf (y 0) k)

end Results

end Cert.Merg

end
-- ==== Proof.MergePre.lean ====
module

public import proofs.«01_k».proof.Pre_lse_finite
public import proofs.«01_k».proof.Proof.MergeArr
public import Idealize.ShloMosaic.Lib.Pointwise
public import Idealize.ShloMosaic.Lib.KernelVsHost
public import Idealize.ShloMosaic.Lib.Pipeline.Value
public import Idealize.ShloMosaic.Lib.Affine
public import Idealize.ShloMosaic.Lib.Decide

/-! What the precondition says: every log-sum-exp that the merge reads is a real number. -/

@[expose] public section

set_option maxRecDepth 16384

noncomputable section

namespace Cert.Merg

open Idealize.ShloMosaic

instance preFacts : Cert.Pre_lse_finite.Facts where
  slices_S8x1x8192x128_S8x1x8192x4_0_0_0_0 := by decide
  bcast_S_S8x1x8192x4 := by decide
  slices_S8x4x2048x128_S8x4x2048x4_0_0_0_0 := by decide
  bcast_S_S8x4x2048x4 := by decide
  slices_S8x16x512x128_S8x16x512x4_0_0_0_0 := by decide
  bcast_S_S8x16x512x4 := by decide
  shapeCasts_S8x1x8192x4_S262144 := by decide
  shapeCasts_S8x4x2048x4_S262144 := by decide
  shapeCasts_S8x16x512x4_S262144 := by decide

theorem both {a b : BitVec 1} (h : IntOp.andi a b = 1#1) : a = 1#1 ∧ b = 1#1 := by
  revert a b
  decide

theorem finite_of {x : EReal} (h : IntOp.andi (Ideal.cmp .ogt x (Ideal.ofBits .f32 0xFF800000#32)) (Ideal.cmp .olt x (Ideal.ofBits .f32 0x7F800000#32)) = 1#1) :
    ⊥ < x ∧ x < ⊤ := by
  obtain ⟨h1, h2⟩ := both h
  have e1 : Ideal.ofBits .f32 0xFF800000#32 = ⊥ := by simp [Ideal.ofBits, Ideal.ieee]
  have e2 : Ideal.ofBits .f32 0x7F800000#32 = ⊤ := by simp [Ideal.ofBits, Ideal.ieee]
  rw [e1] at h1
  rw [e2] at h2
  simp only [Ideal.cmp] at h1 h2
  refine ⟨?_, ?_⟩
  · by_contra hn
    simp [hn] at h1
  · by_contra hn
    simp [hn] at h2

/-- One group's test at one entry. -/
theorem lse_entry {R L : ℕ} (l : FVec Ideal ⟨4, ![8, R, L, 128]⟩ .f32)
    (hs : Shape.Slices ⟨4, ![8, R, L, 128]⟩ ![0, 0, 0, 0] ⟨4, ![8, R, L, 4]⟩) (hb)
    (hc : Shape.ShapeCasts ⟨4, ![8, R, L, 4]⟩ ⟨1, ![262144]⟩) (b : Fin 8) (r : Fin R) (p : Fin L) (h : Fin 4) (k : Fin 262144)
    (hk : k.val = ((b.val * R + r.val) * L + p.val) * 4 + h.val)
    (H : shapeCast ⟨1, ![262144]⟩ (andi
        (cmpf .ogt (extractStridedSlice ⟨4, ![8, R, L, 4]⟩ ![0, 0, 0, 0] l hs) (broadcastInDim ⟨4, ![8, R, L, 4]⟩ ![] hb (constant ⟨0, ![]⟩ .f32 0xFF800000#32)))
        (cmpf .olt (extractStridedSlice ⟨4, ![8, R, L, 4]⟩ ![0, 0, 0, 0] l hs) (broadcastInDim ⟨4, ![8, R, L, 4]⟩ ![] hb (constant ⟨0, ![]⟩ .f32 0x7F800000#32))))
        hc (ix1 k) = 1#1) :
    ⊥ < l (ix4 b r p ⟨h.val, by omega⟩) ∧ l (ix4 b r p ⟨h.val, by omega⟩) < ⊤ := by
  rw [shapeCast_apply _ hc (ix1 k) (ix4 b r p h) (by rewrite [Shape.rowMajor_val_four, Shape.rowMajor_val_one]; exact hk.symm)] at H
  have e : extractStridedSlice ⟨4, ![8, R, L, 4]⟩ ![0, 0, 0, 0] l hs (ix4 b r p h) = l (ix4 b r p ⟨h.val, by omega⟩) :=
    congrArg l (funext fun a => Fin.ext (by
      match a with
      | ⟨0, _⟩ => show 0 + b.val = b.val; omega
      | ⟨1, _⟩ => show 0 + r.val = r.val; omega
      | ⟨2, _⟩ => show 0 + p.val = p.val; omega
      | ⟨3, _⟩ => show 0 + h.val = h.val; omega))
  rw [← e]
  exact finite_of H

/-- The precondition gives every token's log-sum-exps finite. -/
theorem lse_of_pre (A : Arrs) (hp : Cert.Pre_lse_finite.fn (F := Ideal) A.x A.oF A.oB A.dn A.gt A.o0 A.l0 A.o1 A.l1 A.o2 A.l2 A.gain A.wdn A.wda A.wo A.nffn A.wq = fun _ => 1#1)
    (b : Fin 8) (s : Fin 8192) (g : Fin 3) (h : Fin 4) : ⊥ < (tok A b s).lg g h ∧ (tok A b s).lg g h < ⊤ := by
  have all (k : Fin 262144) := congrFun hp (ix1 k)
  unfold Cert.Pre_lse_finite.fn Cert.Pre_lse_finite.fn_part1 at all
  match g with
  | ⟨0, _⟩ =>
    exact lse_entry A.l0 _ _ _ b 0 s h ⟨((b.val * 1 + 0) * 8192 + s.val) * 4 + h.val, by omega⟩ rfl (both (both (all _)).1).1
  | ⟨1, _⟩ =>
    exact lse_entry A.l1 _ _ _ b ⟨s.val % 4, by omega⟩ ⟨s.val / 4, by omega⟩ h
      ⟨((b.val * 4 + s.val % 4) * 2048 + s.val / 4) * 4 + h.val, by omega⟩ rfl (both (both (all _)).1).2
  | ⟨2, _⟩ =>
    exact lse_entry A.l2 _ _ _ b ⟨s.val % 16, by omega⟩ ⟨s.val / 16, by omega⟩ h
      ⟨((b.val * 16 + s.val % 16) * 512 + s.val / 16) * 4 + h.val, by omega⟩ rfl (both (all _)).2

end Cert.Merg

end
-- ==== Proof.lean ====
module

public import proofs.«01_k».proof.Defs
public import proofs.«01_k».proof.Proof.Gen.Att1
public import proofs.«01_k».proof.Proof.Gen.Att1.Skeleton
public import proofs.«01_k».proof.Proof.Gen.Att1.Launch
public import proofs.«01_k».proof.Proof.Gen.Att1.Points
public import proofs.«01_k».proof.Proof.Gen.Att1.Frame
public import proofs.«01_k».proof.Proof.Gen.Att1Ideal
public import proofs.«01_k».proof.Proof.Gen.Att1Ideal.Skeleton
public import proofs.«01_k».proof.Proof.Gen.Att1Ideal.Launch
public import proofs.«01_k».proof.Proof.Gen.Att1Ideal.Points
public import proofs.«01_k».proof.Proof.Gen.Att1Ideal.Frame
public import proofs.«01_k».proof.Proof.Gen.Att1RefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojIdeal.Value
public import proofs.«01_k».proof.Proof.Gen.InprojRefIdeal.Run
public import proofs.«01_k».proof.Proof.Gen.InprojRefIdeal.Read
public import proofs.«01_k».proof.Proof.Gen.Att1Ideal.Value
public import proofs.«01_k».proof.Proof.Gen.Att1RefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.MergeRefIdeal.Read
public import proofs.«01_k».proof.Proof.ProjRef
public import proofs.«01_k».proof.Proof.ProjArray
public import proofs.«01_k».proof.Proof.MergeArray
public import proofs.«01_k».proof.Proof.MergeRef
public import proofs.«01_k».proof.Proof.MergePre
public import Idealize.ShloMosaic.Adequacy
public import Idealize.ShloMosaic.Init

@[expose] public section

noncomputable section

namespace Cert.Proof

open Idealize.ShloMosaic Idealize.SL.Sem

/-- The attention's reference leaves its arguments; it declares no semaphore. -/
theorem att1_ref_frame : Cert.quiescent_Att1RefIdeal := fun m ρ _ =>
  (θ_run _ _ _).mono (fun r h => ⟨fun c => (h c).2.2, sem_eq_zero_of_no_sems (by decide) r.2⟩) (Cert.Att1RefIdeal.Value.run m ρ)

/-- The projections' reference leaves its arguments; it declares no semaphore. -/
theorem inproj_ref_frame : Cert.quiescent_InprojRefIdeal := fun m ρ _ =>
  (θ_run _ _ _).mono (fun r h => ⟨fun c => (h c).2.2.2.2.2.2, sem_eq_zero_of_no_sems (by decide) r.2⟩) (Cert.InprojRefIdeal.Value.run m ρ)

/-- The projections: both programs leave the specification's six arrays. -/
theorem inproj : Cert.algebraic_InprojIdeal_InprojRefIdeal := by
  intro m g m' g' _ hargs
  refine ⟨fun c => Cert.Proj.dnArr (m (c.tc.loc Cert.InprojIdeal.main_arg0)) (m (c.tc.loc Cert.InprojIdeal.main_arg1)) (m (c.tc.loc Cert.InprojIdeal.main_arg2)), fun c => Cert.Proj.abArr (m (c.tc.loc Cert.InprojIdeal.main_arg0)) (m (c.tc.loc Cert.InprojIdeal.main_arg1)) (m (c.tc.loc Cert.InprojIdeal.main_arg2)), fun c => Cert.Proj.g0Arr (m (c.tc.loc Cert.InprojIdeal.main_arg0)) (m (c.tc.loc Cert.InprojIdeal.main_arg1)) (m (c.tc.loc Cert.InprojIdeal.main_arg2)), fun c => Cert.Proj.g1Arr (m (c.tc.loc Cert.InprojIdeal.main_arg0)) (m (c.tc.loc Cert.InprojIdeal.main_arg1)) (m (c.tc.loc Cert.InprojIdeal.main_arg2)), fun c => Cert.Proj.g2Arr (m (c.tc.loc Cert.InprojIdeal.main_arg0)) (m (c.tc.loc Cert.InprojIdeal.main_arg1)) (m (c.tc.loc Cert.InprojIdeal.main_arg2)), fun c => Cert.Proj.gateArr (m (c.tc.loc Cert.InprojIdeal.main_arg0)) (m (c.tc.loc Cert.InprojIdeal.main_arg1)) (m (c.tc.loc Cert.InprojIdeal.main_arg2)), ?_, ?_⟩
  · refine (θ_run _ _ _).mono (fun r h c => ?_) (Cert.InprojIdeal.Value.run_blocks m g)
    obtain ⟨h3, h4, h5, h6, h7, h8, ha⟩ := h c
    exact ⟨h3.trans (Cert.Proj.final3 m c), h4.trans (Cert.Proj.final4 m c), h5.trans (Cert.Proj.final5 m c),
      h6.trans (Cert.Proj.final6 m c), h7.trans (Cert.Proj.final7 m c), h8.trans (Cert.Proj.final8 m c), ha⟩
  · refine (θ_run _ _ _).mono (fun r h c => ?_) (Cert.InprojRefIdeal.Value.run m' g')
    obtain ⟨a0, a1, a2⟩ := hargs c
    obtain ⟨h0, h1, h2, h3, h4, h5, ha⟩ := h c
    have e0 : Cert.InprojRefIdeal.Read.val_main_v29 (F := Ideal) (m' (c.tc.loc Cert.InprojRefIdeal.main_arg0)) (m' (c.tc.loc Cert.InprojRefIdeal.main_arg1)) (m' (c.tc.loc Cert.InprojRefIdeal.main_arg2)) = Cert.Proj.dnArr (m (c.tc.loc Cert.InprojIdeal.main_arg0)) (m (c.tc.loc Cert.InprojIdeal.main_arg1)) (m (c.tc.loc Cert.InprojIdeal.main_arg2)) := by
      rw [a0, a1, a2]; exact funext fun y => Cert.Proj.ref_dn _ _ _ y
    have e1 : Cert.InprojRefIdeal.Read.val_main_v32 (F := Ideal) (m' (c.tc.loc Cert.InprojRefIdeal.main_arg0)) (m' (c.tc.loc Cert.InprojRefIdeal.main_arg1)) (m' (c.tc.loc Cert.InprojRefIdeal.main_arg2)) = Cert.Proj.abArr (m (c.tc.loc Cert.InprojIdeal.main_arg0)) (m (c.tc.loc Cert.InprojIdeal.main_arg1)) (m (c.tc.loc Cert.InprojIdeal.main_arg2)) := by
      rw [a0, a1, a2]; exact funext fun y => Cert.Proj.ref_ab _ _ _ y
    have e2 : Cert.InprojRefIdeal.Read.val_main_v39 (F := Ideal) (m' (c.tc.loc Cert.InprojRefIdeal.main_arg0)) (m' (c.tc.loc Cert.InprojRefIdeal.main_arg1)) (m' (c.tc.loc Cert.InprojRefIdeal.main_arg2)) = Cert.Proj.g0Arr (m (c.tc.loc Cert.InprojIdeal.main_arg0)) (m (c.tc.loc Cert.InprojIdeal.main_arg1)) (m (c.tc.loc Cert.InprojIdeal.main_arg2)) := by
      rw [a0, a1, a2]; exact funext fun y => Cert.Proj.ref_g0 _ _ _ y
    have e3 : Cert.InprojRefIdeal.Read.val_main_v46 (F := Ideal) (m' (c.tc.loc Cert.InprojRefIdeal.main_arg0)) (m' (c.tc.loc Cert.InprojRefIdeal.main_arg1)) (m' (c.tc.loc Cert.InprojRefIdeal.main_arg2)) = Cert.Proj.g1Arr (m (c.tc.loc Cert.InprojIdeal.main_arg0)) (m (c.tc.loc Cert.InprojIdeal.main_arg1)) (m (c.tc.loc Cert.InprojIdeal.main_arg2)) := by
      rw [a0, a1, a2]; exact funext fun y => Cert.Proj.ref_g1 _ _ _ y
    have e4 : Cert.InprojRefIdeal.Read.val_main_v53 (F := Ideal) (m' (c.tc.loc Cert.InprojRefIdeal.main_arg0)) (m' (c.tc.loc Cert.InprojRefIdeal.main_arg1)) (m' (c.tc.loc Cert.InprojRefIdeal.main_arg2)) = Cert.Proj.g2Arr (m (c.tc.loc Cert.InprojIdeal.main_arg0)) (m (c.tc.loc Cert.InprojIdeal.main_arg1)) (m (c.tc.loc Cert.InprojIdeal.main_arg2)) := by
      rw [a0, a1, a2]; exact funext fun y => Cert.Proj.ref_g2 _ _ _ y
    have e5 : Cert.InprojRefIdeal.Read.val_main_v62 (F := Ideal) (m' (c.tc.loc Cert.InprojRefIdeal.main_arg0)) (m' (c.tc.loc Cert.InprojRefIdeal.main_arg1)) (m' (c.tc.loc Cert.InprojRefIdeal.main_arg2)) = Cert.Proj.gateArr (m (c.tc.loc Cert.InprojIdeal.main_arg0)) (m (c.tc.loc Cert.InprojIdeal.main_arg1)) (m (c.tc.loc Cert.InprojIdeal.main_arg2)) := by
      rw [a0, a1, a2]; exact funext fun y => Cert.Proj.ref_gate _ _ _ y
    exact ⟨h0.trans ((Cert.InprojRefIdeal.Read.val_main_v29_eq m' c).trans e0), h1.trans ((Cert.InprojRefIdeal.Read.val_main_v32_eq _ _ _).trans e1),
      h2.trans ((Cert.InprojRefIdeal.Read.val_main_v39_eq _ _ _).trans e2), h3.trans ((Cert.InprojRefIdeal.Read.val_main_v46_eq _ _ _).trans e3),
      h4.trans ((Cert.InprojRefIdeal.Read.val_main_v53_eq _ _ _).trans e4), h5.trans ((Cert.InprojRefIdeal.Read.val_main_v62_eq _ _ _).trans e5), ha⟩

/-- The merge's reference leaves its arguments; it declares no semaphore. -/
theorem merge_ref_frame : Cert.quiescent_MergeRefIdeal := fun m ρ _ =>
  (θ_run _ _ _).mono (fun r h => ⟨fun c => (h c).2.2.2, sem_eq_zero_of_no_sems (by decide) r.2⟩) (Cert.MergeRefIdeal.Value.run m ρ)

theorem merge_ref_frame_pre : Cert.quiescent_MergeRefIdeal_pre_lse_finite := fun m ρ _ =>
  (θ_run _ _ _).mono (fun r h => ⟨fun c => (h c).2.2.2, sem_eq_zero_of_no_sems (by decide) r.2⟩) (Cert.MergeRefIdeal.Value.run m ρ)

/-- The merge: both programs leave the specification's three arrays. -/
theorem merge : Cert.algebraic_MergeIdeal_MergeRefIdeal_pre_lse_finite := by
  intro m g m' g' hp hargs
  refine ⟨fun c => Cert.Merg.hidArr (Cert.Merg.arrs m c), fun c => Cert.Merg.rmsArr (Cert.Merg.arrs m c), fun c => Cert.Merg.qryArr (Cert.Merg.arrs m c), ?_, ?_⟩
  · refine (θ_run _ _ _).mono (fun r h c => ?_) (Cert.MergeIdeal.Value.run_blocks m g)
    obtain ⟨h17, h18, h19, ha⟩ := h c
    exact ⟨h17.trans (Cert.Merg.final17 m c), h18.trans (Cert.Merg.final18 m c), h19.trans (Cert.Merg.final19 m c), ha⟩
  · refine (θ_run _ _ _).mono (fun r h c => ?_) (Cert.MergeRefIdeal.Value.run m' g')
    obtain ⟨a0, a1, a2, a3, a4, a5, a6, a7, a8, a9, a10, a11, a12, a13, a14, a15, a16⟩ := hargs c
    obtain ⟨h0, h1, h2, ha⟩ := h c
    have hf := Cert.Merg.lse_of_pre (Cert.Merg.arrs m c) (hp c)
    have e0 : Cert.MergeRefIdeal.Read.val_main_v93 (F := Ideal) (m' (c.tc.loc Cert.MergeRefIdeal.main_arg0)) (m' (c.tc.loc Cert.MergeRefIdeal.main_arg1)) (m' (c.tc.loc Cert.MergeRefIdeal.main_arg2)) (m' (c.tc.loc Cert.MergeRefIdeal.main_arg3)) (m' (c.tc.loc Cert.MergeRefIdeal.main_arg4)) (m' (c.tc.loc Cert.MergeRefIdeal.main_arg5)) (m' (c.tc.loc Cert.MergeRefIdeal.main_arg6)) (m' (c.tc.loc Cert.MergeRefIdeal.main_arg7)) (m' (c.tc.loc Cert.MergeRefIdeal.main_arg8)) (m' (c.tc.loc Cert.MergeRefIdeal.main_arg9)) (m' (c.tc.loc Cert.MergeRefIdeal.main_arg10)) (m' (c.tc.loc Cert.MergeRefIdeal.main_arg11)) (m' (c.tc.loc Cert.MergeRefIdeal.main_arg12)) (m' (c.tc.loc Cert.MergeRefIdeal.main_arg13)) (m' (c.tc.loc Cert.MergeRefIdeal.main_arg14)) = Cert.Merg.hidArr (Cert.Merg.arrs m c) := by
      rw [a0, a1, a2, a3, a4, a5, a6, a7, a8, a9, a10, a11, a12, a13, a14]; exact funext fun y => Cert.Merg.ref_hidArr (Cert.Merg.arrs m c) hf y
    have e1 : Cert.MergeRefIdeal.Read.val_main_v94 (F := Ideal) (m' (c.tc.loc Cert.MergeRefIdeal.main_arg0)) (m' (c.tc.loc Cert.MergeRefIdeal.main_arg1)) (m' (c.tc.loc Cert.MergeRefIdeal.main_arg2)) (m' (c.tc.loc Cert.MergeRefIdeal.main_arg3)) (m' (c.tc.loc Cert.MergeRefIdeal.main_arg4)) (m' (c.tc.loc Cert.MergeRefIdeal.main_arg5)) (m' (c.tc.loc Cert.MergeRefIdeal.main_arg6)) (m' (c.tc.loc Cert.MergeRefIdeal.main_arg7)) (m' (c.tc.loc Cert.MergeRefIdeal.main_arg8)) (m' (c.tc.loc Cert.MergeRefIdeal.main_arg9)) (m' (c.tc.loc Cert.MergeRefIdeal.main_arg10)) (m' (c.tc.loc Cert.MergeRefIdeal.main_arg11)) (m' (c.tc.loc Cert.MergeRefIdeal.main_arg12)) (m' (c.tc.loc Cert.MergeRefIdeal.main_arg13)) (m' (c.tc.loc Cert.MergeRefIdeal.main_arg14)) (m' (c.tc.loc Cert.MergeRefIdeal.main_arg15)) = Cert.Merg.rmsArr (Cert.Merg.arrs m c) := by
      rw [a0, a1, a2, a3, a4, a5, a6, a7, a8, a9, a10, a11, a12, a13, a14, a15]; exact funext fun y => Cert.Merg.ref_rmsArr (Cert.Merg.arrs m c) hf y
    have e2 : Cert.MergeRefIdeal.Read.val_main_v95 (F := Ideal) (m' (c.tc.loc Cert.MergeRefIdeal.main_arg0)) (m' (c.tc.loc Cert.MergeRefIdeal.main_arg1)) (m' (c.tc.loc Cert.MergeRefIdeal.main_arg2)) (m' (c.tc.loc Cert.MergeRefIdeal.main_arg3)) (m' (c.tc.loc Cert.MergeRefIdeal.main_arg4)) (m' (c.tc.loc Cert.MergeRefIdeal.main_arg5)) (m' (c.tc.loc Cert.MergeRefIdeal.main_arg6)) (m' (c.tc.loc Cert.MergeRefIdeal.main_arg7)) (m' (c.tc.loc Cert.MergeRefIdeal.main_arg8)) (m' (c.tc.loc Cert.MergeRefIdeal.main_arg9)) (m' (c.tc.loc Cert.MergeRefIdeal.main_arg10)) (m' (c.tc.loc Cert.MergeRefIdeal.main_arg11)) (m' (c.tc.loc Cert.MergeRefIdeal.main_arg12)) (m' (c.tc.loc Cert.MergeRefIdeal.main_arg13)) (m' (c.tc.loc Cert.MergeRefIdeal.main_arg14)) (m' (c.tc.loc Cert.MergeRefIdeal.main_arg15)) (m' (c.tc.loc Cert.MergeRefIdeal.main_arg16)) = Cert.Merg.qryArr (Cert.Merg.arrs m c) := by
      rw [a0, a1, a2, a3, a4, a5, a6, a7, a8, a9, a10, a11, a12, a13, a14, a15, a16]; exact funext fun y => Cert.Merg.ref_qryArr (Cert.Merg.arrs m c) hf y
    exact ⟨h0.trans ((Cert.MergeRefIdeal.Read.val_main_v93_eq m' c).trans e0), h1.trans ((Cert.MergeRefIdeal.Read.val_main_v94_eq m' c).trans e1),
      h2.trans ((Cert.MergeRefIdeal.Read.val_main_v95_eq m' c).trans e2), ha⟩

theorem claim : Cert.Claim :=
  ⟨Cert.Att1.Gen.facts, Cert.Att1Ideal.Gen.facts, Cert.Att1RefIdeal.Gen.facts, Cert.Inproj.Gen.facts, Cert.InprojIdeal.Gen.facts,
    Cert.InprojRefIdeal.Gen.facts, Cert.Merge.Gen.facts, Cert.MergeIdeal.Gen.facts, Cert.MergeRefIdeal.Gen.facts, Cert.Merg.preFacts,
    fun m ρ _ => Cert.Att1.Gen.frame m ρ, fun m ρ _ => Cert.Att1Ideal.Gen.frame m ρ, att1_ref_frame,
    fun m ρ _ => Cert.Inproj.Gen.frame m ρ, fun m ρ _ => Cert.InprojIdeal.Gen.frame m ρ, inproj_ref_frame,
    fun m ρ _ => Cert.Merge.Gen.frame m ρ, fun m ρ _ => Cert.MergeIdeal.Gen.frame m ρ, fun m ρ _ => Cert.MergeIdeal.Gen.frame m ρ,
    merge_ref_frame, merge_ref_frame_pre,
    IdealRules.named_const.statement Cert.Att1Ideal.κ "mask" .f32 0xF149F2CA#32 ⊥ rfl, trivial, inproj, trivial, merge⟩

end Cert.Proof

end
